-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInRefIdeal (m : (ℓ : Loc Cert.HgrnInRefIdeal.nD Cert.HgrnInRefIdeal.τ Cert.HgrnInRefIdeal.sig) → Buf (Elt Ideal) ℓ) : Prop :=
  True

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_HgrnOutRefIdeal (m : (ℓ : Loc Cert.HgrnOutRefIdeal.nD Cert.HgrnOutRefIdeal.τ Cert.HgrnOutRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_GdnZ (m : (ℓ : Loc Cert.GdnZ.nD Cert.GdnZ.τ Cert.GdnZ.sig) → Buf (Elt Bits) ℓ) : Prop :=
  True

def Pre_GdnZIdeal (m : (ℓ : Loc Cert.GdnZIdeal.nD Cert.GdnZIdeal.τ Cert.GdnZIdeal.sig) → Buf (Elt Ideal) ℓ) : Prop :=
  True

def Pre_GdnZRefIdeal (m : (ℓ : Loc Cert.GdnZRefIdeal.nD Cert.GdnZRefIdeal.τ Cert.GdnZRefIdeal.sig) → Buf (Elt Ideal) ℓ) : Prop :=
  True

def Pre_GdnV (m : (ℓ : Loc Cert.GdnV.nD Cert.GdnV.τ Cert.GdnV.sig) → Buf (Elt Bits) ℓ) : Prop :=
  True

def Pre_GdnVIdeal (m : (ℓ : Loc Cert.GdnVIdeal.nD Cert.GdnVIdeal.τ Cert.GdnVIdeal.sig) → Buf (Elt Ideal) ℓ) : Prop :=
  True

def Pre_GdnVRefIdeal (m : (ℓ : Loc Cert.GdnVRefIdeal.nD Cert.GdnVRefIdeal.τ Cert.GdnVRefIdeal.sig) → Buf (Elt Ideal) ℓ) : Prop :=
  True

def Pre_GdnQk (m : (ℓ : Loc Cert.GdnQk.nD Cert.GdnQk.τ Cert.GdnQk.sig) → Buf (Elt Bits) ℓ) : Prop :=
  True

def Pre_GdnQkIdeal (m : (ℓ : Loc Cert.GdnQkIdeal.nD Cert.GdnQkIdeal.τ Cert.GdnQkIdeal.sig) → Buf (Elt Ideal) ℓ) : Prop :=
  True

def Pre_GdnQkRefIdeal (m : (ℓ : Loc Cert.GdnQkRefIdeal.nD Cert.GdnQkRefIdeal.τ Cert.GdnQkRefIdeal.sig) → Buf (Elt Ideal) ℓ) : Prop :=
  True

def Pre_GdnGate (m : (ℓ : Loc Cert.GdnGate.nD Cert.GdnGate.τ Cert.GdnGate.sig) → Buf (Elt Bits) ℓ) : Prop :=
  True

def Pre_GdnGateIdeal (m : (ℓ : Loc Cert.GdnGateIdeal.nD Cert.GdnGateIdeal.τ Cert.GdnGateIdeal.sig) → Buf (Elt Ideal) ℓ) : Prop :=
  True

def Pre_GdnGateRefIdeal (m : (ℓ : Loc Cert.GdnGateRefIdeal.nD Cert.GdnGateRefIdeal.τ Cert.GdnGateRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_hgrn_finite [hPre_hgrn_finite : Cert.Pre_hgrn_finite.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_hgrn_finite.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))).1 = (fun _ => 1#1)
    ∧ (Cert.Pre_hgrn_finite.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))).2.1 = (fun _ => 1#1)
    ∧ (Cert.Pre_hgrn_finite.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))).2.2 = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_hgrn_finite [hPre_hgrn_finite : Cert.Pre_hgrn_finite.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_hgrn_finite.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))).1 = (fun _ => 1#1)
    ∧ (Cert.Pre_hgrn_finite.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))).2.1 = (fun _ => 1#1)
    ∧ (Cert.Pre_hgrn_finite.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ r.2.sem = fun _ => 0)

def quiescent_HgrnInRefIdeal [hHgrnInRefIdeal : Cert.HgrnInRefIdeal.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1))
      ∧ r.2.sem = fun _ => 0)

def quiescent_HgrnOutRefIdeal [hHgrnOutRefIdeal : Cert.HgrnOutRefIdeal.Facts] : Prop :=
  ∀ (m : (ℓ : Loc Cert.HgrnOutRefIdeal.nD Cert.HgrnOutRefIdeal.τ Cert.HgrnOutRefIdeal.sig) → Buf (Elt Ideal) ℓ) (g : Dev Cert.HgrnOutRefIdeal.nD → PrngReg), Pre_HgrnOutRefIdeal m →
    θ_run (Cert.HgrnOutRefIdeal.defs (F := Ideal)) (onTc (τ := Cert.HgrnOutRefIdeal.τ) (Cert.HgrnOutRefIdeal.main (F := Ideal))) ⟨m, fun _ => 0, g⟩ (fun r => (∀ c : Dev Cert.HgrnOutRefIdeal.nD,
      r.2.mem ((c.tc : Thread Cert.HgrnOutRefIdeal.nD Cert.HgrnOutRefIdeal.τ).loc Cert.HgrnOutRefIdeal.main_arg0) = m ((c.tc : Thread Cert.HgrnOutRefIdeal.nD Cert.HgrnOutRefIdeal.τ).loc Cert.HgrnOutRefIdeal.main_arg0)
      ∧ r.2.mem ((c.tc : Thread Cert.HgrnOutRefIdeal.nD Cert.HgrnOutRefIdeal.τ).loc Cert.HgrnOutRefIdeal.main_arg1) = m ((c.tc : Thread Cert.HgrnOutRefIdeal.nD Cert.HgrnOutRefIdeal.τ).loc Cert.HgrnOutRefIdeal.main_arg1))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1))
      ∧ r.2.sem = fun _ => 0)

def quiescent_GdnZ [hGdnZ : Cert.GdnZ.Facts] : Prop :=
  ∀ (m : (ℓ : Loc Cert.GdnZ.nD Cert.GdnZ.τ Cert.GdnZ.sig) → Buf (Elt Bits) ℓ) (g : Dev Cert.GdnZ.nD → PrngReg), Pre_GdnZ m →
    θ_run (Cert.GdnZ.defs (F := Bits)) (onTc (τ := Cert.GdnZ.τ) (Cert.GdnZ.main (F := Bits))) ⟨m, fun _ => 0, g⟩ (fun r => (∀ c : Dev Cert.GdnZ.nD,
      r.2.mem ((c.tc : Thread Cert.GdnZ.nD Cert.GdnZ.τ).loc Cert.GdnZ.main_arg0) = m ((c.tc : Thread Cert.GdnZ.nD Cert.GdnZ.τ).loc Cert.GdnZ.main_arg0)
      ∧ r.2.mem ((c.tc : Thread Cert.GdnZ.nD Cert.GdnZ.τ).loc Cert.GdnZ.main_arg1) = m ((c.tc : Thread Cert.GdnZ.nD Cert.GdnZ.τ).loc Cert.GdnZ.main_arg1))
      ∧ r.2.sem = fun _ => 0)

def quiescent_GdnZIdeal [hGdnZIdeal : Cert.GdnZIdeal.Facts] : Prop :=
  ∀ (m : (ℓ : Loc Cert.GdnZIdeal.nD Cert.GdnZIdeal.τ Cert.GdnZIdeal.sig) → Buf (Elt Ideal) ℓ) (g : Dev Cert.GdnZIdeal.nD → PrngReg), Pre_GdnZIdeal m →
    θ_run (Cert.GdnZIdeal.defs (F := Ideal)) (onTc (τ := Cert.GdnZIdeal.τ) (Cert.GdnZIdeal.main (F := Ideal))) ⟨m, fun _ => 0, g⟩ (fun r => (∀ c : Dev Cert.GdnZIdeal.nD,
      r.2.mem ((c.tc : Thread Cert.GdnZIdeal.nD Cert.GdnZIdeal.τ).loc Cert.GdnZIdeal.main_arg0) = m ((c.tc : Thread Cert.GdnZIdeal.nD Cert.GdnZIdeal.τ).loc Cert.GdnZIdeal.main_arg0)
      ∧ r.2.mem ((c.tc : Thread Cert.GdnZIdeal.nD Cert.GdnZIdeal.τ).loc Cert.GdnZIdeal.main_arg1) = m ((c.tc : Thread Cert.GdnZIdeal.nD Cert.GdnZIdeal.τ).loc Cert.GdnZIdeal.main_arg1))
      ∧ r.2.sem = fun _ => 0)

def quiescent_GdnZRefIdeal [hGdnZRefIdeal : Cert.GdnZRefIdeal.Facts] : Prop :=
  ∀ (m : (ℓ : Loc Cert.GdnZRefIdeal.nD Cert.GdnZRefIdeal.τ Cert.GdnZRefIdeal.sig) → Buf (Elt Ideal) ℓ) (g : Dev Cert.GdnZRefIdeal.nD → PrngReg), Pre_GdnZRefIdeal m →
    θ_run (Cert.GdnZRefIdeal.defs (F := Ideal)) (onTc (τ := Cert.GdnZRefIdeal.τ) (Cert.GdnZRefIdeal.main (F := Ideal))) ⟨m, fun _ => 0, g⟩ (fun r => (∀ c : Dev Cert.GdnZRefIdeal.nD,
      r.2.mem ((c.tc : Thread Cert.GdnZRefIdeal.nD Cert.GdnZRefIdeal.τ).loc Cert.GdnZRefIdeal.main_arg0) = m ((c.tc : Thread Cert.GdnZRefIdeal.nD Cert.GdnZRefIdeal.τ).loc Cert.GdnZRefIdeal.main_arg0)
      ∧ r.2.mem ((c.tc : Thread Cert.GdnZRefIdeal.nD Cert.GdnZRefIdeal.τ).loc Cert.GdnZRefIdeal.main_arg1) = m ((c.tc : Thread Cert.GdnZRefIdeal.nD Cert.GdnZRefIdeal.τ).loc Cert.GdnZRefIdeal.main_arg1))
      ∧ r.2.sem = fun _ => 0)

def quiescent_GdnV [hGdnV : Cert.GdnV.Facts] : Prop :=
  ∀ (m : (ℓ : Loc Cert.GdnV.nD Cert.GdnV.τ Cert.GdnV.sig) → Buf (Elt Bits) ℓ) (g : Dev Cert.GdnV.nD → PrngReg), Pre_GdnV m →
    θ_run (Cert.GdnV.defs (F := Bits)) (onTc (τ := Cert.GdnV.τ) (Cert.GdnV.main (F := Bits))) ⟨m, fun _ => 0, g⟩ (fun r => (∀ c : Dev Cert.GdnV.nD,
      r.2.mem ((c.tc : Thread Cert.GdnV.nD Cert.GdnV.τ).loc Cert.GdnV.main_arg0) = m ((c.tc : Thread Cert.GdnV.nD Cert.GdnV.τ).loc Cert.GdnV.main_arg0)
      ∧ r.2.mem ((c.tc : Thread Cert.GdnV.nD Cert.GdnV.τ).loc Cert.GdnV.main_arg1) = m ((c.tc : Thread Cert.GdnV.nD Cert.GdnV.τ).loc Cert.GdnV.main_arg1)
      ∧ r.2.mem ((c.tc : Thread Cert.GdnV.nD Cert.GdnV.τ).loc Cert.GdnV.main_arg2) = m ((c.tc : Thread Cert.GdnV.nD Cert.GdnV.τ).loc Cert.GdnV.main_arg2))
      ∧ r.2.sem = fun _ => 0)

def quiescent_GdnVIdeal [hGdnVIdeal : Cert.GdnVIdeal.Facts] : Prop :=
  ∀ (m : (ℓ : Loc Cert.GdnVIdeal.nD Cert.GdnVIdeal.τ Cert.GdnVIdeal.sig) → Buf (Elt Ideal) ℓ) (g : Dev Cert.GdnVIdeal.nD → PrngReg), Pre_GdnVIdeal m →
    θ_run (Cert.GdnVIdeal.defs (F := Ideal)) (onTc (τ := Cert.GdnVIdeal.τ) (Cert.GdnVIdeal.main (F := Ideal))) ⟨m, fun _ => 0, g⟩ (fun r => (∀ c : Dev Cert.GdnVIdeal.nD,
      r.2.mem ((c.tc : Thread Cert.GdnVIdeal.nD Cert.GdnVIdeal.τ).loc Cert.GdnVIdeal.main_arg0) = m ((c.tc : Thread Cert.GdnVIdeal.nD Cert.GdnVIdeal.τ).loc Cert.GdnVIdeal.main_arg0)
      ∧ r.2.mem ((c.tc : Thread Cert.GdnVIdeal.nD Cert.GdnVIdeal.τ).loc Cert.GdnVIdeal.main_arg1) = m ((c.tc : Thread Cert.GdnVIdeal.nD Cert.GdnVIdeal.τ).loc Cert.GdnVIdeal.main_arg1)
      ∧ r.2.mem ((c.tc : Thread Cert.GdnVIdeal.nD Cert.GdnVIdeal.τ).loc Cert.GdnVIdeal.main_arg2) = m ((c.tc : Thread Cert.GdnVIdeal.nD Cert.GdnVIdeal.τ).loc Cert.GdnVIdeal.main_arg2))
      ∧ r.2.sem = fun _ => 0)

def quiescent_GdnVRefIdeal [hGdnVRefIdeal : Cert.GdnVRefIdeal.Facts] : Prop :=
  ∀ (m : (ℓ : Loc Cert.GdnVRefIdeal.nD Cert.GdnVRefIdeal.τ Cert.GdnVRefIdeal.sig) → Buf (Elt Ideal) ℓ) (g : Dev Cert.GdnVRefIdeal.nD → PrngReg), Pre_GdnVRefIdeal m →
    θ_run (Cert.GdnVRefIdeal.defs (F := Ideal)) (onTc (τ := Cert.GdnVRefIdeal.τ) (Cert.GdnVRefIdeal.main (F := Ideal))) ⟨m, fun _ => 0, g⟩ (fun r => (∀ c : Dev Cert.GdnVRefIdeal.nD,
      r.2.mem ((c.tc : Thread Cert.GdnVRefIdeal.nD Cert.GdnVRefIdeal.τ).loc Cert.GdnVRefIdeal.main_arg0) = m ((c.tc : Thread Cert.GdnVRefIdeal.nD Cert.GdnVRefIdeal.τ).loc Cert.GdnVRefIdeal.main_arg0)
      ∧ r.2.mem ((c.tc : Thread Cert.GdnVRefIdeal.nD Cert.GdnVRefIdeal.τ).loc Cert.GdnVRefIdeal.main_arg1) = m ((c.tc : Thread Cert.GdnVRefIdeal.nD Cert.GdnVRefIdeal.τ).loc Cert.GdnVRefIdeal.main_arg1)
      ∧ r.2.mem ((c.tc : Thread Cert.GdnVRefIdeal.nD Cert.GdnVRefIdeal.τ).loc Cert.GdnVRefIdeal.main_arg2) = m ((c.tc : Thread Cert.GdnVRefIdeal.nD Cert.GdnVRefIdeal.τ).loc Cert.GdnVRefIdeal.main_arg2))
      ∧ r.2.sem = fun _ => 0)

def quiescent_GdnQk [hGdnQk : Cert.GdnQk.Facts] : Prop :=
  ∀ (m : (ℓ : Loc Cert.GdnQk.nD Cert.GdnQk.τ Cert.GdnQk.sig) → Buf (Elt Bits) ℓ) (g : Dev Cert.GdnQk.nD → PrngReg), Pre_GdnQk m →
    θ_run (Cert.GdnQk.defs (F := Bits)) (onTc (τ := Cert.GdnQk.τ) (Cert.GdnQk.main (F := Bits))) ⟨m, fun _ => 0, g⟩ (fun r => (∀ c : Dev Cert.GdnQk.nD,
      r.2.mem ((c.tc : Thread Cert.GdnQk.nD Cert.GdnQk.τ).loc Cert.GdnQk.main_arg0) = m ((c.tc : Thread Cert.GdnQk.nD Cert.GdnQk.τ).loc Cert.GdnQk.main_arg0)
      ∧ r.2.mem ((c.tc : Thread Cert.GdnQk.nD Cert.GdnQk.τ).loc Cert.GdnQk.main_arg1) = m ((c.tc : Thread Cert.GdnQk.nD Cert.GdnQk.τ).loc Cert.GdnQk.main_arg1)
      ∧ r.2.mem ((c.tc : Thread Cert.GdnQk.nD Cert.GdnQk.τ).loc Cert.GdnQk.main_arg2) = m ((c.tc : Thread Cert.GdnQk.nD Cert.GdnQk.τ).loc Cert.GdnQk.main_arg2))
      ∧ r.2.sem = fun _ => 0)

def quiescent_GdnQkIdeal [hGdnQkIdeal : Cert.GdnQkIdeal.Facts] : Prop :=
  ∀ (m : (ℓ : Loc Cert.GdnQkIdeal.nD Cert.GdnQkIdeal.τ Cert.GdnQkIdeal.sig) → Buf (Elt Ideal) ℓ) (g : Dev Cert.GdnQkIdeal.nD → PrngReg), Pre_GdnQkIdeal m →
    θ_run (Cert.GdnQkIdeal.defs (F := Ideal)) (onTc (τ := Cert.GdnQkIdeal.τ) (Cert.GdnQkIdeal.main (F := Ideal))) ⟨m, fun _ => 0, g⟩ (fun r => (∀ c : Dev Cert.GdnQkIdeal.nD,
      r.2.mem ((c.tc : Thread Cert.GdnQkIdeal.nD Cert.GdnQkIdeal.τ).loc Cert.GdnQkIdeal.main_arg0) = m ((c.tc : Thread Cert.GdnQkIdeal.nD Cert.GdnQkIdeal.τ).loc Cert.GdnQkIdeal.main_arg0)
      ∧ r.2.mem ((c.tc : Thread Cert.GdnQkIdeal.nD Cert.GdnQkIdeal.τ).loc Cert.GdnQkIdeal.main_arg1) = m ((c.tc : Thread Cert.GdnQkIdeal.nD Cert.GdnQkIdeal.τ).loc Cert.GdnQkIdeal.main_arg1)
      ∧ r.2.mem ((c.tc : Thread Cert.GdnQkIdeal.nD Cert.GdnQkIdeal.τ).loc Cert.GdnQkIdeal.main_arg2) = m ((c.tc : Thread Cert.GdnQkIdeal.nD Cert.GdnQkIdeal.τ).loc Cert.GdnQkIdeal.main_arg2))
      ∧ r.2.sem = fun _ => 0)

def quiescent_GdnQkRefIdeal [hGdnQkRefIdeal : Cert.GdnQkRefIdeal.Facts] : Prop :=
  ∀ (m : (ℓ : Loc Cert.GdnQkRefIdeal.nD Cert.GdnQkRefIdeal.τ Cert.GdnQkRefIdeal.sig) → Buf (Elt Ideal) ℓ) (g : Dev Cert.GdnQkRefIdeal.nD → PrngReg), Pre_GdnQkRefIdeal m →
    θ_run (Cert.GdnQkRefIdeal.defs (F := Ideal)) (onTc (τ := Cert.GdnQkRefIdeal.τ) (Cert.GdnQkRefIdeal.main (F := Ideal))) ⟨m, fun _ => 0, g⟩ (fun r => (∀ c : Dev Cert.GdnQkRefIdeal.nD,
      r.2.mem ((c.tc : Thread Cert.GdnQkRefIdeal.nD Cert.GdnQkRefIdeal.τ).loc Cert.GdnQkRefIdeal.main_arg0) = m ((c.tc : Thread Cert.GdnQkRefIdeal.nD Cert.GdnQkRefIdeal.τ).loc Cert.GdnQkRefIdeal.main_arg0)
      ∧ r.2.mem ((c.tc : Thread Cert.GdnQkRefIdeal.nD Cert.GdnQkRefIdeal.τ).loc Cert.GdnQkRefIdeal.main_arg1) = m ((c.tc : Thread Cert.GdnQkRefIdeal.nD Cert.GdnQkRefIdeal.τ).loc Cert.GdnQkRefIdeal.main_arg1)
      ∧ r.2.mem ((c.tc : Thread Cert.GdnQkRefIdeal.nD Cert.GdnQkRefIdeal.τ).loc Cert.GdnQkRefIdeal.main_arg2) = m ((c.tc : Thread Cert.GdnQkRefIdeal.nD Cert.GdnQkRefIdeal.τ).loc Cert.GdnQkRefIdeal.main_arg2))
      ∧ r.2.sem = fun _ => 0)

def quiescent_GdnGate [hGdnGate : Cert.GdnGate.Facts] : Prop :=
  ∀ (m : (ℓ : Loc Cert.GdnGate.nD Cert.GdnGate.τ Cert.GdnGate.sig) → Buf (Elt Bits) ℓ) (g : Dev Cert.GdnGate.nD → PrngReg), Pre_GdnGate m →
    θ_run (Cert.GdnGate.defs (F := Bits)) (onTc (τ := Cert.GdnGate.τ) (Cert.GdnGate.main (F := Bits))) ⟨m, fun _ => 0, g⟩ (fun r => (∀ c : Dev Cert.GdnGate.nD,
      r.2.mem ((c.tc : Thread Cert.GdnGate.nD Cert.GdnGate.τ).loc Cert.GdnGate.main_arg0) = m ((c.tc : Thread Cert.GdnGate.nD Cert.GdnGate.τ).loc Cert.GdnGate.main_arg0)
      ∧ r.2.mem ((c.tc : Thread Cert.GdnGate.nD Cert.GdnGate.τ).loc Cert.GdnGate.main_arg1) = m ((c.tc : Thread Cert.GdnGate.nD Cert.GdnGate.τ).loc Cert.GdnGate.main_arg1))
      ∧ r.2.sem = fun _ => 0)

def quiescent_GdnGateIdeal [hGdnGateIdeal : Cert.GdnGateIdeal.Facts] : Prop :=
  ∀ (m : (ℓ : Loc Cert.GdnGateIdeal.nD Cert.GdnGateIdeal.τ Cert.GdnGateIdeal.sig) → Buf (Elt Ideal) ℓ) (g : Dev Cert.GdnGateIdeal.nD → PrngReg), Pre_GdnGateIdeal m →
    θ_run (Cert.GdnGateIdeal.defs (F := Ideal)) (onTc (τ := Cert.GdnGateIdeal.τ) (Cert.GdnGateIdeal.main (F := Ideal))) ⟨m, fun _ => 0, g⟩ (fun r => (∀ c : Dev Cert.GdnGateIdeal.nD,
      r.2.mem ((c.tc : Thread Cert.GdnGateIdeal.nD Cert.GdnGateIdeal.τ).loc Cert.GdnGateIdeal.main_arg0) = m ((c.tc : Thread Cert.GdnGateIdeal.nD Cert.GdnGateIdeal.τ).loc Cert.GdnGateIdeal.main_arg0)
      ∧ r.2.mem ((c.tc : Thread Cert.GdnGateIdeal.nD Cert.GdnGateIdeal.τ).loc Cert.GdnGateIdeal.main_arg1) = m ((c.tc : Thread Cert.GdnGateIdeal.nD Cert.GdnGateIdeal.τ).loc Cert.GdnGateIdeal.main_arg1))
      ∧ r.2.sem = fun _ => 0)

def quiescent_GdnGateRefIdeal [hGdnGateRefIdeal : Cert.GdnGateRefIdeal.Facts] : Prop :=
  ∀ (m : (ℓ : Loc Cert.GdnGateRefIdeal.nD Cert.GdnGateRefIdeal.τ Cert.GdnGateRefIdeal.sig) → Buf (Elt Ideal) ℓ) (g : Dev Cert.GdnGateRefIdeal.nD → PrngReg), Pre_GdnGateRefIdeal m →
    θ_run (Cert.GdnGateRefIdeal.defs (F := Ideal)) (onTc (τ := Cert.GdnGateRefIdeal.τ) (Cert.GdnGateRefIdeal.main (F := Ideal))) ⟨m, fun _ => 0, g⟩ (fun r => (∀ c : Dev Cert.GdnGateRefIdeal.nD,
      r.2.mem ((c.tc : Thread Cert.GdnGateRefIdeal.nD Cert.GdnGateRefIdeal.τ).loc Cert.GdnGateRefIdeal.main_arg0) = m ((c.tc : Thread Cert.GdnGateRefIdeal.nD Cert.GdnGateRefIdeal.τ).loc Cert.GdnGateRefIdeal.main_arg0)
      ∧ r.2.mem ((c.tc : Thread Cert.GdnGateRefIdeal.nD Cert.GdnGateRefIdeal.τ).loc Cert.GdnGateRefIdeal.main_arg1) = m ((c.tc : Thread Cert.GdnGateRefIdeal.nD Cert.GdnGateRefIdeal.τ).loc Cert.GdnGateRefIdeal.main_arg1))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnIdeal_pre_hgrn_finite [hHgrnIdeal : Cert.HgrnIdeal.Facts] [hPre_hgrn_finite : Cert.Pre_hgrn_finite.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_hgrn_finite m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_HgrnRefIdeal_pre_hgrn_finite [hHgrnRefIdeal : Cert.HgrnRefIdeal.Facts] [hPre_hgrn_finite : Cert.Pre_hgrn_finite.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_hgrn_finite m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_HgrnIn_HgrnInIdeal : Prop :=
  True

def algebraic_HgrnInIdeal_HgrnInRefIdeal [hHgrnInIdeal : Cert.HgrnInIdeal.Facts] [hHgrnInRefIdeal : Cert.HgrnInRefIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)) →
    ∃ (v0 : (c : Dev Cert.HgrnInIdeal.nD) → Buf (Elt Ideal) ((c.tc : Thread Cert.HgrnInIdeal.nD Cert.HgrnInIdeal.τ).loc Cert.HgrnInIdeal.main_v1)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v1) = v0 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v1) = v0 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1))

def preserves_HgrnOut_HgrnOutIdeal : Prop :=
  True

def algebraic_HgrnOutIdeal_HgrnOutRefIdeal [hHgrnOutIdeal : Cert.HgrnOutIdeal.Facts] [hHgrnOutRefIdeal : Cert.HgrnOutRefIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.HgrnOutRefIdeal.nD Cert.HgrnOutRefIdeal.τ Cert.HgrnOutRefIdeal.sig) → Buf (Elt Ideal) ℓ) (g' : Dev Cert.HgrnOutRefIdeal.nD → PrngReg), Pre_HgrnOutIdeal m →
    (∀ c : Dev Cert.HgrnOutIdeal.nD,
      m' ((c.tc : Thread Cert.HgrnOutRefIdeal.nD Cert.HgrnOutRefIdeal.τ).loc Cert.HgrnOutRefIdeal.main_arg0) = m ((c.tc : Thread Cert.HgrnOutIdeal.nD Cert.HgrnOutIdeal.τ).loc Cert.HgrnOutIdeal.main_arg0)
      ∧ m' ((c.tc : Thread Cert.HgrnOutRefIdeal.nD Cert.HgrnOutRefIdeal.τ).loc Cert.HgrnOutRefIdeal.main_arg1) = m ((c.tc : Thread Cert.HgrnOutIdeal.nD Cert.HgrnOutIdeal.τ).loc Cert.HgrnOutIdeal.main_arg1)) →
    ∃ (v0 : (c : Dev Cert.HgrnOutIdeal.nD) → Buf (Elt Ideal) ((c.tc : Thread Cert.HgrnOutIdeal.nD Cert.HgrnOutIdeal.τ).loc Cert.HgrnOutIdeal.main_v1)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v1) = v0 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1))
      ∧ θ_run (Cert.HgrnOutRefIdeal.defs (F := Ideal)) (onTc (τ := Cert.HgrnOutRefIdeal.τ) (Cert.HgrnOutRefIdeal.main (F := Ideal))) ⟨m', fun _ => 0, g'⟩ (fun r => ∀ c : Dev Cert.HgrnOutRefIdeal.nD,
          r.2.mem ((c.tc : Thread Cert.HgrnOutRefIdeal.nD Cert.HgrnOutRefIdeal.τ).loc Cert.HgrnOutRefIdeal.main_v1) = v0 c
          ∧ r.2.mem ((c.tc : Thread Cert.HgrnOutRefIdeal.nD Cert.HgrnOutRefIdeal.τ).loc Cert.HgrnOutRefIdeal.main_arg0) = m' ((c.tc : Thread Cert.HgrnOutRefIdeal.nD Cert.HgrnOutRefIdeal.τ).loc Cert.HgrnOutRefIdeal.main_arg0)
          ∧ r.2.mem ((c.tc : Thread Cert.HgrnOutRefIdeal.nD Cert.HgrnOutRefIdeal.τ).loc Cert.HgrnOutRefIdeal.main_arg1) = m' ((c.tc : Thread Cert.HgrnOutRefIdeal.nD Cert.HgrnOutRefIdeal.τ).loc Cert.HgrnOutRefIdeal.main_arg1))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)) →
    ∃ (v0 : (c : Dev Cert.GdnOutIdeal.nD) → Buf (Elt Ideal) ((c.tc : Thread Cert.GdnOutIdeal.nD Cert.GdnOutIdeal.τ).loc Cert.GdnOutIdeal.main_v1)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v1) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v1) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1))

def preserves_GdnZ_GdnZIdeal : Prop :=
  True

def algebraic_GdnZIdeal_GdnZRefIdeal [hGdnZIdeal : Cert.GdnZIdeal.Facts] [hGdnZRefIdeal : Cert.GdnZRefIdeal.Facts] : Prop :=
  ∀ (m : (ℓ : Loc Cert.GdnZIdeal.nD Cert.GdnZIdeal.τ Cert.GdnZIdeal.sig) → Buf (Elt Ideal) ℓ) (g : Dev Cert.GdnZIdeal.nD → PrngReg)
    (m' : (ℓ : Loc Cert.GdnZRefIdeal.nD Cert.GdnZRefIdeal.τ Cert.GdnZRefIdeal.sig) → Buf (Elt Ideal) ℓ) (g' : Dev Cert.GdnZRefIdeal.nD → PrngReg), Pre_GdnZIdeal m →
    (∀ c : Dev Cert.GdnZIdeal.nD,
      m' ((c.tc : Thread Cert.GdnZRefIdeal.nD Cert.GdnZRefIdeal.τ).loc Cert.GdnZRefIdeal.main_arg0) = m ((c.tc : Thread Cert.GdnZIdeal.nD Cert.GdnZIdeal.τ).loc Cert.GdnZIdeal.main_arg0)
      ∧ m' ((c.tc : Thread Cert.GdnZRefIdeal.nD Cert.GdnZRefIdeal.τ).loc Cert.GdnZRefIdeal.main_arg1) = m ((c.tc : Thread Cert.GdnZIdeal.nD Cert.GdnZIdeal.τ).loc Cert.GdnZIdeal.main_arg1)) →
    ∃ (v0 : (c : Dev Cert.GdnZIdeal.nD) → Buf (Elt Ideal) ((c.tc : Thread Cert.GdnZIdeal.nD Cert.GdnZIdeal.τ).loc Cert.GdnZIdeal.main_v2)),
      θ_run (Cert.GdnZIdeal.defs (F := Ideal)) (onTc (τ := Cert.GdnZIdeal.τ) (Cert.GdnZIdeal.main (F := Ideal))) ⟨m, fun _ => 0, g⟩ (fun r => ∀ c : Dev Cert.GdnZIdeal.nD,
          r.2.mem ((c.tc : Thread Cert.GdnZIdeal.nD Cert.GdnZIdeal.τ).loc Cert.GdnZIdeal.main_v2) = v0 c
          ∧ r.2.mem ((c.tc : Thread Cert.GdnZIdeal.nD Cert.GdnZIdeal.τ).loc Cert.GdnZIdeal.main_arg0) = m ((c.tc : Thread Cert.GdnZIdeal.nD Cert.GdnZIdeal.τ).loc Cert.GdnZIdeal.main_arg0)
          ∧ r.2.mem ((c.tc : Thread Cert.GdnZIdeal.nD Cert.GdnZIdeal.τ).loc Cert.GdnZIdeal.main_arg1) = m ((c.tc : Thread Cert.GdnZIdeal.nD Cert.GdnZIdeal.τ).loc Cert.GdnZIdeal.main_arg1))
      ∧ θ_run (Cert.GdnZRefIdeal.defs (F := Ideal)) (onTc (τ := Cert.GdnZRefIdeal.τ) (Cert.GdnZRefIdeal.main (F := Ideal))) ⟨m', fun _ => 0, g'⟩ (fun r => ∀ c : Dev Cert.GdnZRefIdeal.nD,
          r.2.mem ((c.tc : Thread Cert.GdnZRefIdeal.nD Cert.GdnZRefIdeal.τ).loc Cert.GdnZRefIdeal.main_v3) = v0 c
          ∧ r.2.mem ((c.tc : Thread Cert.GdnZRefIdeal.nD Cert.GdnZRefIdeal.τ).loc Cert.GdnZRefIdeal.main_arg0) = m' ((c.tc : Thread Cert.GdnZRefIdeal.nD Cert.GdnZRefIdeal.τ).loc Cert.GdnZRefIdeal.main_arg0)
          ∧ r.2.mem ((c.tc : Thread Cert.GdnZRefIdeal.nD Cert.GdnZRefIdeal.τ).loc Cert.GdnZRefIdeal.main_arg1) = m' ((c.tc : Thread Cert.GdnZRefIdeal.nD Cert.GdnZRefIdeal.τ).loc Cert.GdnZRefIdeal.main_arg1))

def preserves_GdnV_GdnVIdeal : Prop :=
  True

def algebraic_GdnVIdeal_GdnVRefIdeal [hGdnVIdeal : Cert.GdnVIdeal.Facts] [hGdnVRefIdeal : Cert.GdnVRefIdeal.Facts] : Prop :=
  ∀ (m : (ℓ : Loc Cert.GdnVIdeal.nD Cert.GdnVIdeal.τ Cert.GdnVIdeal.sig) → Buf (Elt Ideal) ℓ) (g : Dev Cert.GdnVIdeal.nD → PrngReg)
    (m' : (ℓ : Loc Cert.GdnVRefIdeal.nD Cert.GdnVRefIdeal.τ Cert.GdnVRefIdeal.sig) → Buf (Elt Ideal) ℓ) (g' : Dev Cert.GdnVRefIdeal.nD → PrngReg), Pre_GdnVIdeal m →
    (∀ c : Dev Cert.GdnVIdeal.nD,
      m' ((c.tc : Thread Cert.GdnVRefIdeal.nD Cert.GdnVRefIdeal.τ).loc Cert.GdnVRefIdeal.main_arg0) = m ((c.tc : Thread Cert.GdnVIdeal.nD Cert.GdnVIdeal.τ).loc Cert.GdnVIdeal.main_arg0)
      ∧ m' ((c.tc : Thread Cert.GdnVRefIdeal.nD Cert.GdnVRefIdeal.τ).loc Cert.GdnVRefIdeal.main_arg1) = m ((c.tc : Thread Cert.GdnVIdeal.nD Cert.GdnVIdeal.τ).loc Cert.GdnVIdeal.main_arg1)
      ∧ m' ((c.tc : Thread Cert.GdnVRefIdeal.nD Cert.GdnVRefIdeal.τ).loc Cert.GdnVRefIdeal.main_arg2) = m ((c.tc : Thread Cert.GdnVIdeal.nD Cert.GdnVIdeal.τ).loc Cert.GdnVIdeal.main_arg2)) →
    ∃ (v0 : (c : Dev Cert.GdnVIdeal.nD) → Buf (Elt Ideal) ((c.tc : Thread Cert.GdnVIdeal.nD Cert.GdnVIdeal.τ).loc Cert.GdnVIdeal.main_v3)),
      θ_run (Cert.GdnVIdeal.defs (F := Ideal)) (onTc (τ := Cert.GdnVIdeal.τ) (Cert.GdnVIdeal.main (F := Ideal))) ⟨m, fun _ => 0, g⟩ (fun r => ∀ c : Dev Cert.GdnVIdeal.nD,
          r.2.mem ((c.tc : Thread Cert.GdnVIdeal.nD Cert.GdnVIdeal.τ).loc Cert.GdnVIdeal.main_v3) = v0 c
          ∧ r.2.mem ((c.tc : Thread Cert.GdnVIdeal.nD Cert.GdnVIdeal.τ).loc Cert.GdnVIdeal.main_arg0) = m ((c.tc : Thread Cert.GdnVIdeal.nD Cert.GdnVIdeal.τ).loc Cert.GdnVIdeal.main_arg0)
          ∧ r.2.mem ((c.tc : Thread Cert.GdnVIdeal.nD Cert.GdnVIdeal.τ).loc Cert.GdnVIdeal.main_arg1) = m ((c.tc : Thread Cert.GdnVIdeal.nD Cert.GdnVIdeal.τ).loc Cert.GdnVIdeal.main_arg1)
          ∧ r.2.mem ((c.tc : Thread Cert.GdnVIdeal.nD Cert.GdnVIdeal.τ).loc Cert.GdnVIdeal.main_arg2) = m ((c.tc : Thread Cert.GdnVIdeal.nD Cert.GdnVIdeal.τ).loc Cert.GdnVIdeal.main_arg2))
      ∧ θ_run (Cert.GdnVRefIdeal.defs (F := Ideal)) (onTc (τ := Cert.GdnVRefIdeal.τ) (Cert.GdnVRefIdeal.main (F := Ideal))) ⟨m', fun _ => 0, g'⟩ (fun r => ∀ c : Dev Cert.GdnVRefIdeal.nD,
          r.2.mem ((c.tc : Thread Cert.GdnVRefIdeal.nD Cert.GdnVRefIdeal.τ).loc Cert.GdnVRefIdeal.main_v33) = v0 c
          ∧ r.2.mem ((c.tc : Thread Cert.GdnVRefIdeal.nD Cert.GdnVRefIdeal.τ).loc Cert.GdnVRefIdeal.main_arg0) = m' ((c.tc : Thread Cert.GdnVRefIdeal.nD Cert.GdnVRefIdeal.τ).loc Cert.GdnVRefIdeal.main_arg0)
          ∧ r.2.mem ((c.tc : Thread Cert.GdnVRefIdeal.nD Cert.GdnVRefIdeal.τ).loc Cert.GdnVRefIdeal.main_arg1) = m' ((c.tc : Thread Cert.GdnVRefIdeal.nD Cert.GdnVRefIdeal.τ).loc Cert.GdnVRefIdeal.main_arg1)
          ∧ r.2.mem ((c.tc : Thread Cert.GdnVRefIdeal.nD Cert.GdnVRefIdeal.τ).loc Cert.GdnVRefIdeal.main_arg2) = m' ((c.tc : Thread Cert.GdnVRefIdeal.nD Cert.GdnVRefIdeal.τ).loc Cert.GdnVRefIdeal.main_arg2))

def preserves_GdnQk_GdnQkIdeal : Prop :=
  True

def algebraic_GdnQkIdeal_GdnQkRefIdeal [hGdnQkIdeal : Cert.GdnQkIdeal.Facts] [hGdnQkRefIdeal : Cert.GdnQkRefIdeal.Facts] : Prop :=
  ∀ (m : (ℓ : Loc Cert.GdnQkIdeal.nD Cert.GdnQkIdeal.τ Cert.GdnQkIdeal.sig) → Buf (Elt Ideal) ℓ) (g : Dev Cert.GdnQkIdeal.nD → PrngReg)
    (m' : (ℓ : Loc Cert.GdnQkRefIdeal.nD Cert.GdnQkRefIdeal.τ Cert.GdnQkRefIdeal.sig) → Buf (Elt Ideal) ℓ) (g' : Dev Cert.GdnQkRefIdeal.nD → PrngReg), Pre_GdnQkIdeal m →
    (∀ c : Dev Cert.GdnQkIdeal.nD,
      m' ((c.tc : Thread Cert.GdnQkRefIdeal.nD Cert.GdnQkRefIdeal.τ).loc Cert.GdnQkRefIdeal.main_arg0) = m ((c.tc : Thread Cert.GdnQkIdeal.nD Cert.GdnQkIdeal.τ).loc Cert.GdnQkIdeal.main_arg0)
      ∧ m' ((c.tc : Thread Cert.GdnQkRefIdeal.nD Cert.GdnQkRefIdeal.τ).loc Cert.GdnQkRefIdeal.main_arg1) = m ((c.tc : Thread Cert.GdnQkIdeal.nD Cert.GdnQkIdeal.τ).loc Cert.GdnQkIdeal.main_arg1)
      ∧ m' ((c.tc : Thread Cert.GdnQkRefIdeal.nD Cert.GdnQkRefIdeal.τ).loc Cert.GdnQkRefIdeal.main_arg2) = m ((c.tc : Thread Cert.GdnQkIdeal.nD Cert.GdnQkIdeal.τ).loc Cert.GdnQkIdeal.main_arg2)) →
    ∃ (v0 : (c : Dev Cert.GdnQkIdeal.nD) → Buf (Elt Ideal) ((c.tc : Thread Cert.GdnQkIdeal.nD Cert.GdnQkIdeal.τ).loc Cert.GdnQkIdeal.main_v7)),
      θ_run (Cert.GdnQkIdeal.defs (F := Ideal)) (onTc (τ := Cert.GdnQkIdeal.τ) (Cert.GdnQkIdeal.main (F := Ideal))) ⟨m, fun _ => 0, g⟩ (fun r => ∀ c : Dev Cert.GdnQkIdeal.nD,
          r.2.mem ((c.tc : Thread Cert.GdnQkIdeal.nD Cert.GdnQkIdeal.τ).loc Cert.GdnQkIdeal.main_v7) = v0 c
          ∧ r.2.mem ((c.tc : Thread Cert.GdnQkIdeal.nD Cert.GdnQkIdeal.τ).loc Cert.GdnQkIdeal.main_arg0) = m ((c.tc : Thread Cert.GdnQkIdeal.nD Cert.GdnQkIdeal.τ).loc Cert.GdnQkIdeal.main_arg0)
          ∧ r.2.mem ((c.tc : Thread Cert.GdnQkIdeal.nD Cert.GdnQkIdeal.τ).loc Cert.GdnQkIdeal.main_arg1) = m ((c.tc : Thread Cert.GdnQkIdeal.nD Cert.GdnQkIdeal.τ).loc Cert.GdnQkIdeal.main_arg1)
          ∧ r.2.mem ((c.tc : Thread Cert.GdnQkIdeal.nD Cert.GdnQkIdeal.τ).loc Cert.GdnQkIdeal.main_arg2) = m ((c.tc : Thread Cert.GdnQkIdeal.nD Cert.GdnQkIdeal.τ).loc Cert.GdnQkIdeal.main_arg2))
      ∧ θ_run (Cert.GdnQkRefIdeal.defs (F := Ideal)) (onTc (τ := Cert.GdnQkRefIdeal.τ) (Cert.GdnQkRefIdeal.main (F := Ideal))) ⟨m', fun _ => 0, g'⟩ (fun r => ∀ c : Dev Cert.GdnQkRefIdeal.nD,
          r.2.mem ((c.tc : Thread Cert.GdnQkRefIdeal.nD Cert.GdnQkRefIdeal.τ).loc Cert.GdnQkRefIdeal.main_v57) = v0 c
          ∧ r.2.mem ((c.tc : Thread Cert.GdnQkRefIdeal.nD Cert.GdnQkRefIdeal.τ).loc Cert.GdnQkRefIdeal.main_arg0) = m' ((c.tc : Thread Cert.GdnQkRefIdeal.nD Cert.GdnQkRefIdeal.τ).loc Cert.GdnQkRefIdeal.main_arg0)
          ∧ r.2.mem ((c.tc : Thread Cert.GdnQkRefIdeal.nD Cert.GdnQkRefIdeal.τ).loc Cert.GdnQkRefIdeal.main_arg1) = m' ((c.tc : Thread Cert.GdnQkRefIdeal.nD Cert.GdnQkRefIdeal.τ).loc Cert.GdnQkRefIdeal.main_arg1)
          ∧ r.2.mem ((c.tc : Thread Cert.GdnQkRefIdeal.nD Cert.GdnQkRefIdeal.τ).loc Cert.GdnQkRefIdeal.main_arg2) = m' ((c.tc : Thread Cert.GdnQkRefIdeal.nD Cert.GdnQkRefIdeal.τ).loc Cert.GdnQkRefIdeal.main_arg2))

def preserves_GdnGate_GdnGateIdeal : Prop :=
  True

def algebraic_GdnGateIdeal_GdnGateRefIdeal [hGdnGateIdeal : Cert.GdnGateIdeal.Facts] [hGdnGateRefIdeal : Cert.GdnGateRefIdeal.Facts] : Prop :=
  ∀ (m : (ℓ : Loc Cert.GdnGateIdeal.nD Cert.GdnGateIdeal.τ Cert.GdnGateIdeal.sig) → Buf (Elt Ideal) ℓ) (g : Dev Cert.GdnGateIdeal.nD → PrngReg)
    (m' : (ℓ : Loc Cert.GdnGateRefIdeal.nD Cert.GdnGateRefIdeal.τ Cert.GdnGateRefIdeal.sig) → Buf (Elt Ideal) ℓ) (g' : Dev Cert.GdnGateRefIdeal.nD → PrngReg), Pre_GdnGateIdeal m →
    (∀ c : Dev Cert.GdnGateIdeal.nD,
      m' ((c.tc : Thread Cert.GdnGateRefIdeal.nD Cert.GdnGateRefIdeal.τ).loc Cert.GdnGateRefIdeal.main_arg0) = m ((c.tc : Thread Cert.GdnGateIdeal.nD Cert.GdnGateIdeal.τ).loc Cert.GdnGateIdeal.main_arg0)
      ∧ m' ((c.tc : Thread Cert.GdnGateRefIdeal.nD Cert.GdnGateRefIdeal.τ).loc Cert.GdnGateRefIdeal.main_arg1) = m ((c.tc : Thread Cert.GdnGateIdeal.nD Cert.GdnGateIdeal.τ).loc Cert.GdnGateIdeal.main_arg1)) →
    ∃ (v0 : (c : Dev Cert.GdnGateIdeal.nD) → Buf (Elt Ideal) ((c.tc : Thread Cert.GdnGateIdeal.nD Cert.GdnGateIdeal.τ).loc Cert.GdnGateIdeal.main_v2)),
      θ_run (Cert.GdnGateIdeal.defs (F := Ideal)) (onTc (τ := Cert.GdnGateIdeal.τ) (Cert.GdnGateIdeal.main (F := Ideal))) ⟨m, fun _ => 0, g⟩ (fun r => ∀ c : Dev Cert.GdnGateIdeal.nD,
          r.2.mem ((c.tc : Thread Cert.GdnGateIdeal.nD Cert.GdnGateIdeal.τ).loc Cert.GdnGateIdeal.main_v2) = v0 c
          ∧ r.2.mem ((c.tc : Thread Cert.GdnGateIdeal.nD Cert.GdnGateIdeal.τ).loc Cert.GdnGateIdeal.main_arg0) = m ((c.tc : Thread Cert.GdnGateIdeal.nD Cert.GdnGateIdeal.τ).loc Cert.GdnGateIdeal.main_arg0)
          ∧ r.2.mem ((c.tc : Thread Cert.GdnGateIdeal.nD Cert.GdnGateIdeal.τ).loc Cert.GdnGateIdeal.main_arg1) = m ((c.tc : Thread Cert.GdnGateIdeal.nD Cert.GdnGateIdeal.τ).loc Cert.GdnGateIdeal.main_arg1))
      ∧ θ_run (Cert.GdnGateRefIdeal.defs (F := Ideal)) (onTc (τ := Cert.GdnGateRefIdeal.τ) (Cert.GdnGateRefIdeal.main (F := Ideal))) ⟨m', fun _ => 0, g'⟩ (fun r => ∀ c : Dev Cert.GdnGateRefIdeal.nD,
          r.2.mem ((c.tc : Thread Cert.GdnGateRefIdeal.nD Cert.GdnGateRefIdeal.τ).loc Cert.GdnGateRefIdeal.main_v2) = v0 c
          ∧ r.2.mem ((c.tc : Thread Cert.GdnGateRefIdeal.nD Cert.GdnGateRefIdeal.τ).loc Cert.GdnGateRefIdeal.main_arg0) = m' ((c.tc : Thread Cert.GdnGateRefIdeal.nD Cert.GdnGateRefIdeal.τ).loc Cert.GdnGateRefIdeal.main_arg0)
          ∧ r.2.mem ((c.tc : Thread Cert.GdnGateRefIdeal.nD Cert.GdnGateRefIdeal.τ).loc Cert.GdnGateRefIdeal.main_arg1) = m' ((c.tc : Thread Cert.GdnGateRefIdeal.nD Cert.GdnGateRefIdeal.τ).loc Cert.GdnGateRefIdeal.main_arg1))

def preserves_Hgrn_HgrnIdeal : Prop :=
  IdealRules.named_const.Statement Cert.HgrnIdeal.κ "log2_e" .f32 0x3FB8AA3B#32 (((Real.log 2)⁻¹ : ℝ) : EReal)

def algebraic_HgrnIdeal_HgrnRefIdeal_pre_hgrn_finite [hHgrnIdeal : Cert.HgrnIdeal.Facts] [hHgrnRefIdeal : Cert.HgrnRefIdeal.Facts] [hPre_hgrn_finite : Cert.Pre_hgrn_finite.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_hgrn_finite m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)) →
    ∃ (v0 : (c : Dev Cert.HgrnIdeal.nD) → Buf (Elt Ideal) ((c.tc : Thread Cert.HgrnIdeal.nD Cert.HgrnIdeal.τ).loc Cert.HgrnIdeal.main_v1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v1) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v78) = v0 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2))

def Claim : Prop :=
  ∃ (hKernel : Cert.Kernel.Facts) (hKernelIdeal : Cert.KernelIdeal.Facts) (hReferenceIdeal : Cert.ReferenceIdeal.Facts) (hHgrnIn : Cert.HgrnIn.Facts) (hHgrnInIdeal : Cert.HgrnInIdeal.Facts) (hHgrnInRefIdeal : Cert.HgrnInRefIdeal.Facts) (hHgrnOut : Cert.HgrnOut.Facts) (hHgrnOutIdeal : Cert.HgrnOutIdeal.Facts) (hHgrnOutRefIdeal : Cert.HgrnOutRefIdeal.Facts) (hGdnOut : Cert.GdnOut.Facts) (hGdnOutIdeal : Cert.GdnOutIdeal.Facts) (hGdnOutRefIdeal : Cert.GdnOutRefIdeal.Facts) (hGdnZ : Cert.GdnZ.Facts) (hGdnZIdeal : Cert.GdnZIdeal.Facts) (hGdnZRefIdeal : Cert.GdnZRefIdeal.Facts) (hGdnV : Cert.GdnV.Facts) (hGdnVIdeal : Cert.GdnVIdeal.Facts) (hGdnVRefIdeal : Cert.GdnVRefIdeal.Facts) (hGdnQk : Cert.GdnQk.Facts) (hGdnQkIdeal : Cert.GdnQkIdeal.Facts) (hGdnQkRefIdeal : Cert.GdnQkRefIdeal.Facts) (hGdnGate : Cert.GdnGate.Facts) (hGdnGateIdeal : Cert.GdnGateIdeal.Facts) (hGdnGateRefIdeal : Cert.GdnGateRefIdeal.Facts) (hHgrn : Cert.Hgrn.Facts) (hHgrnIdeal : Cert.HgrnIdeal.Facts) (hHgrnRefIdeal : Cert.HgrnRefIdeal.Facts) (hPre_finite : Cert.Pre_finite.Facts) (hPre_hgrn_finite : Cert.Pre_hgrn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_HgrnIn (hHgrnIn := hHgrnIn)
    ∧ quiescent_HgrnInIdeal (hHgrnInIdeal := hHgrnInIdeal)
    ∧ quiescent_HgrnInRefIdeal (hHgrnInRefIdeal := hHgrnInRefIdeal)
    ∧ quiescent_HgrnOut (hHgrnOut := hHgrnOut)
    ∧ quiescent_HgrnOutIdeal (hHgrnOutIdeal := hHgrnOutIdeal)
    ∧ quiescent_HgrnOutRefIdeal (hHgrnOutRefIdeal := hHgrnOutRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_GdnZ (hGdnZ := hGdnZ)
    ∧ quiescent_GdnZIdeal (hGdnZIdeal := hGdnZIdeal)
    ∧ quiescent_GdnZRefIdeal (hGdnZRefIdeal := hGdnZRefIdeal)
    ∧ quiescent_GdnV (hGdnV := hGdnV)
    ∧ quiescent_GdnVIdeal (hGdnVIdeal := hGdnVIdeal)
    ∧ quiescent_GdnVRefIdeal (hGdnVRefIdeal := hGdnVRefIdeal)
    ∧ quiescent_GdnQk (hGdnQk := hGdnQk)
    ∧ quiescent_GdnQkIdeal (hGdnQkIdeal := hGdnQkIdeal)
    ∧ quiescent_GdnQkRefIdeal (hGdnQkRefIdeal := hGdnQkRefIdeal)
    ∧ quiescent_GdnGate (hGdnGate := hGdnGate)
    ∧ quiescent_GdnGateIdeal (hGdnGateIdeal := hGdnGateIdeal)
    ∧ quiescent_GdnGateRefIdeal (hGdnGateRefIdeal := hGdnGateRefIdeal)
    ∧ quiescent_Hgrn (hHgrn := hHgrn)
    ∧ quiescent_HgrnIdeal (hHgrnIdeal := hHgrnIdeal)
    ∧ quiescent_HgrnIdeal_pre_hgrn_finite (hHgrnIdeal := hHgrnIdeal) (hPre_hgrn_finite := hPre_hgrn_finite)
    ∧ quiescent_HgrnRefIdeal (hHgrnRefIdeal := hHgrnRefIdeal)
    ∧ quiescent_HgrnRefIdeal_pre_hgrn_finite (hHgrnRefIdeal := hHgrnRefIdeal) (hPre_hgrn_finite := hPre_hgrn_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_HgrnIn_HgrnInIdeal
    ∧ algebraic_HgrnInIdeal_HgrnInRefIdeal (hHgrnInIdeal := hHgrnInIdeal) (hHgrnInRefIdeal := hHgrnInRefIdeal)
    ∧ preserves_HgrnOut_HgrnOutIdeal
    ∧ algebraic_HgrnOutIdeal_HgrnOutRefIdeal (hHgrnOutIdeal := hHgrnOutIdeal) (hHgrnOutRefIdeal := hHgrnOutRefIdeal)
    ∧ preserves_GdnOut_GdnOutIdeal
    ∧ algebraic_GdnOutIdeal_GdnOutRefIdeal (hGdnOutIdeal := hGdnOutIdeal) (hGdnOutRefIdeal := hGdnOutRefIdeal)
    ∧ preserves_GdnZ_GdnZIdeal
    ∧ algebraic_GdnZIdeal_GdnZRefIdeal (hGdnZIdeal := hGdnZIdeal) (hGdnZRefIdeal := hGdnZRefIdeal)
    ∧ preserves_GdnV_GdnVIdeal
    ∧ algebraic_GdnVIdeal_GdnVRefIdeal (hGdnVIdeal := hGdnVIdeal) (hGdnVRefIdeal := hGdnVRefIdeal)
    ∧ preserves_GdnQk_GdnQkIdeal
    ∧ algebraic_GdnQkIdeal_GdnQkRefIdeal (hGdnQkIdeal := hGdnQkIdeal) (hGdnQkRefIdeal := hGdnQkRefIdeal)
    ∧ preserves_GdnGate_GdnGateIdeal
    ∧ algebraic_GdnGateIdeal_GdnGateRefIdeal (hGdnGateIdeal := hGdnGateIdeal) (hGdnGateRefIdeal := hGdnGateRefIdeal)
    ∧ preserves_Hgrn_HgrnIdeal
    ∧ algebraic_HgrnIdeal_HgrnRefIdeal_pre_hgrn_finite (hHgrnIdeal := hHgrnIdeal) (hHgrnRefIdeal := hHgrnRefIdeal) (hPre_hgrn_finite := hPre_hgrn_finite)
-- ==== Pre_finite.lean ====
abbrev S16384x8192 : Shape := ⟨2, ![16384, 8192]⟩
abbrev S16384x64 : Shape := ⟨2, ![16384, 64]⟩
abbrev S128 : Shape := ⟨1, ![128]⟩
abbrev S_ : Shape := ⟨0, ![]⟩

class Facts : Prop where
  bcast_S_S16384x8192 : S_.BroadcastsInDim S16384x8192 (![] : Fin 0 → Fin S16384x8192.rank)
  bcast_S_S16384x64 : S_.BroadcastsInDim S16384x64 (![] : Fin 0 → Fin S16384x64.rank)

variable [Facts]

def fn {F : FTy → Type} [FloatOps F] (main_arg0 : FVec F S16384x8192 .f32) (main_arg1 : FVec F S16384x8192 .f32) (main_arg2 : FVec F S16384x8192 .f32) (main_arg3 : FVec F S16384x64 .f32) (main_arg4 : FVec F S16384x64 .f32) (main_arg5 : FVec F S128 .f32) : IVec S16384x8192 1 × IVec S16384x8192 1 × IVec S16384x64 1 × IVec S16384x64 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_v3 : FVec F S16384x8192 .f32 := Host.absf main_arg1
  let main_cst_0 : FVec F S_ .f32 := constant S_ .f32 0x7F800000#32
  let main_v4 : FVec F S16384x8192 .f32 := broadcastInDim S16384x8192 ![] bcast_S_S16384x8192 main_cst_0
  let main_v5 : IVec S16384x8192 1 := cmpf .olt main_v3 main_v4
  let main_v6 : FVec F S16384x64 .f32 := Host.absf main_arg3
  let main_cst_1 : FVec F S_ .f32 := constant S_ .f32 0x7F800000#32
  let main_v7 : FVec F S16384x64 .f32 := broadcastInDim S16384x64 ![] bcast_S_S16384x64 main_cst_1
  let main_v8 : IVec S16384x64 1 := cmpf .olt main_v6 main_v7
  let main_v9 : FVec F S16384x64 .f32 := Host.absf main_arg4
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  (main_v2, main_v5, main_v8, main_v11)
-- ==== Pre_hgrn_finite.lean ====
abbrev S16384x16384 : Shape := ⟨2, ![16384, 16384]⟩
abbrev S2x4096 : Shape := ⟨2, ![2, 4096]⟩
abbrev S128 : Shape := ⟨1, ![128]⟩
abbrev S16384x4096 : Shape := ⟨2, ![16384, 4096]⟩
abbrev S_ : Shape := ⟨0, ![]⟩

class Facts : Prop where
  slices_S16384x16384_S16384x4096_0_0 : S16384x16384.Slices ![0, 0] S16384x4096
  slices_S16384x16384_S16384x4096_0_4096 : S16384x16384.Slices ![0, 4096] S16384x4096
  slices_S16384x16384_S16384x4096_0_8192 : S16384x16384.Slices ![0, 8192] S16384x4096
  slices_S16384x16384_S16384x4096_0_12288 : S16384x16384.Slices ![0, 12288] S16384x4096
  bcast_S_S16384x4096 : S_.BroadcastsInDim S16384x4096 (![] : Fin 0 → Fin S16384x4096.rank)
  bcast_S_S2x4096 : S_.BroadcastsInDim S2x4096 (![] : Fin 0 → Fin S2x4096.rank)

variable [Facts]

def fn {F : FTy → Type} [FloatOps F] (main_arg0 : FVec F S16384x16384 .f32) (main_arg1 : FVec F S2x4096 .f32) (main_arg2 : FVec F S128 .f32) : IVec S16384x4096 1 × IVec S16384x4096 1 × IVec S2x4096 1 :=
  let main_v0 : FVec F S16384x4096 .f32 := (extractStridedSlice S16384x4096 ![0, 0] · slices_S16384x16384_S16384x4096_0_0) main_arg0
  let main_v1 : FVec F S16384x4096 .f32 := (extractStridedSlice S16384x4096 ![0, 4096] · slices_S16384x16384_S16384x4096_0_4096) main_arg0
  let main_v2 : FVec F S16384x4096 .f32 := (extractStridedSlice S16384x4096 ![0, 8192] · slices_S16384x16384_S16384x4096_0_8192) main_arg0
  let main_v3 : FVec F S16384x4096 .f32 := (extractStridedSlice S16384x4096 ![0, 12288] · slices_S16384x16384_S16384x4096_0_12288) main_arg0
  let main_v4 : FVec F S16384x4096 .f32 := Host.absf main_v0
  let main_cst : FVec F S_ .f32 := constant S_ .f32 0x7F800000#32
  let main_v5 : FVec F S16384x4096 .f32 := broadcastInDim S16384x4096 ![] bcast_S_S16384x4096 main_cst
  let main_v6 : IVec S16384x4096 1 := cmpf .olt main_v4 main_v5
  let main_v7 : FVec F S16384x4096 .f32 := Host.absf main_v2
  let main_cst_0 : FVec F S_ .f32 := constant S_ .f32 0x7F800000#32
  let main_v8 : FVec F S16384x4096 .f32 := broadcastInDim S16384x4096 ![] bcast_S_S16384x4096 main_cst_0
  let main_v9 : IVec S16384x4096 1 := cmpf .olt main_v7 main_v8
  let main_v10 : FVec F S2x4096 .f32 := Host.absf main_arg1
  let main_cst_1 : FVec F S_ .f32 := constant S_ .f32 0x7F800000#32
  let main_v11 : FVec F S2x4096 .f32 := broadcastInDim S2x4096 ![] bcast_S_S2x4096 main_cst_1
  let main_v12 : IVec S2x4096 1 := cmpf .olt main_v10 main_v11
  (main_v6, main_v9, main_v12)
-- ==== Kernel.lean ====
abbrev S16384x8192 : Shape := ⟨2, ![16384, 8192]⟩
abbrev S16384x64 : Shape := ⟨2, ![16384, 64]⟩
abbrev S128 : Shape := ⟨1, ![128]⟩
abbrev S16384x32x2 : Shape := ⟨3, ![16384, 32, 2]⟩
abbrev S32x16384x2 : Shape := ⟨3, ![32, 16384, 2]⟩
abbrev S64x16384 : Shape := ⟨2, ![64, 16384]⟩
abbrev S32x2x16384 : Shape := ⟨3, ![32, 2, 16384]⟩
abbrev S1x128 : Shape := ⟨2, ![1, 128]⟩
abbrev S128x1024 : Shape := ⟨2, ![128, 1024]⟩
abbrev S128x2048 : Shape := ⟨2, ![128, 2048]⟩
abbrev S8x128x2 : Shape := ⟨3, ![8, 128, 2]⟩
abbrev S8x2x128 : Shape := ⟨3, ![8, 2, 128]⟩
abbrev S16x128x128 : Shape := ⟨3, ![16, 128, 128]⟩
abbrev S128x128 : Shape := ⟨2, ![128, 128]⟩
abbrev S1x128x1 : Shape := ⟨3, ![1, 128, 1]⟩
abbrev S128x1 : Shape := ⟨2, ![128, 1]⟩
abbrev S1x1x128 : Shape := ⟨3, ![1, 1, 128]⟩
abbrev S2x64x1 : Shape := ⟨3, ![2, 64, 1]⟩
abbrev S2x1x1 : Shape := ⟨3, ![2, 1, 1]⟩
abbrev S128x256 : Shape := ⟨2, ![128, 256]⟩
abbrev S1x128x128 : Shape := ⟨3, ![1, 128, 128]⟩
abbrev S64x128 : Shape := ⟨2, ![64, 128]⟩
abbrev S64x256 : Shape := ⟨2, ![64, 256]⟩
abbrev S192x128 : Shape := ⟨2, ![192, 128]⟩
abbrev S1x1 : Shape := ⟨2, ![1, 1]⟩
abbrev S64 : Shape := ⟨1, ![64]⟩
abbrev S64x1 : Shape := ⟨2, ![64, 1]⟩

abbrev nBuf : Space → Nat
  | .hbm => 14
  | .vmem => 18
  | .smem => 0
  | _ => 0

abbrev bufTy : (tb : Table) → Fin (tcTables nBuf tb) → BufTy
  | .hbm, ⟨0, _⟩ => ⟨S16384x8192, .f32⟩
  | .hbm, ⟨1, _⟩ => ⟨S16384x8192, .f32⟩
  | .hbm, ⟨2, _⟩ => ⟨S16384x8192, .f32⟩
  | .hbm, ⟨3, _⟩ => ⟨S16384x64, .f32⟩
  | .hbm, ⟨4, _⟩ => ⟨S16384x64, .f32⟩
  | .hbm, ⟨5, _⟩ => ⟨S128, .f32⟩
  | .hbm, ⟨6, _⟩ => ⟨S16384x32x2, .f32⟩
  | .hbm, ⟨7, _⟩ => ⟨S32x16384x2, .f32⟩
  | .hbm, ⟨8, _⟩ => ⟨S16384x32x2, .f32⟩
  | .hbm, ⟨9, _⟩ => ⟨S32x16384x2, .f32⟩
  | .hbm, ⟨10, _⟩ => ⟨S64x16384, .f32⟩
  | .hbm, ⟨11, _⟩ => ⟨S32x2x16384, .f32⟩
  | .hbm, ⟨12, _⟩ => ⟨S1x128, .f32⟩
  | .hbm, ⟨13, _⟩ => ⟨S16384x8192, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S8x128x2, .f32⟩
  | .local _ .vmem, ⟨9, _⟩ => ⟨S8x128x2, .f32⟩
  | .local _ .vmem, ⟨10, _⟩ => ⟨S8x128x2, .f32⟩
  | .local _ .vmem, ⟨11, _⟩ => ⟨S8x128x2, .f32⟩
  | .local _ .vmem, ⟨12, _⟩ => ⟨S8x2x128, .f32⟩
  | .local _ .vmem, ⟨13, _⟩ => ⟨S8x2x128, .f32⟩
  | .local _ .vmem, ⟨14, _⟩ => ⟨S1x128, .f32⟩
  | .local _ .vmem, ⟨15, _⟩ => ⟨S128x2048, .bf16⟩
  | .local _ .vmem, ⟨16, _⟩ => ⟨S128x2048, .bf16⟩
  | .local _ .vmem, ⟨17, _⟩ => ⟨S16x128x128, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x8192 : Shape := ⟨2, ![16384, 8192]⟩
abbrev S16384x64 : Shape := ⟨2, ![16384, 64]⟩
abbrev S128 : Shape := ⟨1, ![128]⟩
abbrev S16384x4096 : Shape := ⟨2, ![16384, 4096]⟩
abbrev S16384x32x128 : Shape := ⟨3, ![16384, 32, 128]⟩
abbrev S16384x32x2x128 : Shape := ⟨4, ![16384, 32, 2, 128]⟩
abbrev S16384x64x128 : Shape := ⟨3, ![16384, 64, 128]⟩
abbrev S256x64x64 : Shape := ⟨3, ![256, 64, 64]⟩
abbrev S_ : Shape := ⟨0, ![]⟩
abbrev S256x1x64 : Shape := ⟨3, ![256, 1, 64]⟩
abbrev S256x63x64 : Shape := ⟨3, ![256, 63, 64]⟩
abbrev S64x128x128 : Shape := ⟨3, ![64, 128, 128]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩
abbrev S64x1x1 : Shape := ⟨3, ![64, 1, 1]⟩
abbrev S64x1 : Shape := ⟨2, ![64, 1]⟩
abbrev S64x128x1 : Shape := ⟨3, ![64, 128, 1]⟩
abbrev S64x1x128 : Shape := ⟨3, ![64, 1, 128]⟩
abbrev S16384x64x1 : Shape := ⟨3, ![16384, 64, 1]⟩
abbrev S1x1x128 : Shape := ⟨3, ![1, 1, 128]⟩

abbrev nBuf : Space → Nat
  | .hbm => 99
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S16384x8192, .f32⟩
  | .hbm, ⟨2, _⟩ => ⟨S16384x8192, .f32⟩
  | .hbm, ⟨3, _⟩ => ⟨S16384x64, .f32⟩
  | .hbm, ⟨4, _⟩ => ⟨S16384x64, .f32⟩
  | .hbm, ⟨5, _⟩ => ⟨S128, .f32⟩
  | .hbm, ⟨6, _⟩ => ⟨S16384x4096, .f32⟩
  | .hbm, ⟨7, _⟩ => ⟨S16384x4096, .f32⟩
  | .hbm, ⟨8, _⟩ => ⟨S16384x32x128, .f32⟩
  | .hbm, ⟨9, _⟩ => ⟨S16384x32x2x128, .f32⟩
  | .hbm, ⟨10, _⟩ => ⟨S16384x64x128, .f32⟩
  | .hbm, ⟨11, _⟩ => ⟨S16384x32x128, .f32⟩
  | .hbm, ⟨12, _⟩ => ⟨S16384x32x2x128, .f32⟩
  | .hbm, ⟨13, _⟩ => ⟨S16384x64x128, .f32⟩
  | .hbm, ⟨14, _⟩ => ⟨S16384x64x128, .f32⟩
  | .hbm, ⟨15, _⟩ => ⟨S256x64x64, .f32⟩
  | .hbm, ⟨16, _⟩ => ⟨S_, .f32⟩
  | .hbm, ⟨17, _⟩ => ⟨S256x1x64, .f32⟩
  | .hbm, ⟨18, _⟩ => ⟨S256x63x64, .f32⟩
  | .hbm, ⟨19, _⟩ => ⟨S256x64x64, .f32⟩
  | .hbm, ⟨20, _⟩ => ⟨S256x64x64, .f32⟩
  | .hbm, ⟨21, _⟩ => ⟨S_, .f32⟩
  | .hbm, ⟨22, _⟩ => ⟨S256x64x64, .f32⟩
  | .hbm, ⟨23, _⟩ => ⟨S256x64x64, .f32⟩
  | .hbm, ⟨24, _⟩ => ⟨S16384x64, .f32⟩
  | .hbm, ⟨25, _⟩ => ⟨S_, .f32⟩
  | .hbm, ⟨26, _⟩ => ⟨S64x128x128, .f32⟩
  | .hbm, ⟨27, _⟩ => ⟨S_, .f32⟩
  | .hbm, ⟨28, _⟩ => ⟨S16384x64x128, .f32⟩
  | .hbm, ⟨29, _⟩ => ⟨S_, .i32⟩
  | .hbm, ⟨30, _⟩ => ⟨S16384x64x128, .f32⟩
  | .hbm, ⟨31, _⟩ => ⟨S16384x64x128, .f32⟩
  | .hbm, ⟨32, _⟩ => ⟨S16384x64x128, .f32⟩
  | .hbm, ⟨33, _⟩ => ⟨S16384x64, .f32⟩
  | .hbm, ⟨34, _⟩ => ⟨S16384x64, .f32⟩
  | .hbm, ⟨35, _⟩ => ⟨S_, .i32⟩
  | .hbm, ⟨36, _⟩ => ⟨S64x128x128, .f32⟩
  | .hbm, ⟨37, _⟩ => ⟨S16384x64x128, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S1x64x128, .f32⟩
  | .hbm, ⟨43, _⟩ => ⟨S64x128, .f32⟩
  | .hbm, ⟨44, _⟩ => ⟨S_, .i32⟩
  | .hbm, ⟨45, _⟩ => ⟨S_, .i32⟩
  | .hbm, ⟨46, _⟩ => ⟨S1x64x128, .f32⟩
  | .hbm, ⟨47, _⟩ => ⟨S64x128, .f32⟩
  | .hbm, ⟨48, _⟩ => ⟨S_, .i32⟩
  | .hbm, ⟨49, _⟩ => ⟨S_, .i32⟩
  | .hbm, ⟨50, _⟩ => ⟨S1x64x128, .f32⟩
  | .hbm, ⟨51, _⟩ => ⟨S64x128, .f32⟩
  | .hbm, ⟨52, _⟩ => ⟨S_, .i32⟩
  | .hbm, ⟨53, _⟩ => ⟨S1x64, .f32⟩
  | .hbm, ⟨54, _⟩ => ⟨S64, .f32⟩
  | .hbm, ⟨55, _⟩ => ⟨S_, .i32⟩
  | .hbm, ⟨56, _⟩ => ⟨S1x64, .f32⟩
  | .hbm, ⟨57, _⟩ => ⟨S64, .f32⟩
  | .hbm, ⟨58, _⟩ => ⟨S64x1x1, .f32⟩
  | .hbm, ⟨59, _⟩ => ⟨S64x128x128, .f32⟩
  | .hbm, ⟨60, _⟩ => ⟨S64x128x128, .f32⟩
  | .hbm, ⟨61, _⟩ => ⟨S64x128, .f32⟩
  | .hbm, ⟨62, _⟩ => ⟨S64x128, .f32⟩
  | .hbm, ⟨63, _⟩ => ⟨S64x1, .f32⟩
  | .hbm, ⟨64, _⟩ => ⟨S64x128, .f32⟩
  | .hbm, ⟨65, _⟩ => ⟨S64x128, .f32⟩
  | .hbm, ⟨66, _⟩ => ⟨S64x128x1, .f32⟩
  | .hbm, ⟨67, _⟩ => ⟨S64x1x128, .f32⟩
  | .hbm, ⟨68, _⟩ => ⟨S64x128x128, .f32⟩
  | .hbm, ⟨69, _⟩ => ⟨S64x128x128, .f32⟩
  | .hbm, ⟨70, _⟩ => ⟨S64x128x128, .f32⟩
  | .hbm, ⟨71, _⟩ => ⟨S64x128x128, .f32⟩
  | .hbm, ⟨72, _⟩ => ⟨S64x128, .f32⟩
  | .hbm, ⟨73, _⟩ => ⟨S1x64x128, .f32⟩
  | .hbm, ⟨74, _⟩ => ⟨S_, .i32⟩
  | .hbm, ⟨75, _⟩ => ⟨S_, .i32⟩
  | .hbm, ⟨76, _⟩ => ⟨S16384x64x128, .f32⟩
  | .hbm, ⟨77, _⟩ => ⟨S_, .i32⟩
  | .hbm, ⟨78, _⟩ => ⟨S_, .i32⟩
  | .hbm, ⟨79, _⟩ => ⟨S16384x64x128, .f32⟩
  | .hbm, ⟨80, _⟩ => ⟨S_, .f32⟩
  | .hbm, ⟨81, _⟩ => ⟨S16384x64, .f32⟩
  | .hbm, ⟨82, _⟩ => ⟨S16384x64x1, .f32⟩
  | .hbm, ⟨83, _⟩ => ⟨S_, .f32⟩
  | .hbm, ⟨84, _⟩ => ⟨S16384x64x1, .f32⟩
  | .hbm, ⟨85, _⟩ => ⟨S16384x64x1, .f32⟩
  | .hbm, ⟨86, _⟩ => ⟨S_, .f32⟩
  | .hbm, ⟨87, _⟩ => ⟨S16384x64x1, .f32⟩
  | .hbm, ⟨88, _⟩ => ⟨S16384x64x1, .f32⟩
  | .hbm, ⟨89, _⟩ => ⟨S16384x64x1, .f32⟩
  | .hbm, ⟨90, _⟩ => ⟨S16384x64x128, .f32⟩
  | .hbm, ⟨91, _⟩ => ⟨S16384x64x128, .f32⟩
  | .hbm, ⟨92, _⟩ => ⟨S1x1x128, .f32⟩
  | .hbm, ⟨93, _⟩ => ⟨S16384x64x128, .f32⟩
  | .hbm, ⟨94, _⟩ => ⟨S16384x64x128, .f32⟩
  | .hbm, ⟨95, _⟩ => ⟨S16384x64x128, .f32⟩
  | .hbm, ⟨96, _⟩ => ⟨S16384x64x128, .f32⟩
  | .hbm, ⟨97, _⟩ => ⟨S16384x8192, .f32⟩
  | .hbm, ⟨98, _⟩ => ⟨S16384x8192, .bf16⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_c : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev main_v19_6 : Ref sig .tc := ⟨.hbm, 36, rfl⟩
abbrev main_v19_7 : Ref sig .tc := ⟨.hbm, 37, rfl⟩
abbrev main_while0c_c_13 : Ref sig .tc := ⟨.hbm, 38, rfl⟩
abbrev main_while0c_v37 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_v0 : Ref sig .tc := ⟨.hbm, 42, rfl⟩
abbrev main_while0b_v37 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_v0 : Ref sig .tc := ⟨.hbm, 46, rfl⟩
abbrev main_while0b_v38 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_call2_v0 : Ref sig .tc := ⟨.hbm, 50, rfl⟩
abbrev main_while0b_v39 : Ref sig .tc := ⟨.hbm, 51, rfl⟩
abbrev main_while0b_call3_c : Ref sig .tc := ⟨.hbm, 52, rfl⟩
abbrev main_while0b_call3_v0 : Ref sig .tc := ⟨.hbm, 53, rfl⟩
abbrev main_while0b_v40 : Ref sig .tc := ⟨.hbm, 54, rfl⟩
abbrev main_while0b_call4_c : Ref sig .tc := ⟨.hbm, 55, rfl⟩
abbrev main_while0b_call4_v0 : Ref sig .tc := ⟨.hbm, 56, rfl⟩
abbrev main_while0b_v41 : Ref sig .tc := ⟨.hbm, 57, rfl⟩
abbrev main_while0b_v42 : Ref sig .tc := ⟨.hbm, 58, rfl⟩
abbrev main_while0b_v43 : Ref sig .tc := ⟨.hbm, 59, rfl⟩
abbrev main_while0b_v44 : Ref sig .tc := ⟨.hbm, 60, rfl⟩
abbrev main_while0b_v45 : Ref sig .tc := ⟨.hbm, 61, rfl⟩
abbrev main_while0b_v46 : Ref sig .tc := ⟨.hbm, 62, rfl⟩
abbrev main_while0b_v47 : Ref sig .tc := ⟨.hbm, 63, rfl⟩
abbrev main_while0b_v48 : Ref sig .tc := ⟨.hbm, 64, rfl⟩
abbrev main_while0b_v49 : Ref sig .tc := ⟨.hbm, 65, rfl⟩
abbrev main_while0b_v50 : Ref sig .tc := ⟨.hbm, 66, rfl⟩
abbrev main_while0b_v51 : Ref sig .tc := ⟨.hbm, 67, rfl⟩
abbrev main_while0b_v52 : Ref sig .tc := ⟨.hbm, 68, rfl⟩
abbrev main_while0b_v53 : Ref sig .tc := ⟨.hbm, 69, rfl⟩
abbrev main_while0b_v54 : Ref sig .tc := ⟨.hbm, 70, rfl⟩
abbrev main_while0b_v55 : Ref sig .tc := ⟨.hbm, 71, rfl⟩
abbrev main_while0b_v56 : Ref sig .tc := ⟨.hbm, 72, rfl⟩
abbrev main_while0b_call5_v0 : Ref sig .tc := ⟨.hbm, 73, rfl⟩
abbrev main_while0b_call5_c : Ref sig .tc := ⟨.hbm, 74, rfl⟩
abbrev main_while0b_call5_c_0 : Ref sig .tc := ⟨.hbm, 75, rfl⟩
abbrev main_while0b_v57 : Ref sig .tc := ⟨.hbm, 76, rfl⟩
abbrev main_while0b_c_13 : Ref sig .tc := ⟨.hbm, 77, rfl⟩
abbrev main_while0b_v58 : Ref sig .tc := ⟨.hbm, 78, rfl⟩
abbrev main_v20 : Ref sig .tc := ⟨.hbm, 79, rfl⟩
abbrev main_cst_3 : Ref sig .tc := ⟨.hbm, 80, rfl⟩
abbrev main_v21 : Ref sig .tc := ⟨.hbm, 81, rfl⟩
abbrev main_v22 : Ref sig .tc := ⟨.hbm, 82, rfl⟩
abbrev main_cst_4 : Ref sig .tc := ⟨.hbm, 83, rfl⟩
abbrev main_v23 : Ref sig .tc := ⟨.hbm, 84, rfl⟩
abbrev main_v24 : Ref sig .tc := ⟨.hbm, 85, rfl⟩
abbrev main_cst_5 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩

abbrev nD : Nat := 1
abbrev τ : Topo := Topo.v7x

variable {F : FTy → Type} [FloatOps F]

abbrev main_while0_count : Scf.Loop 32 := ⟨0#32, 16384#32, 1#32⟩
-- ==== HgrnIn.lean ====
abbrev S16384x4096 : Shape := ⟨2, ![16384, 4096]⟩
abbrev S4096x16384 : Shape := ⟨2, ![4096, 16384]⟩
abbrev S16384x16384 : Shape := ⟨2, ![16384, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .f32⟩
  | .hbm, ⟨2, _⟩ => ⟨S4096x16384, .bf16⟩
  | .hbm, ⟨3, _⟩ => ⟨S16384x16384, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgrnInRefIdeal.lean ====
abbrev S16384x4096 : Shape := ⟨2, ![16384, 4096]⟩
abbrev S4096x16384 : Shape := ⟨2, ![4096, 16384]⟩
abbrev S16384x16384 : Shape := ⟨2, ![16384, 16384]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .f32⟩
  | .hbm, ⟨2, _⟩ => ⟨S16384x4096, .f32⟩
  | .hbm, ⟨3, _⟩ => ⟨S16384x16384, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== HgrnOut.lean ====
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S4096x4096, .bf16⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgrnOutRefIdeal.lean ====
abbrev S16384x4096 : Shape := ⟨2, ![16384, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GdnOut.lean ====
abbrev S16384x8192 : Shape := ⟨2, ![16384, 8192]⟩
abbrev S8192x4096 : Shape := ⟨2, ![8192, 4096]⟩
abbrev S16384x4096 : Shape := ⟨2, ![16384, 4096]⟩
abbrev S512x8192 : Shape := ⟨2, ![512, 8192]⟩
abbrev S8192x512 : Shape := ⟨2, ![8192, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .f32⟩
  | .hbm, ⟨2, _⟩ => ⟨S8192x4096, .bf16⟩
  | .hbm, ⟨3, _⟩ => ⟨S16384x4096, .f32⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnOutRefIdeal.lean ====
abbrev S16384x8192 : Shape := ⟨2, ![16384, 8192]⟩
abbrev S8192x4096 : Shape := ⟨2, ![8192, 4096]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .f32⟩
  | .hbm, ⟨2, _⟩ => ⟨S16384x8192, .f32⟩
  | .hbm, ⟨3, _⟩ => ⟨S16384x4096, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GdnZ.lean ====
abbrev S16384x4096 : Shape := ⟨2, ![16384, 4096]⟩
abbrev S4096x24704 : Shape := ⟨2, ![4096, 24704]⟩
abbrev S4096x8192 : Shape := ⟨2, ![4096, 8192]⟩
abbrev S16384x8192 : Shape := ⟨2, ![16384, 8192]⟩
abbrev S1024x4096 : Shape := ⟨2, ![1024, 4096]⟩
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x24704, .f32⟩
  | .hbm, ⟨2, _⟩ => ⟨S4096x8192, .f32⟩
  | .hbm, ⟨3, _⟩ => ⟨S4096x8192, .bf16⟩
  | .hbm, ⟨4, _⟩ => ⟨S16384x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnZRefIdeal.lean ====
abbrev S16384x4096 : Shape := ⟨2, ![16384, 4096]⟩
abbrev S4096x24704 : Shape := ⟨2, ![4096, 24704]⟩
abbrev S16384x24704 : Shape := ⟨2, ![16384, 24704]⟩
abbrev S16384x8192 : Shape := ⟨2, ![16384, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x24704, .f32⟩
  | .hbm, ⟨2, _⟩ => ⟨S16384x4096, .f32⟩
  | .hbm, ⟨3, _⟩ => ⟨S16384x24704, .f32⟩
  | .hbm, ⟨4, _⟩ => ⟨S16384x8192, .f32⟩
  | .hbm, ⟨5, _⟩ => ⟨S16384x8192, .f32⟩
  | .hbm, ⟨6, _⟩ => ⟨S16384x8192, .f32⟩
  | .hbm, ⟨7, _⟩ => ⟨S_, .f32⟩
  | .hbm, ⟨8, _⟩ => ⟨S16384x8192, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | .hbm, ⟨13, _⟩ => ⟨S16384x8192, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== GdnV.lean ====
abbrev S16384x4096 : Shape := ⟨2, ![16384, 4096]⟩
abbrev S4096x24704 : Shape := ⟨2, ![4096, 24704]⟩
abbrev S4x16384 : Shape := ⟨2, ![4, 16384]⟩
abbrev S4096x8192 : Shape := ⟨2, ![4096, 8192]⟩
abbrev S4x8192 : Shape := ⟨2, ![4, 8192]⟩
abbrev S16384x8192 : Shape := ⟨2, ![16384, 8192]⟩
abbrev S1024x4096 : Shape := ⟨2, ![1024, 4096]⟩
abbrev S4096x1024 : Shape := ⟨2, ![4096, 1024]⟩
abbrev S4x1024 : Shape := ⟨2, ![4, 1024]⟩
abbrev S1024x1024 : Shape := ⟨2, ![1024, 1024]⟩
abbrev S1032x256 : Shape := ⟨2, ![1032, 256]⟩
abbrev S8x256 : Shape := ⟨2, ![8, 256]⟩
abbrev S4096x256 : Shape := ⟨2, ![4096, 256]⟩
abbrev S1024x256 : Shape := ⟨2, ![1024, 256]⟩
abbrev S1x256 : Shape := ⟨2, ![1, 256]⟩

abbrev nBuf : Space → Nat
  | .hbm => 7
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x24704, .f32⟩
  | .hbm, ⟨2, _⟩ => ⟨S4x16384, .f32⟩
  | .hbm, ⟨3, _⟩ => ⟨S4096x8192, .f32⟩
  | .hbm, ⟨4, _⟩ => ⟨S4096x8192, .bf16⟩
  | .hbm, ⟨5, _⟩ => ⟨S4x8192, .f32⟩
  | .hbm, ⟨6, _⟩ => ⟨S16384x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S4x1024, .f32⟩
  | .local _ .vmem, ⟨5, _⟩ => ⟨S4x1024, .f32⟩
  | .local _ .vmem, ⟨6, _⟩ => ⟨S1024x1024, .f32⟩
  | .local _ .vmem, ⟨7, _⟩ => ⟨S1024x1024, .f32⟩
  | .local _ .vmem, ⟨8, _⟩ => ⟨S1032x256, .f32⟩
  | .local _ .vmem, ⟨9, _⟩ => ⟨S1032x256, .f32⟩
  | .local _ .vmem, ⟨10, _⟩ => ⟨S1032x256, .f32⟩
  | .local _ .vmem, ⟨11, _⟩ => ⟨S1032x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GdnVRefIdeal.lean ====
abbrev S16384x4096 : Shape := ⟨2, ![16384, 4096]⟩
abbrev S4096x24704 : Shape := ⟨2, ![4096, 24704]⟩
abbrev S4x16384 : Shape := ⟨2, ![4, 16384]⟩
abbrev S16384x24704 : Shape := ⟨2, ![16384, 24704]⟩
abbrev S16384x16384 : Shape := ⟨2, ![16384, 16384]⟩
abbrev S_ : Shape := ⟨0, ![]⟩
abbrev S3x16384 : Shape := ⟨2, ![3, 16384]⟩
abbrev S16387x16384 : Shape := ⟨2, ![16387, 16384]⟩
abbrev S1x16384 : Shape := ⟨2, ![1, 16384]⟩
abbrev S16384 : Shape := ⟨1, ![16384]⟩
abbrev S16384x8192 : Shape := ⟨2, ![16384, 8192]⟩

abbrev nBuf : Space → Nat
  | .hbm => 46
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x24704, .f32⟩
  | .hbm, ⟨2, _⟩ => ⟨S4x16384, .f32⟩
  | .hbm, ⟨3, _⟩ => ⟨S16384x4096, .f32⟩
  | .hbm, ⟨4, _⟩ => ⟨S16384x24704, .f32⟩
  | .hbm, ⟨5, _⟩ => ⟨S16384x16384, .f32⟩
  | .hbm, ⟨6, _⟩ => ⟨S_, .f32⟩
  | .hbm, ⟨7, _⟩ => ⟨S3x16384, .f32⟩
  | .hbm, ⟨8, _⟩ => ⟨S16387x16384, .f32⟩
  | .hbm, ⟨9, _⟩ => ⟨S1x16384, .f32⟩
  | .hbm, ⟨10, _⟩ => ⟨S16384, .f32⟩
  | .hbm, ⟨11, _⟩ => ⟨S16384x16384, .f32⟩
  | .hbm, ⟨12, _⟩ => ⟨S1x16384, .f32⟩
  | .hbm, ⟨13, _⟩ => ⟨S16384x16384, .f32⟩
  | .hbm, ⟨14, _⟩ => ⟨S16384x16384, .f32⟩
  | .hbm, ⟨15, _⟩ => ⟨S1x16384, .f32⟩
  | .hbm, ⟨16, _⟩ => ⟨S16384, .f32⟩
  | .hbm, ⟨17, _⟩ => ⟨S16384x16384, .f32⟩
  | .hbm, ⟨18, _⟩ => ⟨S1x16384, .f32⟩
  | .hbm, ⟨19, _⟩ => ⟨S16384x16384, .f32⟩
  | .hbm, ⟨20, _⟩ => ⟨S16384x16384, .f32⟩
  | .hbm, ⟨21, _⟩ => ⟨S16384x16384, .f32⟩
  | .hbm, ⟨22, _⟩ => ⟨S1x16384, .f32⟩
  | .hbm, ⟨23, _⟩ => ⟨S16384, .f32⟩
  | .hbm, ⟨24, _⟩ => ⟨S16384x16384, .f32⟩
  | .hbm, ⟨25, _⟩ => ⟨S1x16384, .f32⟩
  | .hbm, ⟨26, _⟩ => ⟨S16384x16384, .f32⟩
  | .hbm, ⟨27, _⟩ => ⟨S16384x16384, .f32⟩
  | .hbm, ⟨28, _⟩ => ⟨S16384x16384, .f32⟩
  | .hbm, ⟨29, _⟩ => ⟨S1x16384, .f32⟩
  | .hbm, ⟨30, _⟩ => ⟨S16384, .f32⟩
  | .hbm, ⟨31, _⟩ => ⟨S16384x16384, .f32⟩
  | .hbm, ⟨32, _⟩ => ⟨S1x16384, .f32⟩
  | .hbm, ⟨33, _⟩ => ⟨S16384x16384, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S16384x16384, .f32⟩
  | .hbm, ⟨38, _⟩ => ⟨S_, .f32⟩
  | .hbm, ⟨39, _⟩ => ⟨S16384x16384, .f32⟩
  | .hbm, ⟨40, _⟩ => ⟨S16384x16384, .f32⟩
  | .hbm, ⟨41, _⟩ => ⟨S_, .f32⟩
  | .hbm, ⟨42, _⟩ => ⟨S16384x16384, .f32⟩
  | .hbm, ⟨43, _⟩ => ⟨S16384x16384, .f32⟩
  | .hbm, ⟨44, _⟩ => ⟨S16384x16384, .f32⟩
  | .hbm, ⟨45, _⟩ => ⟨S16384x8192, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== GdnQk.lean ====
abbrev S16384x4096 : Shape := ⟨2, ![16384, 4096]⟩
abbrev S4096x24704 : Shape := ⟨2, ![4096, 24704]⟩
abbrev S4x16384 : Shape := ⟨2, ![4, 16384]⟩
abbrev S_ : Shape := ⟨0, ![]⟩
abbrev S4096 : Shape := ⟨1, ![4096]⟩
abbrev S8192 : Shape := ⟨1, ![8192]⟩
abbrev S4096x8192 : Shape := ⟨2, ![4096, 8192]⟩
abbrev S4x8192 : Shape := ⟨2, ![4, 8192]⟩
abbrev S1x8192 : Shape := ⟨2, ![1, 8192]⟩
abbrev S16384x8192 : Shape := ⟨2, ![16384, 8192]⟩
abbrev S1024x4096 : Shape := ⟨2, ![1024, 4096]⟩
abbrev S4096x1024 : Shape := ⟨2, ![4096, 1024]⟩
abbrev S4x1024 : Shape := ⟨2, ![4, 1024]⟩
abbrev S1x1024 : Shape := ⟨2, ![1, 1024]⟩
abbrev S1024x1024 : Shape := ⟨2, ![1024, 1024]⟩
abbrev S1032x256 : Shape := ⟨2, ![1032, 256]⟩
abbrev S8x256 : Shape := ⟨2, ![8, 256]⟩
abbrev S4096x256 : Shape := ⟨2, ![4096, 256]⟩
abbrev S1024x256 : Shape := ⟨2, ![1024, 256]⟩
abbrev S1x256 : Shape := ⟨2, ![1, 256]⟩
abbrev S1024x128 : Shape := ⟨2, ![1024, 128]⟩
abbrev S1024 : Shape := ⟨1, ![1024]⟩
abbrev S1024x1 : Shape := ⟨2, ![1024, 1]⟩
abbrev S1x128 : Shape := ⟨2, ![1, 128]⟩

abbrev nBuf : Space → Nat
  | .hbm => 13
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4096x24704, .f32⟩
  | .hbm, ⟨2, _⟩ => ⟨S4x16384, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S8192, .f32⟩
  | .hbm, ⟨8, _⟩ => ⟨S4096x8192, .f32⟩
  | .hbm, ⟨9, _⟩ => ⟨S4096x8192, .bf16⟩
  | .hbm, ⟨10, _⟩ => ⟨S4x8192, .f32⟩
  | .hbm, ⟨11, _⟩ => ⟨S1x8192, .f32⟩
  | .hbm, ⟨12, _⟩ => ⟨S16384x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1032x256, .f32⟩
  | .local _ .vmem, ⟨11, _⟩ => ⟨S1032x256, .f32⟩
  | .local _ .vmem, ⟨12, _⟩ => ⟨S1032x256, .f32⟩
  | .local _ .vmem, ⟨13, _⟩ => ⟨S1032x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GdnQkRefIdeal.lean ====
abbrev S16384x4096 : Shape := ⟨2, ![16384, 4096]⟩
abbrev S4096x24704 : Shape := ⟨2, ![4096, 24704]⟩
abbrev S4x16384 : Shape := ⟨2, ![4, 16384]⟩
abbrev S16384x24704 : Shape := ⟨2, ![16384, 24704]⟩
abbrev S16384x16384 : Shape := ⟨2, ![16384, 16384]⟩
abbrev S_ : Shape := ⟨0, ![]⟩
abbrev S3x16384 : Shape := ⟨2, ![3, 16384]⟩
abbrev S16387x16384 : Shape := ⟨2, ![16387, 16384]⟩
abbrev S1x16384 : Shape := ⟨2, ![1, 16384]⟩
abbrev S16384 : Shape := ⟨1, ![16384]⟩
abbrev S16384x32x128 : Shape := ⟨3, ![16384, 32, 128]⟩
abbrev S16384x32 : Shape := ⟨2, ![16384, 32]⟩
abbrev S16384x32x1 : Shape := ⟨3, ![16384, 32, 1]⟩
abbrev S16384x8192 : Shape := ⟨2, ![16384, 8192]⟩

abbrev nBuf : Space → Nat
  | .hbm => 75
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x24704, .f32⟩
  | .hbm, ⟨2, _⟩ => ⟨S4x16384, .f32⟩
  | .hbm, ⟨3, _⟩ => ⟨S16384x4096, .f32⟩
  | .hbm, ⟨4, _⟩ => ⟨S16384x24704, .f32⟩
  | .hbm, ⟨5, _⟩ => ⟨S16384x16384, .f32⟩
  | .hbm, ⟨6, _⟩ => ⟨S_, .f32⟩
  | .hbm, ⟨7, _⟩ => ⟨S3x16384, .f32⟩
  | .hbm, ⟨8, _⟩ => ⟨S16387x16384, .f32⟩
  | .hbm, ⟨9, _⟩ => ⟨S1x16384, .f32⟩
  | .hbm, ⟨10, _⟩ => ⟨S16384, .f32⟩
  | .hbm, ⟨11, _⟩ => ⟨S16384x16384, .f32⟩
  | .hbm, ⟨12, _⟩ => ⟨S1x16384, .f32⟩
  | .hbm, ⟨13, _⟩ => ⟨S16384x16384, .f32⟩
  | .hbm, ⟨14, _⟩ => ⟨S16384x16384, .f32⟩
  | .hbm, ⟨15, _⟩ => ⟨S1x16384, .f32⟩
  | .hbm, ⟨16, _⟩ => ⟨S16384, .f32⟩
  | .hbm, ⟨17, _⟩ => ⟨S16384x16384, .f32⟩
  | .hbm, ⟨18, _⟩ => ⟨S1x16384, .f32⟩
  | .hbm, ⟨19, _⟩ => ⟨S16384x16384, .f32⟩
  | .hbm, ⟨20, _⟩ => ⟨S16384x16384, .f32⟩
  | .hbm, ⟨21, _⟩ => ⟨S16384x16384, .f32⟩
  | .hbm, ⟨22, _⟩ => ⟨S1x16384, .f32⟩
  | .hbm, ⟨23, _⟩ => ⟨S16384, .f32⟩
  | .hbm, ⟨24, _⟩ => ⟨S16384x16384, .f32⟩
  | .hbm, ⟨25, _⟩ => ⟨S1x16384, .f32⟩
  | .hbm, ⟨26, _⟩ => ⟨S16384x16384, .f32⟩
  | .hbm, ⟨27, _⟩ => ⟨S16384x16384, .f32⟩
  | .hbm, ⟨28, _⟩ => ⟨S16384x16384, .f32⟩
  | .hbm, ⟨29, _⟩ => ⟨S1x16384, .f32⟩
  | .hbm, ⟨30, _⟩ => ⟨S16384, .f32⟩
  | .hbm, ⟨31, _⟩ => ⟨S16384x16384, .f32⟩
  | .hbm, ⟨32, _⟩ => ⟨S1x16384, .f32⟩
  | .hbm, ⟨33, _⟩ => ⟨S16384x16384, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S16384x16384, .f32⟩
  | .hbm, ⟨38, _⟩ => ⟨S_, .f32⟩
  | .hbm, ⟨39, _⟩ => ⟨S16384x16384, .f32⟩
  | .hbm, ⟨40, _⟩ => ⟨S16384x16384, .f32⟩
  | .hbm, ⟨41, _⟩ => ⟨S_, .f32⟩
  | .hbm, ⟨42, _⟩ => ⟨S16384x16384, .f32⟩
  | .hbm, ⟨43, _⟩ => ⟨S16384x16384, .f32⟩
  | .hbm, ⟨44, _⟩ => ⟨S16384x16384, .f32⟩
  | .hbm, ⟨45, _⟩ => ⟨S16384x4096, .f32⟩
  | .hbm, ⟨46, _⟩ => ⟨S16384x4096, .f32⟩
  | .hbm, ⟨47, _⟩ => ⟨S16384x32x128, .f32⟩
  | .hbm, ⟨48, _⟩ => ⟨S16384x32x128, .f32⟩
  | .hbm, ⟨49, _⟩ => ⟨S_, .f32⟩
  | .hbm, ⟨50, _⟩ => ⟨S16384x32, .f32⟩
  | .hbm, ⟨51, _⟩ => ⟨S16384x32x1, .f32⟩
  | .hbm, ⟨52, _⟩ => ⟨S_, .f32⟩
  | .hbm, ⟨53, _⟩ => ⟨S16384x32x1, .f32⟩
  | .hbm, ⟨54, _⟩ => ⟨S16384x32x1, .f32⟩
  | .hbm, ⟨55, _⟩ => ⟨S16384x32x1, .f32⟩
  | .hbm, ⟨56, _⟩ => ⟨S16384x32x128, .f32⟩
  | .hbm, ⟨57, _⟩ => ⟨S16384x32x128, .f32⟩
  | .hbm, ⟨58, _⟩ => ⟨S_, .f32⟩
  | .hbm, ⟨59, _⟩ => ⟨S16384x32x128, .f32⟩
  | .hbm, ⟨60, _⟩ => ⟨S16384x32x128, .f32⟩
  | .hbm, ⟨61, _⟩ => ⟨S16384x32x128, .f32⟩
  | .hbm, ⟨62, _⟩ => ⟨S16384x32x128, .f32⟩
  | .hbm, ⟨63, _⟩ => ⟨S_, .f32⟩
  | .hbm, ⟨64, _⟩ => ⟨S16384x32, .f32⟩
  | .hbm, ⟨65, _⟩ => ⟨S16384x32x1, .f32⟩
  | .hbm, ⟨66, _⟩ => ⟨S_, .f32⟩
  | .hbm, ⟨67, _⟩ => ⟨S16384x32x1, .f32⟩
  | .hbm, ⟨68, _⟩ => ⟨S16384x32x1, .f32⟩
  | .hbm, ⟨69, _⟩ => ⟨S16384x32x1, .f32⟩
  | .hbm, ⟨70, _⟩ => ⟨S16384x32x128, .f32⟩
  | .hbm, ⟨71, _⟩ => ⟨S16384x32x128, .f32⟩
  | .hbm, ⟨72, _⟩ => ⟨S16384x4096, .f32⟩
  | .hbm, ⟨73, _⟩ => ⟨S16384x4096, .f32⟩
  | .hbm, ⟨74, _⟩ => ⟨S16384x8192, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_0 : Ref sig .tc := ⟨.hbm, 49, rfl⟩
abbrev main_v37 : Ref sig .tc := ⟨.hbm, 50, rfl⟩
abbrev main_v38 : Ref sig .tc := ⟨.hbm, 51, rfl⟩
abbrev main_cst_1 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_2 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_3 : Ref sig .tc := ⟨.hbm, 63, rfl⟩
abbrev main_v48 : Ref sig .tc := ⟨.hbm, 64, rfl⟩
abbrev main_v49 : Ref sig .tc := ⟨.hbm, 65, rfl⟩
abbrev main_cst_4 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== GdnGate.lean ====
abbrev S16384x4096 : Shape := ⟨2, ![16384, 4096]⟩
abbrev S4096x24704 : Shape := ⟨2, ![4096, 24704]⟩
abbrev S4096x128 : Shape := ⟨2, ![4096, 128]⟩
abbrev S16384x128 : Shape := ⟨2, ![16384, 128]⟩
abbrev S1024x4096 : Shape := ⟨2, ![1024, 4096]⟩
abbrev S1024x128 : Shape := ⟨2, ![1024, 128]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S4096x24704, .f32⟩
  | .hbm, ⟨2, _⟩ => ⟨S4096x128, .f32⟩
  | .hbm, ⟨3, _⟩ => ⟨S4096x128, .bf16⟩
  | .hbm, ⟨4, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnGateRefIdeal.lean ====
abbrev S16384x4096 : Shape := ⟨2, ![16384, 4096]⟩
abbrev S4096x24704 : Shape := ⟨2, ![4096, 24704]⟩
abbrev S16384x24704 : Shape := ⟨2, ![16384, 24704]⟩
abbrev S16384x128 : Shape := ⟨2, ![16384, 128]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x24704, .f32⟩
  | .hbm, ⟨2, _⟩ => ⟨S16384x4096, .f32⟩
  | .hbm, ⟨3, _⟩ => ⟨S16384x24704, .f32⟩
  | .hbm, ⟨4, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Hgrn.lean ====
abbrev S16384x16384 : Shape := ⟨2, ![16384, 16384]⟩
abbrev S2x4096 : Shape := ⟨2, ![2, 4096]⟩
abbrev S128 : Shape := ⟨1, ![128]⟩
abbrev S1x128 : Shape := ⟨2, ![1, 128]⟩
abbrev S16384x4096 : Shape := ⟨2, ![16384, 4096]⟩
abbrev S256x1024 : Shape := ⟨2, ![256, 1024]⟩
abbrev S2x1024 : Shape := ⟨2, ![2, 1024]⟩
abbrev S8x128x128 : Shape := ⟨3, ![8, 128, 128]⟩
abbrev S1x1024 : Shape := ⟨2, ![1, 1024]⟩
abbrev S64x64 : Shape := ⟨2, ![64, 64]⟩
abbrev S64x128 : Shape := ⟨2, ![64, 128]⟩
abbrev S64x1 : Shape := ⟨2, ![64, 1]⟩
abbrev S2x32x128 : Shape := ⟨3, ![2, 32, 128]⟩
abbrev S2x1x128 : Shape := ⟨3, ![2, 1, 128]⟩
abbrev S32x128 : Shape := ⟨2, ![32, 128]⟩
abbrev S4x16x128 : Shape := ⟨3, ![4, 16, 128]⟩
abbrev S4x1x128 : Shape := ⟨3, ![4, 1, 128]⟩
abbrev S48x128 : Shape := ⟨2, ![48, 128]⟩
abbrev S16x128 : Shape := ⟨2, ![16, 128]⟩
abbrev S8x8x128 : Shape := ⟨3, ![8, 8, 128]⟩
abbrev S8x1x128 : Shape := ⟨3, ![8, 1, 128]⟩
abbrev S56x128 : Shape := ⟨2, ![56, 128]⟩
abbrev S8x128 : Shape := ⟨2, ![8, 128]⟩
abbrev S64 : Shape := ⟨1, ![64]⟩
abbrev S128x128 : Shape := ⟨2, ![128, 128]⟩
abbrev S1x128x128 : Shape := ⟨3, ![1, 128, 128]⟩

abbrev nBuf : Space → Nat
  | .hbm => 5
  | .vmem => 14
  | .smem => 0
  | _ => 0

abbrev bufTy : (tb : Table) → Fin (tcTables nBuf tb) → BufTy
  | .hbm, ⟨0, _⟩ => ⟨S16384x16384, .f32⟩
  | .hbm, ⟨1, _⟩ => ⟨S2x4096, .f32⟩
  | .hbm, ⟨2, _⟩ => ⟨S128, .f32⟩
  | .hbm, ⟨3, _⟩ => ⟨S1x128, .f32⟩
  | .hbm, ⟨4, _⟩ => ⟨S16384x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2x1024, .f32⟩
  | .local _ .vmem, ⟨9, _⟩ => ⟨S2x1024, .f32⟩
  | .local _ .vmem, ⟨10, _⟩ => ⟨S1x128, .f32⟩
  | .local _ .vmem, ⟨11, _⟩ => ⟨S256x1024, .bf16⟩
  | .local _ .vmem, ⟨12, _⟩ => ⟨S256x1024, .bf16⟩
  | .local _ .vmem, ⟨13, _⟩ => ⟨S8x128x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HgrnIdeal.lean ====
variable {F : FTy → Type} [FloatOps F] [Named F]
def κ : String → Option EReal := fun
  | "log2_e" => some (((Real.log 2)⁻¹ : ℝ) : EReal)
  | _ => none
-- ==== HgrnRefIdeal.lean ====
abbrev S16384x16384 : Shape := ⟨2, ![16384, 16384]⟩
abbrev S2x4096 : Shape := ⟨2, ![2, 4096]⟩
abbrev S128 : Shape := ⟨1, ![128]⟩
abbrev S16384x4096 : Shape := ⟨2, ![16384, 4096]⟩
abbrev S_ : Shape := ⟨0, ![]⟩
abbrev S4096 : Shape := ⟨1, ![4096]⟩
abbrev S1x4096 : Shape := ⟨2, ![1, 4096]⟩
abbrev S32x128x128 : Shape := ⟨3, ![32, 128, 128]⟩
abbrev S16384x32x128 : Shape := ⟨3, ![16384, 32, 128]⟩
abbrev S1x32x128 : Shape := ⟨3, ![1, 32, 128]⟩
abbrev S32x128 : Shape := ⟨2, ![32, 128]⟩
abbrev S32x128x1 : Shape := ⟨3, ![32, 128, 1]⟩
abbrev S32x1x128 : Shape := ⟨3, ![32, 1, 128]⟩
abbrev S16384x32 : Shape := ⟨2, ![16384, 32]⟩
abbrev S16384x32x1 : Shape := ⟨3, ![16384, 32, 1]⟩
abbrev S1x1x128 : Shape := ⟨3, ![1, 1, 128]⟩

abbrev nBuf : Space → Nat
  | .hbm => 153
  | .vmem => 0
  | .smem => 0
  | _ => 0

abbrev hbmTy0_0 (i : Nat) : BufTy := match i % 128 with
  | 0 => ⟨S16384x16384, .f32⟩
  | 1 => ⟨S2x4096, .f32⟩
  | 2 => ⟨S128, .f32⟩
  | 3 => ⟨S16384x4096, .f32⟩
  | 4 => ⟨S16384x4096, .f32⟩
  | 5 => ⟨S16384x4096, .f32⟩
  | 6 => ⟨S16384x4096, .f32⟩
  | 7 => ⟨S_, .f32⟩
  | 8 => ⟨S4096, .f32⟩
  | 9 => ⟨S_, .f32⟩
  | 10 => ⟨S4096, .f32⟩
  | 11 => ⟨S4096, .f32⟩
  | 12 => ⟨S1x4096, .f32⟩
  | 13 => ⟨S2x4096, .f32⟩
  | 14 => ⟨S2x4096, .f32⟩
  | 15 => ⟨S2x4096, .f32⟩
  | 16 => ⟨S_, .f32⟩
  | 17 => ⟨S4096, .f32⟩
  | 18 => ⟨S1x4096, .f32⟩
  | 19 => ⟨S2x4096, .f32⟩
  | 20 => ⟨S2x4096, .f32⟩
  | 21 => ⟨S1x4096, .f32⟩
  | 22 => ⟨S4096, .f32⟩
  | 23 => ⟨S1x4096, .f32⟩
  | 24 => ⟨S4096, .f32⟩
  | 25 => ⟨S4096, .f32⟩
  | 26 => ⟨S1x4096, .f32⟩
  | 27 => ⟨S4096, .f32⟩
  | 28 => ⟨S4096, .f32⟩
  | 29 => ⟨S_, .f32⟩
  | 30 => ⟨S4096, .f32⟩
  | 31 => ⟨S4096, .f32⟩
  | 32 => ⟨S16384x4096, .f32⟩
  | 33 => ⟨S16384x4096, .f32⟩
  | 34 => ⟨S_, .f32⟩
  | 35 => ⟨S16384x4096, .f32⟩
  | 36 => ⟨S16384x4096, .f32⟩
  | 37 => ⟨S_, .f32⟩
  | 38 => ⟨S16384x4096, .f32⟩
  | 39 => ⟨S16384x4096, .f32⟩
  | 40 => ⟨S1x4096, .f32⟩
  | 41 => ⟨S16384x4096, .f32⟩
  | 42 => ⟨S16384x4096, .f32⟩
  | 43 => ⟨S1x4096, .f32⟩
  | 44 => ⟨S16384x4096, .f32⟩
  | 45 => ⟨S16384x4096, .f32⟩
  | 46 => ⟨S_, .f32⟩
  | 47 => ⟨S4096, .f32⟩
  | 48 => ⟨S4096, .f32⟩
  | 49 => ⟨S16384x4096, .f32⟩
  | 50 => ⟨S16384x4096, .f32⟩
  | 51 => ⟨S16384x4096, .f32⟩
  | 52 => ⟨S_, .f32⟩
  | 53 => ⟨S16384x4096, .f32⟩
  | 54 => ⟨S16384x4096, .f32⟩
  | 55 => ⟨S_, .f32⟩
  | 56 => ⟨S16384x4096, .f32⟩
  | 57 => ⟨S16384x4096, .f32⟩
  | 58 => ⟨S1x4096, .f32⟩
  | 59 => ⟨S16384x4096, .f32⟩
  | 60 => ⟨S16384x4096, .f32⟩
  | 61 => ⟨S_, .f32⟩
  | 62 => ⟨S32x128x128, .f32⟩
  | 63 => ⟨S16384x4096, .f32⟩
  | 64 => ⟨S16384x4096, .f32⟩
  | 65 => ⟨S_, .f32⟩
  | 66 => ⟨S16384x4096, .f32⟩
  | 67 => ⟨S16384x4096, .f32⟩
  | 68 => ⟨S_, .f32⟩
  | 69 => ⟨S16384x4096, .f32⟩
  | 70 => ⟨S16384x4096, .f32⟩
  | 71 => ⟨S16384x4096, .f32⟩
  | 72 => ⟨S16384x32x128, .f32⟩
  | 73 => ⟨S16384x32x128, .f32⟩
  | 74 => ⟨S16384x32x128, .f32⟩
  | 75 => ⟨S16384x32x128, .f32⟩
  | 76 => ⟨S_, .f32⟩
  | 77 => ⟨S16384x32x128, .f32⟩
  | 78 => ⟨S_, .i32⟩
  | 79 => ⟨S16384x32x128, .f32⟩
  | 80 => ⟨S16384x32x128, .f32⟩
  | 81 => ⟨S16384x32x128, .f32⟩
  | 82 => ⟨S16384x32x128, .f32⟩
  | 83 => ⟨S_, .i32⟩
  | 84 => ⟨S32x128x128, .f32⟩
  | 85 => ⟨S16384x32x128, .f32⟩
  | 86 => ⟨S_, .i32⟩
  | 87 => ⟨S_, .i1⟩
  | 88 => ⟨S_, .i32⟩
  | 89 => ⟨S_, .i32⟩
  | 90 => ⟨S1x32x128, .f32⟩
  | 91 => ⟨S32x128, .f32⟩
  | 92 => ⟨S_, .i32⟩
  | 93 => ⟨S_, .i32⟩
  | 94 => ⟨S1x32x128, .f32⟩
  | 95 => ⟨S32x128, .f32⟩
  | 96 => ⟨S_, .i32⟩
  | 97 => ⟨S_, .i32⟩
  | 98 => ⟨S1x32x128, .f32⟩
  | 99 => ⟨S32x128, .f32⟩
  | 100 => ⟨S_, .i32⟩
  | 101 => ⟨S_, .i32⟩
  | 102 => ⟨S1x32x128, .f32⟩
  | 103 => ⟨S32x128, .f32⟩
  | 104 => ⟨S32x128x1, .f32⟩
  | 105 => ⟨S32x128x128, .f32⟩
  | 106 => ⟨S32x128x128, .f32⟩
  | 107 => ⟨S32x128x1, .f32⟩
  | 108 => ⟨S32x1x128, .f32⟩
  | 109 => ⟨S32x128x128, .f32⟩
  | 110 => ⟨S32x128x128, .f32⟩
  | 111 => ⟨S32x128x128, .f32⟩
  | 112 => ⟨S32x128x128, .f32⟩
  | 113 => ⟨S32x128, .f32⟩
  | 114 => ⟨S1x32x128, .f32⟩
  | 115 => ⟨S_, .i32⟩
  | 116 => ⟨S_, .i32⟩
  | 117 => ⟨S16384x32x128, .f32⟩
  | 118 => ⟨S_, .i32⟩
  | 119 => ⟨S_, .i32⟩
  | 120 => ⟨S16384x32x128, .f32⟩
  | 121 => ⟨S_, .f32⟩
  | 122 => ⟨S16384x32, .f32⟩
  | 123 => ⟨S16384x32x1, .f32⟩
  | 124 => ⟨S_, .f32⟩
  | 125 => ⟨S16384x32x1, .f32⟩
  | 126 => ⟨S16384x32x1, .f32⟩
  | 127 => ⟨S_, .f32⟩
  | _ => ⟨S16384x16384, .f32⟩

abbrev hbmTy0_1 (i : Nat) : BufTy := match i % 128 with
  | 0 => ⟨S16384x32x1, .f32⟩
  | 1 => ⟨S16384x32x1, .f32⟩
  | 2 => ⟨S16384x32x1, .f32⟩
  | 3 => ⟨S16384x32x128, .f32⟩
  | 4 => ⟨S16384x32x128, .f32⟩
  | 5 => ⟨S1x1x128, .f32⟩
  | 6 => ⟨S16384x32x128, .f32⟩
  | 7 => ⟨S16384x32x128, .f32⟩
  | 8 => ⟨S16384x4096, .f32⟩
  | 9 => ⟨S16384x4096, .f32⟩
  | 10 => ⟨S16384x4096, .f32⟩
  | 11 => ⟨S16384x4096, .f32⟩
  | 12 => ⟨S16384x4096, .f32⟩
  | 13 => ⟨S16384x4096, .f32⟩
  | 14 => ⟨S_, .f32⟩
  | 15 => ⟨S16384x4096, .f32⟩
  | 16 => ⟨S16384x4096, .f32⟩
  | 17 => ⟨S_, .f32⟩
  | 18 => ⟨S16384x4096, .f32⟩
  | 19 => ⟨S16384x4096, .f32⟩
  | 20 => ⟨S16384x4096, .f32⟩
  | 21 => ⟨S16384x32x128, .f32⟩
  | 22 => ⟨S16384x32x128, .f32⟩
  | 23 => ⟨S16384x4096, .f32⟩
  | 24 => ⟨S16384x4096, .bf16⟩
  | _ => ⟨S16384x16384, .f32⟩

abbrev hbmTy (i : Nat) : BufTy := match i / 128 with
  | 0 => hbmTy0_0 i
  | 1 => hbmTy0_1 i
  | _ => ⟨S16384x16384, .f32⟩

abbrev bufTy : (tb : Table) → Fin (tcTables nBuf tb) → BufTy
  | .hbm, ⟨i, _⟩ => hbmTy i
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_c : Ref sig .tc := ⟨.hbm, 78, rfl⟩
abbrev main_v56_0 : Ref sig .tc := ⟨.hbm, 79, rfl⟩
abbrev main_v56_1 : Ref sig .tc := ⟨.hbm, 80, rfl⟩
abbrev main_v56_2 : Ref sig .tc := ⟨.hbm, 81, rfl⟩
abbrev main_v56_3 : Ref sig .tc := ⟨.hbm, 82, rfl⟩
abbrev main_v56_4 : Ref sig .tc := ⟨.hbm, 83, rfl⟩
abbrev main_v56_5 : Ref sig .tc := ⟨.hbm, 84, rfl⟩
abbrev main_v56_6 : Ref sig .tc := ⟨.hbm, 85, rfl⟩
abbrev main_while0c_c_19 : Ref sig .tc := ⟨.hbm, 86, rfl⟩
abbrev main_while0c_v79 : Ref sig .tc := ⟨.hbm, 87, rfl⟩
abbrev main_while0b_call1_c : Ref sig .tc := ⟨.hbm, 88, rfl⟩
abbrev main_while0b_call1_c_0 : Ref sig .tc := ⟨.hbm, 89, rfl⟩
abbrev main_while0b_call1_v0 : Ref sig .tc := ⟨.hbm, 90, rfl⟩
abbrev main_while0b_v79 : Ref sig .tc := ⟨.hbm, 91, rfl⟩
abbrev main_while0b_call2_c : Ref sig .tc := ⟨.hbm, 92, rfl⟩
abbrev main_while0b_call2_c_0 : Ref sig .tc := ⟨.hbm, 93, rfl⟩
abbrev main_while0b_call2_v0 : Ref sig .tc := ⟨.hbm, 94, rfl⟩
abbrev main_while0b_v80 : Ref sig .tc := ⟨.hbm, 95, rfl⟩
abbrev main_while0b_call3_c : Ref sig .tc := ⟨.hbm, 96, rfl⟩
abbrev main_while0b_call3_c_0 : Ref sig .tc := ⟨.hbm, 97, rfl⟩
abbrev main_while0b_call3_v0 : Ref sig .tc := ⟨.hbm, 98, rfl⟩
abbrev main_while0b_v81 : Ref sig .tc := ⟨.hbm, 99, rfl⟩
abbrev main_while0b_call4_c : Ref sig .tc := ⟨.hbm, 100, rfl⟩
abbrev main_while0b_call4_c_0 : Ref sig .tc := ⟨.hbm, 101, rfl⟩
abbrev main_while0b_call4_v0 : Ref sig .tc := ⟨.hbm, 102, rfl⟩
abbrev main_while0b_v82 : Ref sig .tc := ⟨.hbm, 103, rfl⟩
abbrev main_while0b_v83 : Ref sig .tc := ⟨.hbm, 104, rfl⟩
abbrev main_while0b_v84 : Ref sig .tc := ⟨.hbm, 105, rfl⟩
abbrev main_while0b_v85 : Ref sig .tc := ⟨.hbm, 106, rfl⟩
abbrev main_while0b_v86 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_call5_v0 : Ref sig .tc := ⟨.hbm, 114, rfl⟩
abbrev main_while0b_call5_c : Ref sig .tc := ⟨.hbm, 115, rfl⟩
abbrev main_while0b_call5_c_0 : Ref sig .tc := ⟨.hbm, 116, rfl⟩
abbrev main_while0b_v93 : Ref sig .tc := ⟨.hbm, 117, rfl⟩
abbrev main_while0b_c_19 : Ref sig .tc := ⟨.hbm, 118, rfl⟩
abbrev main_while0b_v94 : Ref sig .tc := ⟨.hbm, 119, rfl⟩
abbrev main_v57 : Ref sig .tc := ⟨.hbm, 120, rfl⟩
abbrev main_cst_10 : Ref sig .tc := ⟨.hbm, 121, rfl⟩
abbrev main_v58 : Ref sig .tc := ⟨.hbm, 122, rfl⟩
abbrev main_v59 : Ref sig .tc := ⟨.hbm, 123, rfl⟩
abbrev main_cst_11 : Ref sig .tc := ⟨.hbm, 124, rfl⟩
abbrev main_v60 : Ref sig .tc := ⟨.hbm, 125, rfl⟩
abbrev main_v61 : Ref sig .tc := ⟨.hbm, 126, rfl⟩
abbrev main_cst_12 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_call6_v0 : Ref sig .tc := ⟨.hbm, 140, rfl⟩
abbrev main_call6_v1 : Ref sig .tc := ⟨.hbm, 141, rfl⟩
abbrev main_call6_cst : Ref sig .tc := ⟨.hbm, 142, rfl⟩
abbrev main_call6_v2 : Ref sig .tc := ⟨.hbm, 143, rfl⟩
abbrev main_call6_v3 : Ref sig .tc := ⟨.hbm, 144, rfl⟩
abbrev main_call6_cst_0 : Ref sig .tc := ⟨.hbm, 145, rfl⟩
abbrev main_call6_v4 : Ref sig .tc := ⟨.hbm, 146, rfl⟩
abbrev main_call6_v5 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩

abbrev nD : Nat := 1
abbrev τ : Topo := Topo.v7x

variable {F : FTy → Type} [FloatOps F]

abbrev main_while0_count : Scf.Loop 32 := ⟨0#32, 16384#32, 1#32⟩
-- ==== Proof.Chain.lean ====
/- One value head's work on one tile of 128 tokens, as the kernel prints it: the sixteen heads of a
   grid point all do this, each on its own lanes. -/
module

public import proofs.«01_k».proof.Proof.Gen.KernelIdeal.Value

@[expose] public section

set_option maxRecDepth 16384

noncomputable section

namespace Cert.Gdn

open Idealize.ShloMosaic Cert.KernelIdeal Cert.KernelIdeal.Gen

variable {F : FTy → Type} [FloatOps F]

/-- A vector of zeros. -/
def zeroV (s : Shape) : FVec F s .f32 := broadcast s (Scalar.ofBits .f32 0x00000000#32)

/-- The row number of each entry, and the column number. -/
def rowV : IVec S128x128 32 := iota .tc S128x128 32 [0] iota_S128x128_d0_w32
def colV : IVec S128x128 32 := iota .tc S128x128 32 [1] iota_S128x128_d1_w32

/-- Division rounded down, as it is printed for signed words. -/
def fdiv (x : IVec S128x128 32) (n : BitVec 32) : IVec S128x128 32 :=
  select
    (andi
      (cmpi .ne
        (subi (extui 32 (cmpi .sgt x (broadcast S128x128 0#32)) natLt_1_32)
          (extui 32 (cmpi .slt x (broadcast S128x128 0#32)) natLt_1_32))
        (broadcast S128x128 (Scalar.subi (Scalar.extui (Scalar.cmpi .sgt n 0#32)) (Scalar.extui (Scalar.cmpi .slt n 0#32)))))
      (cmpi .ne (remsi x (broadcast S128x128 n)) (broadcast S128x128 0#32)))
    (subi (divsi x (broadcast S128x128 n)) (broadcast S128x128 1#32))
    (divsi x (broadcast S128x128 n))

/-- Row and column in one block of `n`. -/
def sameV (n : BitVec 32) : IVec S128x128 1 := cmpi .eq (fdiv rowV n) (fdiv colV n)
/-- On or below the diagonal of a chunk. -/
def causalV : IVec S128x128 1 := andi (sameV 64#32) (cmpi .sge rowV colV)
/-- Below the diagonal of a chunk. -/
def strictV : IVec S128x128 1 := andi (sameV 64#32) (cmpi .sgt rowV colV)
/-- In one block of `w` but in the lower and the upper half of it. -/
def pairV (w n : BitVec 32) : IVec S128x128 1 := andi (sameV w) (cmpi .sgt (fdiv rowV n) (fdiv colV n))

/-- A product of two square matrices on rounded operands. -/
def mm (x y : FVec F S128x128 .f32) : FVec F S128x128 .f32 :=
  matmul dot_S128x128_S128x128_S128x128_1_0_0_1_n_n none (truncf .bf16 x bitsLt_bf16_f32) (truncf .bf16 y bitsLt_bf16_f32)
    (constant S128x128 .f32 0x00000000#32)
/-- The products of all rows of one with all rows of the other. -/
def mmT (x y : FVec F S128x128 .f32) : FVec F S128x128 .f32 :=
  matmul dot_S128x128_S128x128_S128x128_1_1_0_0_n_n none (truncf .bf16 x bitsLt_bf16_f32) (truncf .bf16 y bitsLt_bf16_f32)
    (constant S128x128 .f32 0x00000000#32)
/-- A product with both halves of a right hand side. -/
def mmW (x : FVec F S128x128 .f32) (y : FVec F S128x256 .f32) : FVec F S128x256 .f32 :=
  matmul dot_S128x128_S128x256_S128x256_1_0_0_1_n_n none (truncf .bf16 x bitsLt_bf16_f32) (truncf .bf16 y bitsLt_bf16_f32)
    (constant S128x256 .f32 0x00000000#32)

/-- A column along all lanes. -/
def colB (x : FVec F S128x1 .f32) : FVec F S128x128 .f32 := broadcastTo S128x128 x broadcasts_S128x1_S128x128

/-- The decay from token to token inside a chunk. -/
def decayV (gc : FVec F S128x1 .f32) (gr : FVec F S1x128 .f32) : FVec F S128x128 .f32 :=
  exp2 (select causalV (subf (colB gc) (broadcastTo S128x128 gr broadcasts_S1x128_S128x128))
    (broadcast S128x128 (Scalar.ofBits .f32 0xFF800000#32)))

/-- The strictly lower triangular part of the system of a chunk. -/
def lowV (k : FVec F S128x128 .f32) (gc bc : FVec F S128x1 .f32) (gr : FVec F S1x128 .f32) : FVec F S128x128 .f32 :=
  select strictV (mulf (mulf (mmT k k) (colB bc)) (decayV gc gr)) (zeroV S128x128)

/-- The inverses of the blocks of 16, less one: by repeated squaring. -/
def geoV (b : FVec F S128x128 .f32) : FVec F S128x128 .f32 :=
  let p := mm b b
  let e := addf (addf b p) (mm b p)
  let p' := mm p p
  let e' := addf (addf e p') (mm e p')
  let p'' := mm p' p'
  addf (addf e' p'') (mm e' p'')

/-- Two neighbouring inverted blocks become one of twice the size. -/
def mergeV (e f : FVec F S128x128 .f32) : FVec F S128x128 .f32 :=
  let g := addf f (mm e f)
  subf e (addf g (mm g e))

/-- The inverse of the system, less one. -/
def invV (a : FVec F S128x128 .f32) : FVec F S128x128 .f32 :=
  mergeV (mergeV (geoV (select (sameV 16#32) (subf (zeroV S128x128) a) (zeroV S128x128)))
    (select (pairV 32#32 16#32) a (zeroV S128x128)))
    (select (pairV 64#32 32#32) a (zeroV S128x128))

/-- The right hand sides: weighted values beside weighted keys. -/
def rhsV (k v : FVec F S128x128 .f32) (gc bc : FVec F S128x1 .f32) : FVec F S128x256 .f32 :=
  concatenate S128x256 1 [⟨S128x128, mulf v (colB bc)⟩, ⟨S128x128, mulf k (colB (mulf bc (exp2 gc)))⟩]
    concatenates_S128x128_S128x128_S128x256_d1

/-- The solution of the system for both right hand sides. -/
def solV (k v : FVec F S128x128 .f32) (gc bc : FVec F S128x1 .f32) (gr : FVec F S1x128 .f32) : FVec F S128x256 .f32 :=
  addf (rhsV k v gc bc) (mmW (invV (lowV k gc bc gr)) (rhsV k v gc bc))

/-- The attention inside a chunk, applied to the solution. -/
def qkSolV (q k v : FVec F S128x128 .f32) (gc bc : FVec F S128x1 .f32) (gr : FVec F S1x128 .f32) : FVec F S128x256 .f32 :=
  mmW (select causalV (mulf (mmT q k) (decayV gc gr)) (zeroV S128x128)) (solV k v gc bc gr)

/-- The decayed queries, less what the solution takes of the state. -/
def qEffV (q : FVec F S128x128 .f32) (gc : FVec F S128x1 .f32) (qs : FVec F S128x256 .f32) : FVec F S128x128 .f32 :=
  subf (mulf q (colB (exp2 gc))) (extractStridedSlice S128x128 ![0, 128] qs slices_S128x256_o0_128_S128x128)

/-- The decay at the last token of each token's chunk. -/
def lastV (gc : FVec F S128x1 .f32) : FVec F S128x1 .f32 :=
  shapeCast S128x1 (broadcastTo S2x64x1 (shapeCast S2x1x1
    (extractStridedSlice S2x1x1 ![0, 63, 0] (shapeCast S2x64x1 gc shapeCasts_S128x1_S2x64x1) slices_S2x64x1_o0_63_0_S2x1x1)
    shapeCasts_S2x1x1_S2x1x1) broadcasts_S2x1x1_S2x64x1) shapeCasts_S2x64x1_S128x1

/-- The keys decayed to the end of their chunk. -/
def kDecV (k : FVec F S128x128 .f32) (gc : FVec F S128x1 .f32) : FVec F S128x128 .f32 :=
  mulf k (colB (exp2 (subf (lastV gc) gc)))

/-- The keys of a chunk against its solution. -/
def ktSolV (kd : FVec F S64x128 .f32) (sl : FVec F S64x256 .f32) : FVec F S128x256 .f32 :=
  matmul dot_S64x128_S64x256_S128x256_0_0_1_1_n_n none (truncf .bf16 kd bitsLt_bf16_f32) (truncf .bf16 sl bitsLt_bf16_f32)
    (constant S128x256 .f32 0x00000000#32)

/-- What the state gives to the next state and to the outputs of a chunk. -/
def prodV (kt : FVec F S128x256 .f32) (qe : FVec F S64x128 .f32) (st : FVec F S128x128 .f32) : FVec F S192x128 .f32 :=
  matmul dot_S192x128_S128x128_S192x128_1_0_0_1_n_n none
    (truncf .bf16 (concatenate S192x128 0
      [⟨S128x128, extractStridedSlice S128x128 ![0, 128] kt slices_S128x256_o0_128_S128x128⟩, ⟨S64x128, qe⟩]
      concatenates_S128x128_S64x128_S192x128_d0) bitsLt_bf16_f32)
    (truncf .bf16 st bitsLt_bf16_f32) (constant S192x128 .f32 0x00000000#32)

/-- The state after a chunk. -/
def nextV (kt : FVec F S128x256 .f32) (qe : FVec F S64x128 .f32) (st : FVec F S128x128 .f32) (g : FVec F S1x1 .f32) : FVec F S128x128 .f32 :=
  addf (subf (mulf st (broadcastTo S128x128 g broadcasts_S1x1_S128x128))
    (extractStridedSlice S128x128 ![0, 0] (prodV kt qe st) slices_S192x128_o0_0_S128x128))
    (extractStridedSlice S128x128 ![0, 0] kt slices_S128x256_o0_0_S128x128)

section Head

variable (q k v : FVec F S128x128 .f32) (gc bc : FVec F S128x1 .f32) (gr : FVec F S1x128 .f32) (st : FVec F S128x128 .f32)

/-- The first chunk's keys against its solution; the second's. -/
def kt0 : FVec F S128x256 .f32 := ktSolV (extractStridedSlice S64x128 ![0, 0] (kDecV k gc) slices_S128x128_o0_0_S64x128)
  (extractStridedSlice S64x256 ![0, 0] (solV k v gc bc gr) slices_S128x256_o0_0_S64x256)
def kt1 : FVec F S128x256 .f32 := ktSolV (extractStridedSlice S64x128 ![64, 0] (kDecV k gc) slices_S128x128_o64_0_S64x128)
  (extractStridedSlice S64x256 ![64, 0] (solV k v gc bc gr) slices_S128x256_o64_0_S64x256)

/-- The first chunk's queries; the second's. -/
def qe0 : FVec F S64x128 .f32 :=
  extractStridedSlice S64x128 ![0, 0] (qEffV q gc (qkSolV q k v gc bc gr)) slices_S128x128_o0_0_S64x128
def qe1 : FVec F S64x128 .f32 :=
  extractStridedSlice S64x128 ![64, 0] (qEffV q gc (qkSolV q k v gc bc gr)) slices_S128x128_o64_0_S64x128

/-- The state after the first chunk; after the second. -/
def st1 : FVec F S128x128 .f32 := nextV (kt0 k v gc bc gr) (qe0 q k v gc bc gr) st
  (extractStridedSlice S1x1 ![0, 0] (exp2 (lastV gc)) slices_S128x1_o0_0_S1x1)
def st2 : FVec F S128x128 .f32 := nextV (kt1 k v gc bc gr) (qe1 q k v gc bc gr) (st1 q k v gc bc gr st)
  (extractStridedSlice S1x1 ![64, 0] (exp2 (lastV gc)) slices_S128x1_o64_0_S1x1)

/-- The outputs of the first chunk, before the norm; of the second. -/
def o0 : FVec F S64x128 .f32 := addf
  (extractStridedSlice S64x128 ![128, 0] (prodV (kt0 k v gc bc gr) (qe0 q k v gc bc gr) st) slices_S192x128_o128_0_S64x128)
  (extractStridedSlice S64x128 ![0, 0] (qkSolV q k v gc bc gr) slices_S128x256_o0_0_S64x128)
def o1 : FVec F S64x128 .f32 := addf
  (extractStridedSlice S64x128 ![128, 0] (prodV (kt1 k v gc bc gr) (qe1 q k v gc bc gr) (st1 q k v gc bc gr st)) slices_S192x128_o128_0_S64x128)
  (extractStridedSlice S64x128 ![64, 0] (qkSolV q k v gc bc gr) slices_S128x256_o64_0_S64x128)

end Head

/-- The norm of the outputs, the weight, and the gate. -/
def normV (o : FVec F S64x128 .f32) (w : FVec F S1x128 .f32) (z : FVec F S64x128 .f32) : FVec F S64x128 .bf16 :=
  truncf .bf16 (mulf (mulf (mulf o (broadcastTo S64x128 (rsqrt (addf
    (divf (shapeCast S64x1 (multiReduction .add [1] S64 (mulf o o) 0x00000000#32 reduces_S64x128_S64 (.inl rfl) rfl) shapeCasts_S64_S64x1)
      (broadcast S64x1 (Scalar.ofBits .f32 0x43000000#32)))
    (broadcast S64x1 (Scalar.ofBits .f32 0x358637BD#32)))) broadcasts_S64x1_S64x128))
    (broadcastTo S64x128 w broadcasts_S1x128_S64x128)) z) bitsLt_bf16_f32

end Cert.Gdn
-- ==== Proof.Masks.lean ====
/- The conditions on row and column that a head selects by. -/
module

public import proofs.«01_k».proof.Proof.Chain
public import Idealize.ShloMosaic.Lib.Pointwise

@[expose] public section

set_option maxRecDepth 16384

noncomputable section

namespace Cert.Gdn

open Idealize.ShloMosaic Idealize.ShloMosaic.Tactic Cert.KernelIdeal Cert.KernelIdeal.Gen

theorem fdiv_row (n : ℕ) (hn : n = 16 ∨ n = 32 ∨ n = 64) (i j : Fin 128) :
    fdiv rowV (BitVec.ofNat 32 n) (ix2 i j) = BitVec.ofNat 32 (i.val / n) := by
  pointwise [fdiv, rowV]
  rcases hn with rfl | rfl | rfl <;> (revert i; decide +kernel)

theorem fdiv_col (n : ℕ) (hn : n = 16 ∨ n = 32 ∨ n = 64) (i j : Fin 128) :
    fdiv colV (BitVec.ofNat 32 n) (ix2 i j) = BitVec.ofNat 32 (j.val / n) := by
  pointwise [fdiv, colV]
  rcases hn with rfl | rfl | rfl <;> (revert j; decide +kernel)

theorem word_eq : ∀ a b : Fin 128, IntOp.cmpi .eq (BitVec.ofNat 32 a.val) (BitVec.ofNat 32 b.val) = if a.val = b.val then 1#1 else 0#1 := by
  decide +kernel
theorem word_gt : ∀ a b : Fin 128, IntOp.cmpi .sgt (BitVec.ofNat 32 a.val) (BitVec.ofNat 32 b.val) = if b.val < a.val then 1#1 else 0#1 := by
  decide +kernel
theorem word_ge : ∀ a b : Fin 128, IntOp.cmpi .sge (BitVec.ofNat 32 a.val) (BitVec.ofNat 32 b.val) = if b.val ≤ a.val then 1#1 else 0#1 := by
  decide +kernel
theorem bit_and (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem sameV_apply (n : ℕ) (hn : n = 16 ∨ n = 32 ∨ n = 64) (i j : Fin 128) :
    sameV (BitVec.ofNat 32 n) (ix2 i j) = if i.val / n = j.val / n then 1#1 else 0#1 := by
  show IntOp.cmpi .eq (fdiv rowV (BitVec.ofNat 32 n) (ix2 i j)) (fdiv colV (BitVec.ofNat 32 n) (ix2 i j)) = _
  rw [fdiv_row n hn, fdiv_col n hn]
  exact word_eq ⟨i.val / n, lt_of_le_of_lt (Nat.div_le_self _ _) i.isLt⟩ ⟨j.val / n, lt_of_le_of_lt (Nat.div_le_self _ _) j.isLt⟩

theorem pairV_apply (w n : ℕ) (hw : w = 16 ∨ w = 32 ∨ w = 64) (hn : n = 16 ∨ n = 32 ∨ n = 64) (i j : Fin 128) :
    pairV (BitVec.ofNat 32 w) (BitVec.ofNat 32 n) (ix2 i j) = if i.val / w = j.val / w ∧ j.val / n < i.val / n then 1#1 else 0#1 := by
  show IntOp.andi (sameV (BitVec.ofNat 32 w) (ix2 i j))
    (IntOp.cmpi .sgt (fdiv rowV (BitVec.ofNat 32 n) (ix2 i j)) (fdiv colV (BitVec.ofNat 32 n) (ix2 i j))) = _
  rw [sameV_apply w hw, fdiv_row n hn, fdiv_col n hn,
    word_gt ⟨i.val / n, lt_of_le_of_lt (Nat.div_le_self _ _) i.isLt⟩ ⟨j.val / n, lt_of_le_of_lt (Nat.div_le_self _ _) j.isLt⟩, bit_and]

theorem strictV_apply (i j : Fin 128) : strictV (ix2 i j) = if i.val / 64 = j.val / 64 ∧ j.val < i.val then 1#1 else 0#1 := by
  show IntOp.andi (sameV (BitVec.ofNat 32 64) (ix2 i j)) (IntOp.cmpi .sgt (rowV (ix2 i j)) (colV (ix2 i j))) = _
  rw [sameV_apply 64 (by norm_num)]
  unfold rowV colV
  rw [iota_single_apply, iota_single_apply]
  rw [← bit_and, ← word_gt]
  rfl

theorem causalV_apply (i j : Fin 128) : causalV (ix2 i j) = if i.val / 64 = j.val / 64 ∧ j.val ≤ i.val then 1#1 else 0#1 := by
  show IntOp.andi (sameV (BitVec.ofNat 32 64) (ix2 i j)) (IntOp.cmpi .sge (rowV (ix2 i j)) (colV (ix2 i j))) = _
  rw [sameV_apply 64 (by norm_num)]
  unfold rowV colV
  rw [iota_single_apply, iota_single_apply]
  rw [← bit_and, ← word_ge]
  rfl

end Cert.Gdn
-- ==== Proof.Inverse.lean ====
/- The block inverse: a unit lower triangular matrix is inverted on blocks of 16 by repeated squaring,
   and two neighbouring inverted blocks are merged into one of twice the size. -/
module

public import Idealize.ShloMosaic.Lib.Pointwise
public import Mathlib.Tactic.NoncommRing
public import Mathlib.Data.Matrix.Mul
public import Mathlib.LinearAlgebra.Matrix.NonsingularInverse

@[expose] public section

namespace Cert.Gdn

open Matrix

variable {N : ℕ}

/-- The matrix is zero outside the square blocks of side `n` on the diagonal. -/
def Blocks (n : ℕ) (M : Matrix (Fin N) (Fin N) ℝ) : Prop :=
  ∀ i j, i.val / n ≠ j.val / n → M i j = 0

theorem Blocks.add {n : ℕ} {M K : Matrix (Fin N) (Fin N) ℝ} (hM : Blocks n M) (hK : Blocks n K) : Blocks n (M + K) :=
  fun i j h => by rw [Matrix.add_apply, hM i j h, hK i j h, add_zero]

theorem Blocks.sub {n : ℕ} {M K : Matrix (Fin N) (Fin N) ℝ} (hM : Blocks n M) (hK : Blocks n K) : Blocks n (M - K) :=
  fun i j h => by rw [Matrix.sub_apply, hM i j h, hK i j h, sub_zero]

theorem Blocks.mul {n : ℕ} {M K : Matrix (Fin N) (Fin N) ℝ} (hM : Blocks n M) (hK : Blocks n K) : Blocks n (M * K) := by
  intro i j h
  rw [Matrix.mul_apply]
  refine Finset.sum_eq_zero fun l _ => ?_
  by_cases hl : i.val / n = l.val / n
  · rw [hK l j (fun e => h (hl.trans e)), mul_zero]
  · rw [hM i l hl, zero_mul]

theorem Blocks.one {n : ℕ} : Blocks n (1 : Matrix (Fin N) (Fin N) ℝ) := by
  intro i j h
  exact Matrix.one_apply_ne (fun e => h (by rw [e]))

/-- Blocks of side `n` lie in blocks of side `2 n`. -/
theorem Blocks.twice {n : ℕ} {M : Matrix (Fin N) (Fin N) ℝ} (hM : Blocks n M) : Blocks (n * 2) M := by
  intro i j h
  refine hM i j (fun e => h ?_)
  rw [← Nat.div_div_eq_div_mul, ← Nat.div_div_eq_div_mul, e]

/-- A matrix kept where a condition holds, and zero elsewhere. -/
def keep (c : Fin N → Fin N → Prop) [∀ i j, Decidable (c i j)] (A : Matrix (Fin N) (Fin N) ℝ) : Matrix (Fin N) (Fin N) ℝ :=
  fun i j => if c i j then A i j else 0

/-- Every power of a strictly lower triangular matrix moves one place further below the diagonal. -/
theorem pow_lower {B : Matrix (Fin N) (Fin N) ℝ} (hl : ∀ i j : Fin N, i.val ≤ j.val → B i j = 0) :
    ∀ (k : ℕ) (i j : Fin N), i.val < j.val + k → (B ^ k) i j = 0 := by
  intro k
  induction k with
  | zero => intro i j h; rw [pow_zero]; exact Matrix.one_apply_ne (fun e => by rw [e] at h; omega)
  | succ k ih =>
    intro i j h
    rw [pow_succ', Matrix.mul_apply]
    refine Finset.sum_eq_zero fun l _ => ?_
    by_cases hle : i.val ≤ l.val
    · rw [hl i l hle, zero_mul]
    · rw [ih l j (by omega), mul_zero]

theorem Blocks.pow {n : ℕ} {B : Matrix (Fin N) (Fin N) ℝ} (hB : Blocks n B) : ∀ k, Blocks n (B ^ k)
  | 0 => by rw [pow_zero]; exact Blocks.one
  | k + 1 => by rw [pow_succ]; exact (Blocks.pow hB k).mul hB

/-- Inside blocks of side `n` the `n`-th power vanishes. -/
theorem pow_block_zero {n : ℕ} (hn : 0 < n) {B : Matrix (Fin N) (Fin N) ℝ} (hB : Blocks n B)
    (hl : ∀ i j : Fin N, i.val ≤ j.val → B i j = 0) : B ^ n = 0 := by
  ext i j
  by_cases h : i.val / n = j.val / n
  · refine pow_lower hl n i j ?_
    have hi := Nat.div_add_mod i.val n
    have hj := Nat.div_add_mod j.val n
    have hm := Nat.mod_lt i.val hn
    rw [h] at hi
    omega
  · exact hB.pow n i j h

/-- The sum of the first fifteen powers, by repeated squaring. -/
def geo (B : Matrix (Fin N) (Fin N) ℝ) : Matrix (Fin N) (Fin N) ℝ :=
  let p := B * B
  let e := B + p + B * p
  let p' := p * p
  let e' := e + p' + e * p'
  let p'' := p' * p'
  e' + p'' + e' * p''

theorem geo_mul (B : Matrix (Fin N) (Fin N) ℝ) : (1 + geo B) * (1 - B) = 1 - B ^ 16 := by
  unfold geo
  noncomm_ring

theorem Blocks.geo {n : ℕ} {B : Matrix (Fin N) (Fin N) ℝ} (hB : Blocks n B) : Blocks n (geo B) := by
  have h2 := hB.mul hB
  have h3 := (hB.add h2).add (hB.mul h2)
  have h4 := h2.mul h2
  have h5 := (h3.add h4).add (h3.mul h4)
  have h8 := h4.mul h4
  exact (h5.add h8).add (h5.mul h8)

/-- One merge of two neighbouring inverted blocks across the part `f` below the diagonal. -/
def merge (e f : Matrix (Fin N) (Fin N) ℝ) : Matrix (Fin N) (Fin N) ℝ :=
  e - ((f + e * f) + (f + e * f) * e)

theorem one_add_merge (e f : Matrix (Fin N) (Fin N) ℝ) : 1 + merge e f = (1 + e) - (1 + e) * f * (1 + e) := by
  unfold merge
  noncomm_ring

theorem merge_mul {e f l : Matrix (Fin N) (Fin N) ℝ} (h : (1 + e) * l = 1) (hf : f * (1 + e) * f = 0) :
    (1 + merge e f) * (l + f) = 1 := by
  rw [one_add_merge]
  have e1 : ((1 + e) - (1 + e) * f * (1 + e)) * (l + f)
      = (1 + e) * l + (1 + e) * f - (1 + e) * f * ((1 + e) * l) - (1 + e) * (f * (1 + e) * f) := by noncomm_ring
  rw [e1, h, hf]
  noncomm_ring

/-- Rows of odd blocks and columns of even blocks: across block-diagonal `M` two such factors do not meet. -/
theorem pair_zero {n : ℕ} {M f : Matrix (Fin N) (Fin N) ℝ} (hM : Blocks n M)
    (hf : ∀ i j : Fin N, ¬(i.val / (n * 2) = j.val / (n * 2) ∧ j.val / n < i.val / n) → f i j = 0) : f * M * f = 0 := by
  ext i j
  rw [Matrix.mul_apply]
  refine Finset.sum_eq_zero fun l _ => ?_
  by_cases hlj : l.val / (n * 2) = j.val / (n * 2) ∧ j.val / n < l.val / n
  · suffices h : (f * M) i l = 0 by rw [h, zero_mul]
    rw [Matrix.mul_apply]
    refine Finset.sum_eq_zero fun k _ => ?_
    by_cases hkl : k.val / n = l.val / n
    · rw [hf i k, zero_mul]
      rintro ⟨h1, h2⟩
      rw [← Nat.div_div_eq_div_mul, ← Nat.div_div_eq_div_mul] at h1
      rw [← Nat.div_div_eq_div_mul, ← Nat.div_div_eq_div_mul] at hlj
      omega
    · rw [hM k l hkl, mul_zero]
  · rw [hf l j hlj, mul_zero]

/-- The approximate inverses of the kernel, in the order it makes them: blocks of 16, of 32, of 64. -/
def inv64 (A : Matrix (Fin N) (Fin N) ℝ) : Matrix (Fin N) (Fin N) ℝ :=
  merge (merge (geo (keep (fun i j => i.val / 16 = j.val / 16) (-A)))
    (keep (fun i j => i.val / 32 = j.val / 32 ∧ j.val / 16 < i.val / 16) A))
    (keep (fun i j => i.val / 64 = j.val / 64 ∧ j.val / 32 < i.val / 32) A)

/-- The kernel's matrix plus one inverts the unit lower triangular matrix on blocks of 64. -/
theorem inv64_mul {A : Matrix (Fin N) (Fin N) ℝ}
    (hA : ∀ i j : Fin N, ¬(i.val / 64 = j.val / 64 ∧ j.val < i.val) → A i j = 0) : (1 + inv64 A) * (1 + A) = 1 := by
  have hl : ∀ i j : Fin N, i.val ≤ j.val → A i j = 0 := fun i j h => hA i j (fun e => by omega)
  set B := keep (fun i j => i.val / 16 = j.val / 16) (-A) with hB
  have hBb : Blocks 16 B := fun i j h => if_neg h
  have hBl : ∀ i j : Fin N, i.val ≤ j.val → B i j = 0 := fun i j h => by
    rw [hB]; unfold keep; rw [Matrix.neg_apply, hl i j h, neg_zero, ite_self]
  set f1 := keep (fun i j => i.val / 32 = j.val / 32 ∧ j.val / 16 < i.val / 16) A with hf1
  set f2 := keep (fun i j => i.val / 64 = j.val / 64 ∧ j.val / 32 < i.val / 32) A with hf2
  have h16 : (1 + geo B) * (1 - B) = 1 := by
    rw [geo_mul, pow_block_zero (by norm_num) hBb hBl, sub_zero]
  have hM1 : Blocks 16 (1 + geo B) := Blocks.one.add hBb.geo
  have h32 : (1 + merge (geo B) f1) * (1 - B + f1) = 1 :=
    merge_mul h16 (pair_zero hM1 (fun i j h => if_neg h))
  have hf1b : Blocks 32 f1 := fun i j h => if_neg (fun e => h e.1)
  have hM2 : Blocks 32 (1 + merge (geo B) f1) := by
    have h2 : Blocks 32 (1 + geo B) := hM1.twice
    rw [one_add_merge]
    exact h2.sub ((h2.mul hf1b).mul h2)
  have h64 : (1 + merge (merge (geo B) f1) f2) * (1 - B + f1 + f2) = 1 :=
    merge_mul h32 (pair_zero hM2 (fun i j h => if_neg h))
  have hsum : 1 - B + f1 + f2 = 1 + A := by
    rw [sub_add, sub_add]
    ext i j
    rw [Matrix.sub_apply, Matrix.add_apply, Matrix.sub_apply, Matrix.sub_apply, hB, hf1, hf2]
    unfold keep
    rw [Matrix.neg_apply]
    by_cases hij : i.val / 64 = j.val / 64 ∧ j.val < i.val
    · by_cases a : i.val / 16 = j.val / 16
      · rw [if_pos a, if_neg (by omega), if_neg (by omega)]; ring
      · by_cases b : i.val / 32 = j.val / 32
        · rw [if_neg a, if_pos (by omega), if_neg (by omega)]; ring
        · rw [if_neg a, if_neg (by omega), if_pos (by omega)]; ring
    · rw [hA i j hij]; simp
  rw [← hsum]
  exact h64

end Cert.Gdn
-- ==== Proof.Reals.lean ====
/- Vectors of extended reals that hold reals, and what the operations of a head do to them. -/
module

public import proofs.«01_k».proof.Proof.Masks
public import proofs.«01_k».proof.Proof.Inverse
public import Idealize.ShloMosaic.Lib.Pointwise

@[expose] public section

set_option maxRecDepth 16384

noncomputable section

namespace Cert.Gdn

open Idealize.ShloMosaic Idealize.ShloMosaic.Tactic Cert.KernelIdeal Cert.KernelIdeal.Gen

/-- A real matrix as a vector of extended reals. -/
def ofR {m n : ℕ} (M : Matrix (Fin m) (Fin n) ℝ) : FVec Ideal (⟨2, ![m, n]⟩ : Shape) .f32 := fun y => ((M (y 0) (y 1) : ℝ) : EReal)

theorem ofR_apply {m n : ℕ} (M : Matrix (Fin m) (Fin n) ℝ) (i : Fin m) (j : Fin n) : ofR M (ix2 i j) = ((M i j : ℝ) : EReal) := rfl

theorem coe_sum {ι : Type} (s : Finset ι) (f : ι → ℝ) : ∑ i ∈ s, ((f i : ℝ) : EReal) = ((∑ i ∈ s, f i : ℝ) : EReal) :=
  (map_sum (⟨⟨(fun x : ℝ => (x : EReal)), EReal.coe_zero⟩, EReal.coe_add⟩ : ℝ →+ EReal) f s).symm

variable {m n : ℕ}

theorem addf_ofR (A B : Matrix (Fin m) (Fin n) ℝ) : addf (ofR A) (ofR B) = ofR (A + B) := by
  funext y; exact (EReal.coe_add _ _).symm
theorem subf_ofR (A B : Matrix (Fin m) (Fin n) ℝ) : subf (ofR A) (ofR B) = ofR (A - B) := by
  funext y; exact (EReal.coe_sub _ _).symm
theorem mulf_ofR (A B : Matrix (Fin m) (Fin n) ℝ) : mulf (ofR A) (ofR B) = ofR (Matrix.of fun i j => A i j * B i j) := by
  funext y; exact (EReal.coe_mul _ _).symm
theorem exp2_ofR (A : Matrix (Fin m) (Fin n) ℝ) : exp2 (ofR A) = ofR (Matrix.of fun i j => (2 : ℝ) ^ A i j) := by
  funext y; exact Ideal.exp2_coe _
theorem zeroV_eq : zeroV (F := Ideal) (⟨2, ![m, n]⟩ : Shape) = ofR 0 := by
  funext y; exact Ideal.ofBits_zero_f32

theorem colB_ofR (c : Matrix (Fin 128) (Fin 1) ℝ) : colB (ofR c) = ofR (Matrix.of fun i _ => c i 0) := by
  funext y
  idx_vars y
  pointwise [colB, ofR, Matrix.of_apply]

theorem mm_ofR (A B : Matrix (Fin 128) (Fin 128) ℝ) : mm (ofR A) (ofR B) = ofR (A * B) := by
  funext y
  idx_vars y
  pointwise [mm, ofR]
  simp only [← EReal.coe_mul, coe_sum, Matrix.mul_apply]

theorem mmT_ofR (A B : Matrix (Fin 128) (Fin 128) ℝ) : mmT (ofR A) (ofR B) = ofR (A * B.transpose) := by
  funext y
  idx_vars y
  pointwise [mmT, ofR]
  simp only [← EReal.coe_mul, coe_sum, Matrix.mul_apply, Matrix.transpose_apply]

/-- A selection by a condition on row and column keeps part of the matrix. -/
theorem select_ofR (p : IVec S128x128 1) (c : Fin 128 → Fin 128 → Prop) [∀ i j, Decidable (c i j)]
    (hp : ∀ i j, p (ix2 i j) = if c i j then 1#1 else 0#1) (A : Matrix (Fin 128) (Fin 128) ℝ) :
    select p (ofR A) (zeroV S128x128) = ofR (keep c A) := by
  funext y
  obtain ⟨i, j, rfl⟩ : ∃ i j, y = ix2 i j := ⟨y 0, y 1, eq_ix2 y⟩
  show Scalar.select (p (ix2 i j)) (ofR A (ix2 i j)) (zeroV S128x128 (ix2 i j)) = _
  rw [hp, show zeroV (F := Ideal) S128x128 = ofR 0 from zeroV_eq]
  unfold keep ofR
  by_cases h : c i j
  · simp [h, Scalar.select]
  · simp only [if_neg h, Scalar.select]; simp [h]; rfl

theorem geoV_ofR (B : Matrix (Fin 128) (Fin 128) ℝ) : geoV (ofR B) = ofR (geo B) := by
  unfold geoV geo
  simp only [mm_ofR, addf_ofR]

theorem mergeV_ofR (e f : Matrix (Fin 128) (Fin 128) ℝ) : mergeV (ofR e) (ofR f) = ofR (merge e f) := by
  unfold mergeV merge
  simp only [mm_ofR, addf_ofR, subf_ofR]

theorem invV_ofR (A : Matrix (Fin 128) (Fin 128) ℝ) : invV (ofR A) = ofR (inv64 A) := by
  unfold invV inv64
  have e : subf (zeroV (F := Ideal) S128x128) (ofR A) = ofR (-A) := by
    rw [show zeroV (F := Ideal) S128x128 = ofR 0 from zeroV_eq, subf_ofR, zero_sub]
  rw [e, select_ofR (sameV 16#32) (fun i j => i.val / 16 = j.val / 16) (sameV_apply 16 (by norm_num)),
    select_ofR (pairV 32#32 16#32) (fun i j => i.val / 32 = j.val / 32 ∧ j.val / 16 < i.val / 16) (pairV_apply 32 16 (by norm_num) (by norm_num)),
    select_ofR (pairV 64#32 32#32) (fun i j => i.val / 64 = j.val / 64 ∧ j.val / 32 < i.val / 32) (pairV_apply 64 32 (by norm_num) (by norm_num)),
    geoV_ofR, mergeV_ofR, mergeV_ofR]

/-- A column and a row of reals. -/
def colR (g : Fin 128 → ℝ) : Matrix (Fin 128) (Fin 1) ℝ := Matrix.of fun i _ => g i
def rowR (g : Fin 128 → ℝ) : Matrix (Fin 1) (Fin 128) ℝ := Matrix.of fun _ j => g j

theorem decayV_ofR (g : Fin 128 → ℝ) : decayV (ofR (colR g)) (ofR (rowR g))
    = ofR (keep (fun i j => i.val / 64 = j.val / 64 ∧ j.val ≤ i.val) (Matrix.of fun i j => (2 : ℝ) ^ (g i - g j))) := by
  funext y
  obtain ⟨i, j, rfl⟩ : ∃ i j, y = ix2 i j := ⟨y 0, y 1, eq_ix2 y⟩
  unfold decayV
  have h := causalV_apply i j
  pointwise [colB, ofR]
  rw [h]
  unfold keep colR rowR
  simp only [Matrix.of_apply]
  by_cases hc : i.val / 64 = j.val / 64 ∧ j.val ≤ i.val
  · simp only [hc, if_true]
    show Ideal.exp2 (((g i : ℝ) : EReal) - ((g j : ℝ) : EReal)) = _
    rw [← EReal.coe_sub, Ideal.exp2_coe]
    simp
  · simp only [hc, if_false]
    show Ideal.exp2 (Ideal.ofBits FTy.f32 4286578688#32) = _
    rw [show Ideal.ofBits FTy.f32 4286578688#32 = ⊥ by simp [Ideal.ofBits, Ideal.ieee], Ideal.exp2_bot]
    simp

theorem lastV_ofR (c : Matrix (Fin 128) (Fin 1) ℝ) : lastV (ofR c) = ofR (Matrix.of fun i _ => c ⟨i.val / 64 * 64 + 63, by omega⟩ 0) := by
  funext y
  idx_vars y
  pointwise [lastV, ofR, Matrix.of_apply]

/-- Two matrices side by side. -/
def hcat {m : ℕ} (A B : Matrix (Fin m) (Fin 128) ℝ) : Matrix (Fin m) (Fin 256) ℝ :=
  Matrix.of fun i j => if h : j.val < 128 then A i ⟨j.val, h⟩ else B i ⟨j.val - 128, by omega⟩

theorem lowV_ofR (k : Matrix (Fin 128) (Fin 128) ℝ) (g b : Fin 128 → ℝ) :
    lowV (ofR k) (ofR (colR g)) (ofR (colR b)) (ofR (rowR g))
      = ofR (keep (fun i j => i.val / 64 = j.val / 64 ∧ j.val < i.val)
          (Matrix.of fun i j => (k * k.transpose) i j * b i * (2 : ℝ) ^ (g i - g j))) := by
  unfold lowV
  rw [mmT_ofR, colB_ofR, decayV_ofR, mulf_ofR, mulf_ofR, select_ofR strictV _ strictV_apply]
  refine congrArg ofR (funext fun i => funext fun j => ?_)
  unfold keep colR
  simp only [Matrix.of_apply]
  by_cases h : i.val / 64 = j.val / 64 ∧ j.val < i.val
  · rw [if_pos h, if_pos h, if_pos ⟨h.1, h.2.le⟩]
  · rw [if_neg h, if_neg h]

theorem rhsV_ofR (k v : Matrix (Fin 128) (Fin 128) ℝ) (g b : Fin 128 → ℝ) :
    rhsV (ofR k) (ofR v) (ofR (colR g)) (ofR (colR b))
      = ofR (hcat (Matrix.of fun i j => v i j * b i) (Matrix.of fun i j => k i j * (b i * (2 : ℝ) ^ g i))) := by
  unfold rhsV
  rw [exp2_ofR, mulf_ofR, colB_ofR, colB_ofR, mulf_ofR, mulf_ofR]
  funext y
  idx_vars y
  pointwise [ofR, hcat, colR, Matrix.of_apply]
  split <;> rfl

theorem mmW_ofR (X A B : Matrix (Fin 128) (Fin 128) ℝ) : mmW (ofR X) (ofR (hcat A B)) = ofR (hcat (X * A) (X * B)) := by
  funext y
  idx_vars y
  pointwise [mmW, ofR]
  simp only [← EReal.coe_mul, coe_sum]
  simp only [hcat, Matrix.of_apply]
  split <;> simp only [Matrix.mul_apply]

theorem addf_hcat {m : ℕ} (A B A' B' : Matrix (Fin m) (Fin 128) ℝ) : addf (ofR (hcat A B)) (ofR (hcat A' B')) = ofR (hcat (A + A') (B + B')) := by
  rw [addf_ofR]
  refine congrArg ofR (funext fun i => funext fun j => ?_)
  rw [Matrix.add_apply]
  simp only [hcat, Matrix.of_apply]
  split <;> rw [Matrix.add_apply]

theorem left_ofR (A B : Matrix (Fin 128) (Fin 128) ℝ) :
    extractStridedSlice S128x128 ![0, 0] (ofR (hcat A B) : FVec Ideal S128x256 .f32) slices_S128x256_o0_0_S128x128 = ofR A := by
  funext y
  idx_vars y
  pointwise [ofR, hcat, Matrix.of_apply]

theorem right_ofR (A B : Matrix (Fin 128) (Fin 128) ℝ) :
    extractStridedSlice S128x128 ![0, 128] (ofR (hcat A B) : FVec Ideal S128x256 .f32) slices_S128x256_o0_128_S128x128 = ofR B := by
  funext y
  idx_vars y
  pointwise [ofR, hcat, Matrix.of_apply]

/-- The strictly lower triangular part of a tile's system; the weighted values and keys; the solutions. -/
def lowR (k : Matrix (Fin 128) (Fin 128) ℝ) (g b : Fin 128 → ℝ) : Matrix (Fin 128) (Fin 128) ℝ :=
  keep (fun i j => i.val / 64 = j.val / 64 ∧ j.val < i.val) (Matrix.of fun i j => (k * k.transpose) i j * b i * (2 : ℝ) ^ (g i - g j))
def valR (v : Matrix (Fin 128) (Fin 128) ℝ) (b : Fin 128 → ℝ) : Matrix (Fin 128) (Fin 128) ℝ := Matrix.of fun i j => v i j * b i
def keyR (k : Matrix (Fin 128) (Fin 128) ℝ) (g b : Fin 128 → ℝ) : Matrix (Fin 128) (Fin 128) ℝ :=
  Matrix.of fun i j => k i j * (b i * (2 : ℝ) ^ g i)
def solR (k x : Matrix (Fin 128) (Fin 128) ℝ) (g b : Fin 128 → ℝ) : Matrix (Fin 128) (Fin 128) ℝ := (1 + inv64 (lowR k g b)) * x
/-- The decayed attention inside a chunk. -/
def attR (q k : Matrix (Fin 128) (Fin 128) ℝ) (g : Fin 128 → ℝ) : Matrix (Fin 128) (Fin 128) ℝ :=
  keep (fun i j => i.val / 64 = j.val / 64 ∧ j.val ≤ i.val) (Matrix.of fun i j => (q * k.transpose) i j * (2 : ℝ) ^ (g i - g j))
/-- The queries and keys as the state meets them. -/
def qEffR (q w : Matrix (Fin 128) (Fin 128) ℝ) (g : Fin 128 → ℝ) : Matrix (Fin 128) (Fin 128) ℝ :=
  Matrix.of fun i j => q i j * (2 : ℝ) ^ g i - w i j
def kDecR (k : Matrix (Fin 128) (Fin 128) ℝ) (g : Fin 128 → ℝ) : Matrix (Fin 128) (Fin 128) ℝ :=
  Matrix.of fun i j => k i j * (2 : ℝ) ^ (g ⟨i.val / 64 * 64 + 63, by omega⟩ - g i)
/-- The rows of one chunk of the tile. -/
def rows {n : ℕ} (r : Fin 2) (M : Matrix (Fin 128) (Fin n) ℝ) : Matrix (Fin 64) (Fin n) ℝ :=
  Matrix.of fun i j => M ⟨64 * r.val + i.val, by omega⟩ j

theorem solV_ofR (k v : Matrix (Fin 128) (Fin 128) ℝ) (g b : Fin 128 → ℝ) :
    solV (ofR k) (ofR v) (ofR (colR g)) (ofR (colR b)) (ofR (rowR g))
      = ofR (hcat (solR k (valR v b) g b) (solR k (keyR k g b) g b)) := by
  unfold solV
  rw [rhsV_ofR, lowV_ofR, invV_ofR, mmW_ofR, addf_hcat]
  unfold solR
  rw [add_mul, add_mul, one_mul, one_mul]
  rfl

theorem qkSolV_ofR (q k v : Matrix (Fin 128) (Fin 128) ℝ) (g b : Fin 128 → ℝ) :
    qkSolV (ofR q) (ofR k) (ofR v) (ofR (colR g)) (ofR (colR b)) (ofR (rowR g))
      = ofR (hcat (attR q k g * solR k (valR v b) g b) (attR q k g * solR k (keyR k g b) g b)) := by
  unfold qkSolV
  rw [solV_ofR, mmT_ofR, decayV_ofR, mulf_ofR, select_ofR causalV _ causalV_apply, ← mmW_ofR]
  refine congrArg (fun x => mmW (ofR x) _) (funext fun i => funext fun j => ?_)
  unfold attR keep
  simp only [Matrix.of_apply]
  by_cases h : i.val / 64 = j.val / 64 ∧ j.val ≤ i.val
  · rw [if_pos h, if_pos h, if_pos h]
  · rw [if_neg h, if_neg h]

theorem qEffV_ofR (q u w : Matrix (Fin 128) (Fin 128) ℝ) (g : Fin 128 → ℝ) :
    qEffV (ofR q) (ofR (colR g)) (ofR (hcat u w)) = ofR (qEffR q w g) := by
  unfold qEffV
  rw [right_ofR, exp2_ofR, colB_ofR, mulf_ofR, subf_ofR]
  rfl

theorem kDecV_ofR (k : Matrix (Fin 128) (Fin 128) ℝ) (g : Fin 128 → ℝ) : kDecV (ofR k) (ofR (colR g)) = ofR (kDecR k g) := by
  unfold kDecV
  rw [lastV_ofR, subf_ofR, exp2_ofR, colB_ofR, mulf_ofR]
  rfl

theorem rows0_ofR (M : Matrix (Fin 128) (Fin 128) ℝ) :
    extractStridedSlice S64x128 ![0, 0] (ofR M : FVec Ideal S128x128 .f32) slices_S128x128_o0_0_S64x128 = ofR (rows 0 M) := by
  funext y
  idx_vars y
  pointwise [ofR, rows, Matrix.of_apply]
theorem rows1_ofR (M : Matrix (Fin 128) (Fin 128) ℝ) :
    extractStridedSlice S64x128 ![64, 0] (ofR M : FVec Ideal S128x128 .f32) slices_S128x128_o64_0_S64x128 = ofR (rows 1 M) := by
  funext y
  idx_vars y
  pointwise [ofR, rows, Matrix.of_apply]
theorem rows0_hcat (A B : Matrix (Fin 128) (Fin 128) ℝ) :
    extractStridedSlice S64x256 ![0, 0] (ofR (hcat A B) : FVec Ideal S128x256 .f32) slices_S128x256_o0_0_S64x256 = ofR (hcat (rows 0 A) (rows 0 B)) := by
  funext y
  idx_vars y
  pointwise [ofR, rows, hcat, Matrix.of_apply]
theorem rows1_hcat (A B : Matrix (Fin 128) (Fin 128) ℝ) :
    extractStridedSlice S64x256 ![64, 0] (ofR (hcat A B) : FVec Ideal S128x256 .f32) slices_S128x256_o64_0_S64x256 = ofR (hcat (rows 1 A) (rows 1 B)) := by
  funext y
  idx_vars y
  pointwise [ofR, rows, hcat, Matrix.of_apply]
theorem rows0_left (A B : Matrix (Fin 128) (Fin 128) ℝ) :
    extractStridedSlice S64x128 ![0, 0] (ofR (hcat A B) : FVec Ideal S128x256 .f32) slices_S128x256_o0_0_S64x128 = ofR (rows 0 A) := by
  funext y
  idx_vars y
  pointwise [ofR, rows, hcat, Matrix.of_apply]
theorem rows1_left (A B : Matrix (Fin 128) (Fin 128) ℝ) :
    extractStridedSlice S64x128 ![64, 0] (ofR (hcat A B) : FVec Ideal S128x256 .f32) slices_S128x256_o64_0_S64x128 = ofR (rows 1 A) := by
  funext y
  idx_vars y
  pointwise [ofR, rows, hcat, Matrix.of_apply]

theorem ktSolV_ofR (K A B : Matrix (Fin 64) (Fin 128) ℝ) :
    ktSolV (ofR K) (ofR (hcat A B)) = ofR (hcat (K.transpose * A) (K.transpose * B)) := by
  funext y
  idx_vars y
  pointwise [ktSolV, ofR]
  simp only [← EReal.coe_mul, coe_sum]
  simp only [hcat, Matrix.of_apply]
  split <;> simp only [Matrix.mul_apply, Matrix.transpose_apply]

theorem prodV_top (A B : Matrix (Fin 128) (Fin 128) ℝ) (Q : Matrix (Fin 64) (Fin 128) ℝ) (S : Matrix (Fin 128) (Fin 128) ℝ) :
    extractStridedSlice S128x128 ![0, 0] (prodV (ofR (hcat A B)) (ofR Q) (ofR S)) slices_S192x128_o0_0_S128x128 = ofR (B * S) := by
  funext y
  idx_vars y
  pointwise [prodV, ofR]
  simp only [← EReal.coe_mul, coe_sum]
  simp only [hcat, Matrix.of_apply, Nat.add_sub_cancel_left, Matrix.mul_apply]
  simp

theorem prodV_low (A B : Matrix (Fin 128) (Fin 128) ℝ) (Q : Matrix (Fin 64) (Fin 128) ℝ) (S : Matrix (Fin 128) (Fin 128) ℝ) :
    extractStridedSlice S64x128 ![128, 0] (prodV (ofR (hcat A B)) (ofR Q) (ofR S)) slices_S192x128_o128_0_S64x128 = ofR (Q * S) := by
  funext y
  idx_vars y
  pointwise [prodV, ofR]
  simp only [← EReal.coe_mul, coe_sum, Matrix.mul_apply]

/-- The state after a chunk. -/
def nextR (A B S : Matrix (Fin 128) (Fin 128) ℝ) (c : ℝ) : Matrix (Fin 128) (Fin 128) ℝ := Matrix.of (fun e f => S e f * c) - B * S + A

theorem nextV_ofR (A B : Matrix (Fin 128) (Fin 128) ℝ) (Q : Matrix (Fin 64) (Fin 128) ℝ) (S : Matrix (Fin 128) (Fin 128) ℝ) (c : ℝ) :
    nextV (ofR (hcat A B)) (ofR Q) (ofR S) (ofR (Matrix.of fun _ _ => c)) = ofR (nextR A B S c) := by
  unfold nextV
  have hb : broadcastTo S128x128 (ofR (Matrix.of fun _ _ => c) : FVec Ideal S1x1 .f32) broadcasts_S1x1_S128x128
      = ofR (Matrix.of fun (_ _ : Fin 128) => c) := by
    funext y
    idx_vars y
    pointwise [ofR, Matrix.of_apply]
  rw [prodV_top, left_ofR, hb, mulf_ofR, subf_ofR, addf_ofR]
  rfl

/-- A chunk's solution, its state after, and its outputs, for the state `S` before it. -/
def stepR (r : Fin 2) (k v : Matrix (Fin 128) (Fin 128) ℝ) (g b : Fin 128 → ℝ) (S : Matrix (Fin 128) (Fin 128) ℝ) : Matrix (Fin 128) (Fin 128) ℝ :=
  nextR ((rows r (kDecR k g)).transpose * rows r (solR k (valR v b) g b)) ((rows r (kDecR k g)).transpose * rows r (solR k (keyR k g b) g b)) S
    ((2 : ℝ) ^ g ⟨64 * r.val + 63, by omega⟩)
def outR (r : Fin 2) (q k v : Matrix (Fin 128) (Fin 128) ℝ) (g b : Fin 128 → ℝ) (S : Matrix (Fin 128) (Fin 128) ℝ) : Matrix (Fin 64) (Fin 128) ℝ :=
  rows r (qEffR q (attR q k g * solR k (keyR k g b) g b) g) * S + rows r (attR q k g * solR k (valR v b) g b)

section Head

variable (q k v : Matrix (Fin 128) (Fin 128) ℝ) (g b : Fin 128 → ℝ) (S : Matrix (Fin 128) (Fin 128) ℝ)

theorem kt0_ofR : kt0 (ofR k) (ofR v) (ofR (colR g)) (ofR (colR b)) (ofR (rowR g))
    = ofR (hcat ((rows 0 (kDecR k g)).transpose * rows 0 (solR k (valR v b) g b)) ((rows 0 (kDecR k g)).transpose * rows 0 (solR k (keyR k g b) g b))) := by
  unfold kt0
  rw [kDecV_ofR, solV_ofR, rows0_ofR, rows0_hcat, ktSolV_ofR]
theorem kt1_ofR : kt1 (ofR k) (ofR v) (ofR (colR g)) (ofR (colR b)) (ofR (rowR g))
    = ofR (hcat ((rows 1 (kDecR k g)).transpose * rows 1 (solR k (valR v b) g b)) ((rows 1 (kDecR k g)).transpose * rows 1 (solR k (keyR k g b) g b))) := by
  unfold kt1
  rw [kDecV_ofR, solV_ofR, rows1_ofR, rows1_hcat, ktSolV_ofR]
theorem qe0_ofR : qe0 (ofR q) (ofR k) (ofR v) (ofR (colR g)) (ofR (colR b)) (ofR (rowR g))
    = ofR (rows 0 (qEffR q (attR q k g * solR k (keyR k g b) g b) g)) := by
  unfold qe0
  rw [qkSolV_ofR, qEffV_ofR, rows0_ofR]
theorem qe1_ofR : qe1 (ofR q) (ofR k) (ofR v) (ofR (colR g)) (ofR (colR b)) (ofR (rowR g))
    = ofR (rows 1 (qEffR q (attR q k g * solR k (keyR k g b) g b) g)) := by
  unfold qe1
  rw [qkSolV_ofR, qEffV_ofR, rows1_ofR]
theorem last0_ofR : extractStridedSlice S1x1 ![0, 0] (exp2 (lastV (ofR (colR g)))) slices_S128x1_o0_0_S1x1
    = ofR (Matrix.of fun _ _ => (2 : ℝ) ^ g ⟨64 * (0 : Fin 2).val + 63, by decide⟩) := by
  rw [lastV_ofR, exp2_ofR]
  funext y
  idx_vars y
  pointwise [ofR, colR, Matrix.of_apply]
theorem last1_ofR : extractStridedSlice S1x1 ![64, 0] (exp2 (lastV (ofR (colR g)))) slices_S128x1_o64_0_S1x1
    = ofR (Matrix.of fun _ _ => (2 : ℝ) ^ g ⟨64 * (1 : Fin 2).val + 63, by decide⟩) := by
  rw [lastV_ofR, exp2_ofR]
  funext y
  idx_vars y
  pointwise [ofR, colR, Matrix.of_apply]

theorem st1_ofR : st1 (ofR q) (ofR k) (ofR v) (ofR (colR g)) (ofR (colR b)) (ofR (rowR g)) (ofR S) = ofR (stepR 0 k v g b S) := by
  unfold st1
  rw [kt0_ofR, qe0_ofR, last0_ofR, nextV_ofR]
  rfl
theorem st2_ofR : st2 (ofR q) (ofR k) (ofR v) (ofR (colR g)) (ofR (colR b)) (ofR (rowR g)) (ofR S)
    = ofR (stepR 1 k v g b (stepR 0 k v g b S)) := by
  unfold st2
  rw [st1_ofR, kt1_ofR, qe1_ofR, last1_ofR, nextV_ofR]
  rfl
theorem o0_ofR : o0 (ofR q) (ofR k) (ofR v) (ofR (colR g)) (ofR (colR b)) (ofR (rowR g)) (ofR S) = ofR (outR 0 q k v g b S) := by
  unfold o0
  rw [kt0_ofR, qe0_ofR, qkSolV_ofR, prodV_low, rows0_left, addf_ofR]
  rfl
theorem o1_ofR : o1 (ofR q) (ofR k) (ofR v) (ofR (colR g)) (ofR (colR b)) (ofR (rowR g)) (ofR S)
    = ofR (outR 1 q k v g b (stepR 0 k v g b S)) := by
  unfold o1
  rw [st1_ofR, kt1_ofR, qe1_ofR, qkSolV_ofR, prodV_low, rows1_left, addf_ofR]
  rfl

end Head

end Cert.Gdn
-- ==== Proof.Chunk.lean ====
/- A chunk's closed form is the token-by-token recurrence. -/
module

public import proofs.«01_k».proof.Proof.Reals

@[expose] public section

noncomputable section

namespace Cert.Gdn

open Finset

variable (q k v : ℕ → Fin 128 → ℝ) (g b : ℕ → ℝ)

/-- The decay of a token: the step of the log decay, which starts from zero in each chunk. -/
def decN (t : ℕ) : ℝ := (2 : ℝ) ^ (g t - if t % 64 = 0 then 0 else g (t - 1))

/-- What a token writes to the state at `S`, the state after it, and what its query reads. -/
def deltaN (S : Fin 128 → Fin 128 → ℝ) (t : ℕ) (f : Fin 128) : ℝ := (v t f - ∑ e, k t e * (S e f * decN g t)) * b t
def nextN (S : Fin 128 → Fin 128 → ℝ) (t : ℕ) (e f : Fin 128) : ℝ := S e f * decN g t + k t e * deltaN k v g b S t f
def stN : ℕ → Fin 128 → Fin 128 → ℝ
  | 0 => fun _ _ => 0
  | t + 1 => nextN k v g b (stN t) t
def outN (t : ℕ) (f : Fin 128) : ℝ := ∑ e, q t e * stN k v g b (t + 1) e f

/-- What token `t` writes. -/
def dN (t : ℕ) (f : Fin 128) : ℝ := deltaN k v g b (stN k v g b t) t f

theorem pow_trans (x y z : ℝ) : (2 : ℝ) ^ (y - z) * (2 : ℝ) ^ (x - y) = (2 : ℝ) ^ (x - z) := by
  rw [← Real.rpow_add (by norm_num)]; congr 1; ring

theorem pow_trans' (x y : ℝ) : (2 : ℝ) ^ y * (2 : ℝ) ^ (x - y) = (2 : ℝ) ^ x := by
  rw [← Real.rpow_add (by norm_num)]; congr 1; ring

theorem stN_succ (t : ℕ) (e f : Fin 128) : stN k v g b (t + 1) e f = stN k v g b t e f * decN g t + k t e * dN k v g b t f := rfl

theorem decayed (s : ℕ) (hs : s % 64 = 0) (i : ℕ) (hi : i < 64) (e f : Fin 128) :
    stN k v g b (s + i) e f * decN g (s + i) = stN k v g b s e f * (2 : ℝ) ^ g (s + i)
      + ∑ j ∈ range i, k (s + j) e * (2 : ℝ) ^ (g (s + i) - g (s + j)) * dN k v g b (s + j) f := by
  induction i with
  | zero => simp [decN, hs]
  | succ i ih =>
    have h1 : decN g (s + (i + 1)) = (2 : ℝ) ^ (g (s + (i + 1)) - g (s + i)) := by
      unfold decN
      rw [if_neg (by omega)]
      rfl
    rw [h1, show s + (i + 1) = (s + i) + 1 from rfl, stN_succ, ih (by omega), sum_range_succ, add_mul, add_mul, sum_mul, mul_assoc,
      pow_trans', add_assoc]
    congr 1
    congr 1
    · refine sum_congr rfl fun j _ => ?_
      rw [← pow_trans (g (s + i + 1)) (g (s + i)) (g (s + j))]
      ring
    · ring

theorem stN_chunk (s : ℕ) (hs : s % 64 = 0) (i : ℕ) (hi : i < 64) (e f : Fin 128) :
    stN k v g b (s + i + 1) e f = stN k v g b s e f * (2 : ℝ) ^ g (s + i)
      + ∑ j ∈ range (i + 1), k (s + j) e * (2 : ℝ) ^ (g (s + i) - g (s + j)) * dN k v g b (s + j) f := by
  rw [stN_succ, decayed k v g b s hs i hi, sum_range_succ, sub_self, Real.rpow_zero, mul_one, add_assoc]

/-- A sum over the tile of what is kept on one chunk. -/
theorem sum_chunk (r : Fin 2) (n : ℕ) (hn : n ≤ 64) (F : Fin 128 → ℝ) (G : ℕ → ℝ) (c : Fin 128 → Prop) [DecidablePred c]
    (hc : ∀ j, c j ↔ 64 * r.val ≤ j.val ∧ j.val < 64 * r.val + n) (h : ∀ j (h : j < n), F ⟨64 * r.val + j, by omega⟩ = G j) :
    ∑ j, (if c j then F j else 0) = ∑ j ∈ range n, G j := by
  have h1 : ∀ j : Fin 128, (if c j then F j else 0)
      = (fun m : ℕ => if 64 * r.val ≤ m ∧ m < 64 * r.val + n then G (m - 64 * r.val) else 0) j.val := by
    intro j
    by_cases hj : c j
    · have hj' := (hc j).mp hj
      rw [if_pos hj]
      simp only [if_pos hj']
      rw [← h _ (by omega)]
      congr 1
      exact Fin.ext (by simp only []; omega)
    · rw [if_neg hj]
      simp only [if_neg (fun h => hj ((hc j).mpr h))]
  rw [sum_congr rfl fun j _ => h1 j, Fin.sum_univ_eq_sum_range (fun m : ℕ => if 64 * r.val ≤ m ∧ m < 64 * r.val + n then G (m - 64 * r.val) else 0) 128,
    ← sum_filter]
  have h2 : filter (fun m => 64 * r.val ≤ m ∧ m < 64 * r.val + n) (range 128) = Ico (64 * r.val) (64 * r.val + n) := by
    ext m
    simp only [mem_filter, mem_range, mem_Ico]
    omega
  rw [h2, sum_Ico_eq_sum_range, Nat.add_sub_cancel_left]
  exact sum_congr rfl fun j _ => by rw [Nat.add_sub_cancel_left]

/-- The rows of a tile that starts at token `T`. -/
def tileM (x : ℕ → Fin 128 → ℝ) (T : ℕ) : Matrix (Fin 128) (Fin 128) ℝ := Matrix.of fun i j => x (T + i.val) j
def tileC (x : ℕ → ℝ) (T : ℕ) : Fin 128 → ℝ := fun i => x (T + i.val)
def stM (t : ℕ) : Matrix (Fin 128) (Fin 128) ℝ := Matrix.of fun e f => stN k v g b t e f

/-- The solution of a tile's system, for the state `S`. -/
def solD (T : ℕ) (S : Matrix (Fin 128) (Fin 128) ℝ) : Matrix (Fin 128) (Fin 128) ℝ :=
  solR (tileM k T) (valR (tileM v T) (tileC b T)) (tileC g T) (tileC b T)
    - solR (tileM k T) (keyR (tileM k T) (tileC g T) (tileC b T)) (tileC g T) (tileC b T) * S

theorem solD_eq (T : ℕ) (S : Matrix (Fin 128) (Fin 128) ℝ) :
    solD k v g b T S + lowR (tileM k T) (tileC g T) (tileC b T) * solD k v g b T S
      = valR (tileM v T) (tileC b T) - keyR (tileM k T) (tileC g T) (tileC b T) * S := by
  have h : (1 + lowR (tileM k T) (tileC g T) (tileC b T)) * (1 + inv64 (lowR (tileM k T) (tileC g T) (tileC b T))) = 1 :=
    mul_eq_one_comm.mp (inv64_mul fun i j hij => if_neg hij)
  have e : solD k v g b T S = (1 + inv64 (lowR (tileM k T) (tileC g T) (tileC b T)))
      * (valR (tileM v T) (tileC b T) - keyR (tileM k T) (tileC g T) (tileC b T) * S) := by
    unfold solD solR
    rw [mul_sub, Matrix.mul_assoc]
  calc _ = (1 + lowR (tileM k T) (tileC g T) (tileC b T)) * solD k v g b T S := by rw [add_mul, one_mul]
    _ = _ := by rw [e, ← Matrix.mul_assoc, h, one_mul]

/-- On the rows of its own chunk the solution is what the tokens write. -/
theorem solD_row (T : ℕ) (hT : T % 64 = 0) (r : Fin 2) (i : ℕ) (hi : i < 64) (f : Fin 128) :
    solD k v g b T (stM k v g b (T + 64 * r.val)) ⟨64 * r.val + i, by omega⟩ f = dN k v g b (T + 64 * r.val + i) f := by
  induction i using Nat.strong_induction_on with
  | _ i ih =>
    have h := congrFun (congrFun (solD_eq k v g b T (stM k v g b (T + 64 * r.val))) ⟨64 * r.val + i, by omega⟩) f
    rw [Matrix.add_apply, Matrix.sub_apply, Matrix.mul_apply, Matrix.mul_apply] at h
    have hsum : ∑ j, lowR (tileM k T) (tileC g T) (tileC b T) ⟨64 * r.val + i, by omega⟩ j * solD k v g b T (stM k v g b (T + 64 * r.val)) j f
        = ∑ j ∈ range i, (∑ e, k (T + 64 * r.val + i) e * k (T + 64 * r.val + j) e) * b (T + 64 * r.val + i)
            * (2 : ℝ) ^ (g (T + 64 * r.val + i) - g (T + 64 * r.val + j)) * dN k v g b (T + 64 * r.val + j) f := by
      refine Eq.trans (sum_congr rfl fun j _ => ?_) (sum_chunk r i hi.le
        (fun j => (tileM k T * (tileM k T).transpose) ⟨64 * r.val + i, by omega⟩ j * tileC b T ⟨64 * r.val + i, by omega⟩
            * (2 : ℝ) ^ (tileC g T ⟨64 * r.val + i, by omega⟩ - tileC g T j) * solD k v g b T (stM k v g b (T + 64 * r.val)) j f) _
        (fun j => (64 * r.val + i) / 64 = j.val / 64 ∧ j.val < 64 * r.val + i) (fun j => by omega) (fun j hj => ?_))
      · unfold lowR keep
        simp only [Matrix.of_apply, ite_mul, zero_mul]
      · rw [ih j hj (by omega)]
        simp only [Matrix.mul_apply, Matrix.transpose_apply, tileM, tileC, Matrix.of_apply, ← Nat.add_assoc]
    rw [hsum] at h
    have h2 : solD k v g b T (stM k v g b (T + 64 * r.val)) ⟨64 * r.val + i, by omega⟩ f = _ := eq_sub_of_add_eq h
    rw [h2]
    refine Eq.trans ?_ (show deltaN k v g b (stN k v g b (T + 64 * r.val + i)) (T + 64 * r.val + i) f = _ from rfl)
    unfold deltaN
    simp only [decayed k v g b (T + 64 * r.val) (by omega) i hi]
    simp only [valR, keyR, stM, tileM, tileC, Matrix.of_apply, ← Nat.add_assoc, mul_add, sum_add_distrib, sub_mul, add_mul, sum_mul, mul_sum]
    rw [sum_comm (s := range i), sub_sub]
    congr 1
    congr 1
    · exact sum_congr rfl fun e _ => by ring
    · exact sum_congr rfl fun e _ => sum_congr rfl fun j _ => by ring

theorem stepR_eq (T : ℕ) (hT : T % 64 = 0) (r : Fin 2) :
    stepR r (tileM k T) (tileM v T) (tileC g T) (tileC b T) (stM k v g b (T + 64 * r.val)) = stM k v g b (T + 64 * r.val + 64) := by
  have e : stepR r (tileM k T) (tileM v T) (tileC g T) (tileC b T) (stM k v g b (T + 64 * r.val))
      = Matrix.of (fun e f => stM k v g b (T + 64 * r.val) e f * (2 : ℝ) ^ tileC g T ⟨64 * r.val + 63, by omega⟩)
        + (rows r (kDecR (tileM k T) (tileC g T))).transpose * rows r (solD k v g b T (stM k v g b (T + 64 * r.val))) := by
    have hd : rows r (solD k v g b T (stM k v g b (T + 64 * r.val)))
        = rows r (solR (tileM k T) (valR (tileM v T) (tileC b T)) (tileC g T) (tileC b T))
          - rows r (solR (tileM k T) (keyR (tileM k T) (tileC g T) (tileC b T)) (tileC g T) (tileC b T)) * stM k v g b (T + 64 * r.val) := rfl
    unfold stepR nextR
    rw [hd, Matrix.mul_sub, Matrix.mul_assoc]
    abel
  rw [e]
  funext x f
  rw [Matrix.add_apply, Matrix.mul_apply]
  have h := stN_chunk k v g b (T + 64 * r.val) (by omega) 63 (by norm_num) x f
  refine Eq.trans ?_ h.symm
  refine congrArg₂ (· + ·) ?_ ?_
  · simp only [stM, tileC, Matrix.of_apply, ← Nat.add_assoc]
  · rw [← Fin.sum_univ_eq_sum_range (fun j => k (T + 64 * r.val + j) x * (2 : ℝ) ^ (g (T + 64 * r.val + 63) - g (T + 64 * r.val + j)) * dN k v g b (T + 64 * r.val + j) f) 64]
    refine sum_congr rfl fun a _ => ?_
    rw [← solD_row k v g b T hT r a.val a.isLt f]
    have : T + (64 * r.val + a.val) / 64 * 64 + 63 = T + 64 * r.val + 63 := by omega
    simp only [rows, kDecR, tileM, tileC, Matrix.of_apply, Matrix.transpose_apply, this, ← Nat.add_assoc]

theorem outR_eq (T : ℕ) (hT : T % 64 = 0) (r : Fin 2) (i : Fin 64) (f : Fin 128) :
    outR r (tileM q T) (tileM k T) (tileM v T) (tileC g T) (tileC b T) (stM k v g b (T + 64 * r.val)) i f
      = outN q k v g b (T + 64 * r.val + i.val) f := by
  have e : outR r (tileM q T) (tileM k T) (tileM v T) (tileC g T) (tileC b T) (stM k v g b (T + 64 * r.val))
      = rows r (Matrix.of fun i j => tileM q T i j * (2 : ℝ) ^ tileC g T i) * stM k v g b (T + 64 * r.val)
        + rows r (attR (tileM q T) (tileM k T) (tileC g T) * solD k v g b T (stM k v g b (T + 64 * r.val))) := by
    have hd : ∀ A B C : Matrix (Fin 128) (Fin 128) ℝ, rows r (A - B) * C = rows r A * C - rows r (B * C) := fun A B C =>
      (show rows r (A - B) * C = (rows r A - rows r B) * C from rfl).trans (Matrix.sub_mul _ _ _)
    have hs : ∀ A B : Matrix (Fin 128) (Fin 128) ℝ, rows r (A - B) = rows r A - rows r B := fun A B => rfl
    have hq : ∀ w, qEffR (tileM q T) w (tileC g T) = (Matrix.of fun i j => tileM q T i j * (2 : ℝ) ^ tileC g T i) - w := fun w => rfl
    unfold outR solD
    rw [hq, hd, Matrix.mul_sub, hs, Matrix.mul_assoc]
    abel
  rw [e, Matrix.add_apply, Matrix.mul_apply]
  unfold outN
  simp only [stN_chunk k v g b (T + 64 * r.val) (by omega) i.val i.isLt]
  rw [sum_congr rfl fun e _ => mul_add _ _ _, sum_add_distrib]
  refine congrArg₂ (· + ·) (sum_congr rfl fun x _ => ?_) ?_
  · simp only [rows, stM, tileM, tileC, Matrix.of_apply, ← Nat.add_assoc]
    ring
  · have hsum : (attR (tileM q T) (tileM k T) (tileC g T) * solD k v g b T (stM k v g b (T + 64 * r.val))) ⟨64 * r.val + i.val, by omega⟩ f
        = ∑ j ∈ range (i.val + 1), (∑ e, q (T + 64 * r.val + i.val) e * k (T + 64 * r.val + j) e)
            * (2 : ℝ) ^ (g (T + 64 * r.val + i.val) - g (T + 64 * r.val + j)) * dN k v g b (T + 64 * r.val + j) f := by
      rw [Matrix.mul_apply]
      refine Eq.trans (sum_congr rfl fun j _ => ?_) (sum_chunk r (i.val + 1) (by omega)
        (fun j => (tileM q T * (tileM k T).transpose) ⟨64 * r.val + i.val, by omega⟩ j
            * (2 : ℝ) ^ (tileC g T ⟨64 * r.val + i.val, by omega⟩ - tileC g T j) * solD k v g b T (stM k v g b (T + 64 * r.val)) j f) _
        (fun j => (64 * r.val + i.val) / 64 = j.val / 64 ∧ j.val ≤ 64 * r.val + i.val) (fun j => by omega) (fun j hj => ?_))
      · unfold attR keep
        simp only [Matrix.of_apply, ite_mul, zero_mul]
      · rw [solD_row k v g b T hT r j (by omega)]
        simp only [Matrix.mul_apply, Matrix.transpose_apply, tileM, tileC, Matrix.of_apply, ← Nat.add_assoc]
    refine Eq.trans hsum ?_
    simp only [mul_sum, sum_mul]
    rw [sum_comm]
    exact sum_congr rfl fun e _ => sum_congr rfl fun j _ => by ring

end Cert.Gdn
-- ==== Proof.Tokens.lean ====
/- The real values of the arguments, per value head and token. -/
module

public import Idealize.ShloMosaic.Lib.Pointwise

@[expose] public section

noncomputable section

namespace Cert.Gdn

open Idealize.ShloMosaic

/-- The token's row. -/
abbrev tok (t : ℕ) : Fin 16384 := ⟨t % 16384, Nat.mod_lt _ (by norm_num)⟩

/-- The queries, keys and values of value head `h` at a token, and its log decay or weight. -/
def qTok (a : (⟨2, ![16384, 8192]⟩ : Shape).Idx → ℝ) (h : Fin 64) (t : ℕ) (e : Fin 128) : ℝ :=
  a (ix2 (tok t) ⟨h.val / 2 * 128 + e.val, by omega⟩)
def kTok (a : (⟨2, ![16384, 8192]⟩ : Shape).Idx → ℝ) (h : Fin 64) (t : ℕ) (e : Fin 128) : ℝ :=
  a (ix2 (tok t) ⟨4096 + (h.val / 2 * 128 + e.val), by omega⟩)
def vTok (a : (⟨2, ![16384, 8192]⟩ : Shape).Idx → ℝ) (h : Fin 64) (t : ℕ) (e : Fin 128) : ℝ :=
  a (ix2 (tok t) ⟨h.val * 128 + e.val, by omega⟩)
def wTok (a : (⟨2, ![16384, 64]⟩ : Shape).Idx → ℝ) (h : Fin 64) (t : ℕ) : ℝ := a (ix2 (tok t) h)

/-- The norm of a token's outputs `o` on one lane, the weight `w` and the gate `z`. -/
def normE (o : Fin 128 → EReal) (f : Fin 128) (w z : EReal) : EReal :=
  o f * Ideal.rsqrt (Ideal.div (∑ x, o x * o x) (Ideal.ofBits FTy.f32 1124073472#32) + Ideal.ofBits FTy.f32 897988541#32) * w * z

end Cert.Gdn
-- ==== Proof.Pieces.lean ====
/- What the body of the kernel stores, as the sixteen heads' own functions. -/
module

public import proofs.«01_k».proof.Proof.Chain
public import Idealize.ShloMosaic.Lib.Pointwise
public import Idealize.ShloMosaic.Lib.VecWindow

@[expose] public section

set_option maxRecDepth 16384

noncomputable section

namespace Cert.Gdn

open Idealize.ShloMosaic Idealize.ShloMosaic.TcCoe Idealize.ShloMosaic.Tactic Cert.KernelIdeal Cert.KernelIdeal.Gen

variable {F : FTy → Type} [FloatOps F]

section Inputs

variable (x0 x1 : Vec F S128x1024 .f32) (x2 x3 : Vec F S128x2048 .f32) (x4 x5 : Vec F S8x128x2 .f32)
  (x6 : Vec F S8x2x128 .f32) (x7 : Vec F S1x128 .f32) (xs : Vec F S16x128x128 .f32) (c : Fin 16)

theorem inb_qk : ∀ a, (![0, 128 * (c.val / 2)] : Fin 2 → ℕ) a + S128x128.size a ≤ S128x1024.size a := by revert c; decide
theorem inb_gcol : ∀ a, (![c.val / 2, 0, c.val % 2] : Fin 3 → ℕ) a + S1x128x1.size a ≤ S8x128x2.size a := by revert c; decide
theorem inb_grow : ∀ a, (![c.val / 2, c.val % 2, 0] : Fin 3 → ℕ) a + S1x1x128.size a ≤ S8x2x128.size a := by revert c; decide
theorem inb_state : ∀ a, (![c.val, 0, 0] : Fin 3 → ℕ) a + S1x128x128.size a ≤ S16x128x128.size a := by revert c; decide
theorem slices_v : S128x2048.Slices ![0, 128 * c.val] S128x128 := by revert c; decide
theorem inb_out (r : Fin 2) : ∀ a, (![64 * r.val, 128 * c.val] : Fin 2 → ℕ) a + S64x128.size a ≤ S128x2048.size a := by
  revert r c; decide

/-- The inputs of head `c` of a grid point: its queries or keys, its values, its decays or weights, its state. -/
def qkIn : FVec F S128x128 .f32 := View.ld x0 (Rect.unit (s := S128x1024) ![0, 128 * (c.val / 2)] S128x128.size (inb_qk c))
def vIn : FVec F S128x128 .f32 := extractStridedSlice (s := S128x2048) S128x128 ![0, 128 * c.val]
  (View.ld x2 (Rect.unit (s := S128x2048) ![0, 0] S128x2048.size inb_S128x2048_S128x2048_0_0)) (slices_v c)
def colIn : FVec F S128x1 .f32 := shapeCast S128x1
  (View.ld x4 (Rect.unit (s := S8x128x2) ![c.val / 2, 0, c.val % 2] S1x128x1.size (inb_gcol c))) shapeCasts_S1x128x1_S128x1
def rowIn : FVec F S1x128 .f32 := shapeCast S1x128
  (View.ld x6 (Rect.unit (s := S8x2x128) ![c.val / 2, c.val % 2, 0] S1x1x128.size (inb_grow c))) shapeCasts_S1x1x128_S1x128
def stIn : FVec F S128x128 .f32 := shapeCast S128x128
  (View.ld xs (Rect.unit (s := S16x128x128) ![c.val, 0, 0] S1x128x128.size (inb_state c))) shapeCasts_S1x128x128_S128x128
def nwIn : FVec F S1x128 .f32 := shapeCast S1x128
  (View.ld x7 (Rect.unit (s := S1x128) ![0, 0] S1x128.size inb_S1x128_S1x128_0_0)) shapeCasts_S1x128_S1x128
def zIn (r : Fin 2) : FVec F S64x128 .f32 :=
  View.ld x3 (Rect.unit (s := S128x2048) ![64 * r.val, 128 * c.val] S64x128.size (inb_out c r))

/-- Head `c`'s state after the tile. -/
def stOut : FVec F S128x128 .f32 := st2 (qkIn x0 c) (qkIn x1 c) (vIn x2 c) (colIn x4 c) (colIn x5 c) (rowIn x6 c) (stIn xs c)

/-- Head `c`'s outputs on chunk `r` of the tile, before the norm. -/
def oOut : Fin 2 → FVec F S64x128 .f32
  | 0 => o0 (qkIn x0 c) (qkIn x1 c) (vIn x2 c) (colIn x4 c) (colIn x5 c) (rowIn x6 c) (stIn xs c)
  | 1 => o1 (qkIn x0 c) (qkIn x1 c) (vIn x2 c) (colIn x4 c) (colIn x5 c) (rowIn x6 c) (stIn xs c)

/-- What is stored for the state of head `c`. -/
def stPiece : View.Piece (Elt F) S16x128x128 .f32 :=
  ⟨Rect.unit (s := S16x128x128) ![c.val, 0, 0] S1x128x128.size (inb_state c),
    shapeCast S1x128x128 (stOut x0 x1 x2 x4 x5 x6 xs c) shapeCasts_S128x128_S1x128x128⟩

/-- What is stored for the outputs of head `c` on chunk `r`. -/
def oPiece (r : Fin 2) : View.Piece (Elt F) S128x2048 .bf16 :=
  ⟨Rect.unit (s := S128x2048) ![64 * r.val, 128 * c.val] S64x128.size (inb_out c r),
    normV (oOut x0 x1 x2 x4 x5 x6 xs c r) (nwIn x7) (zIn x3 c r)⟩

end Inputs

variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S8x128x2 .f32) (harg6 : arg6.IsWhole) (arg7 : Memref sig .tc .vmem S8x128x2 .f32) (harg7 : arg7.IsWhole) (arg8 : Memref sig .tc .vmem S8x2x128 .f32) (harg8 : arg8.IsWhole) (arg9 : Memref sig .tc .vmem S1x128 .f32) (harg9 : arg9.IsWhole)
  (arg10 : Memref sig .tc .vmem S128x2048 .bf16) (harg10 : arg10.IsWhole) (arg11 : Memref sig .tc .vmem S16x128x128 .f32) (harg11 : arg11.IsWhole)
  (x0 x1 : Vec F S128x1024 .f32) (x2 x3 : Vec F S128x2048 .f32) (x4 x5 : Vec F S8x128x2 .f32)
  (x6 : Vec F S8x2x128 .f32) (x7 : Vec F S1x128 .f32) (xs0 : Vec F S16x128x128 .f32)

/-- The first tile's state is what the body has just stored: zeros. -/
theorem read_state_A (v : View sig .tc .vmem S16x128x128 .f32) (f : v.ty.Contents (Elt F)) :
    v.read (Elt F) (v.writes (Elt F) f kernelRun0_A.sl.HS0_1) = zeroV S16x128x128 := by
  refine (View.read_writes_full v f inb_S16x128x128_S16x128x128_0_0_0 k0_pay7 []).trans ?_
  unfold k0_pay7
  exact shapeCast_self _ _

/-- The state's pieces past the first tile. -/
theorem statePieces_B (hc0) : (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1
    = (List.ofFn fun n : Fin 16 => stPiece x0 x1 x2 x4 x5 x6 xs0 n.rev) := by
  have h : (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1
      = (List.ofFn fun n : Fin 16 => stPiece (arg2.view.read (Elt F) (harg2.unread x0)) (arg3.view.read (Elt F) (harg3.unread x1))
    (arg4.view.read (Elt F) (harg4.unread x2)) (arg6.view.read (Elt F) (harg6.unread x4)) (arg7.view.read (Elt F) (harg7.unread x5))
    (arg8.view.read (Elt F) (harg8.unread x6)) (arg11.view.read (Elt F) (harg11.unread xs0)) n.rev) := by
    sl_kernel_rfl
  rw [h]
  simp only [Memref.IsWhole.read_unread]

/-- The outputs' pieces past the first tile. -/
theorem outPieces_B (hc0) : (kernelRun0_B c i arg2 harg2 arg3 harg3 arg4 harg4 arg5 harg5 arg6 harg6 arg7 harg7 arg8 harg8 arg9 harg9 arg10 harg10 arg11 harg11 hc0 x0 x1 x2 x3 x4 x5 x6 x7 xs0).1
    = List.ofFn fun n : Fin 32 => oPiece x0 x1 x2 x3 x4 x5 x6 x7 xs0
        ⟨n.rev.val % 16, Nat.mod_lt _ (by norm_num)⟩ ⟨n.rev.val / 16, by omega⟩ := by
  have h : (kernelRun0_B c i arg2 harg2 arg3 harg3 arg4 harg4 arg5 harg5 arg6 harg6 arg7 harg7 arg8 harg8 arg9 harg9 arg10 harg10 arg11 harg11 hc0 x0 x1 x2 x3 x4 x5 x6 x7 xs0).1
      = List.ofFn fun n : Fin 32 => oPiece (arg2.view.read (Elt F) (harg2.unread x0)) (arg3.view.read (Elt F) (harg3.unread x1))
    (arg4.view.read (Elt F) (harg4.unread x2)) (arg5.view.read (Elt F) (harg5.unread x3)) (arg6.view.read (Elt F) (harg6.unread x4)) (arg7.view.read (Elt F) (harg7.unread x5))
    (arg8.view.read (Elt F) (harg8.unread x6)) (arg9.view.read (Elt F) (harg9.unread x7)) (arg11.view.read (Elt F) (harg11.unread xs0))
          ⟨n.rev.val % 16, Nat.mod_lt _ (by norm_num)⟩ ⟨n.rev.val / 16, by omega⟩ := by
    sl_kernel_rfl
  rw [h]
  simp only [Memref.IsWhole.read_unread]

/-- The state's pieces on the first tile. -/
theorem statePieces_A (hc0) : (kernelRun0_A c i arg2 harg2 arg3 harg3 arg4 harg4 arg5 harg5 arg6 harg6 arg7 harg7 arg8 harg8 arg9 harg9 arg10 harg10 arg11 harg11 hc0 x0 x1 x2 x3 x4 x5 x6 x7).2.1
    = (List.ofFn fun n : Fin 16 => stPiece x0 x1 x2 x4 x5 x6 (zeroV S16x128x128) n.rev)
    ++ [⟨Rect.unit (s := S16x128x128) ![0, 0, 0] S16x128x128.size inb_S16x128x128_S16x128x128_0_0_0, k0_pay7⟩] := by
  have h : (kernelRun0_A c i arg2 harg2 arg3 harg3 arg4 harg4 arg5 harg5 arg6 harg6 arg7 harg7 arg8 harg8 arg9 harg9 arg10 harg10 arg11 harg11 hc0 x0 x1 x2 x3 x4 x5 x6 x7).2.1
      = (List.ofFn fun n : Fin 16 => stPiece (arg2.view.read (Elt F) (harg2.unread x0)) (arg3.view.read (Elt F) (harg3.unread x1))
    (arg4.view.read (Elt F) (harg4.unread x2)) (arg6.view.read (Elt F) (harg6.unread x4)) (arg7.view.read (Elt F) (harg7.unread x5))
    (arg8.view.read (Elt F) (harg8.unread x6)) (arg11.view.read (Elt F) (arg11.view.writes (Elt F) arg11.view.junk kernelRun0_A.sl.HS0_1)) n.rev)
    ++ [⟨Rect.unit (s := S16x128x128) ![0, 0, 0] S16x128x128.size inb_S16x128x128_S16x128x128_0_0_0, k0_pay7⟩] := by
    sl_kernel_rfl
  rw [h]
  simp only [Memref.IsWhole.read_unread, read_state_A]

/-- The outputs' pieces on the first tile. -/
theorem outPieces_A (hc0) : (kernelRun0_A c i arg2 harg2 arg3 harg3 arg4 harg4 arg5 harg5 arg6 harg6 arg7 harg7 arg8 harg8 arg9 harg9 arg10 harg10 arg11 harg11 hc0 x0 x1 x2 x3 x4 x5 x6 x7).1
    = List.ofFn fun n : Fin 32 => oPiece x0 x1 x2 x3 x4 x5 x6 x7 (zeroV S16x128x128)
        ⟨n.rev.val % 16, Nat.mod_lt _ (by norm_num)⟩ ⟨n.rev.val / 16, by omega⟩ := by
  have h : (kernelRun0_A c i arg2 harg2 arg3 harg3 arg4 harg4 arg5 harg5 arg6 harg6 arg7 harg7 arg8 harg8 arg9 harg9 arg10 harg10 arg11 harg11 hc0 x0 x1 x2 x3 x4 x5 x6 x7).1
      = List.ofFn fun n : Fin 32 => oPiece (arg2.view.read (Elt F) (harg2.unread x0)) (arg3.view.read (Elt F) (harg3.unread x1))
    (arg4.view.read (Elt F) (harg4.unread x2)) (arg5.view.read (Elt F) (harg5.unread x3)) (arg6.view.read (Elt F) (harg6.unread x4)) (arg7.view.read (Elt F) (harg7.unread x5))
    (arg8.view.read (Elt F) (harg8.unread x6)) (arg9.view.read (Elt F) (harg9.unread x7)) (arg11.view.read (Elt F) (arg11.view.writes (Elt F) arg11.view.junk kernelRun0_A.sl.HS0_1))
          ⟨n.rev.val % 16, Nat.mod_lt _ (by norm_num)⟩ ⟨n.rev.val / 16, by omega⟩ := by
    sl_kernel_rfl
  rw [h]
  simp only [Memref.IsWhole.read_unread, read_state_A]

section Whole

/-- The state of all heads after the tile. -/
def stAll : Vec F S16x128x128 .f32 := fun y => stOut x0 x1 x2 x4 x5 x6 xs0 (y 0) (ix2 (n0 := 128) (n1 := 128) (y 1) (y 2))

/-- The outputs of all heads on the tile. -/
def outAll : Vec F S128x2048 .bf16 := fun y =>
  have h0 : (y 0).val < 128 := (y 0).isLt
  have h1 : (y 1).val < 2048 := (y 1).isLt
  normV (oOut x0 x1 x2 x4 x5 x6 xs0 ⟨(y 1).val / 128, by omega⟩ ⟨(y 0).val / 64, by omega⟩) (nwIn x7)
    (zIn x3 ⟨(y 1).val / 128, by omega⟩ ⟨(y 0).val / 64, by omega⟩)
    (ix2 (n0 := 64) (n1 := 128) ⟨(y 0).val % 64, by omega⟩ ⟨(y 1).val % 128, by omega⟩)

theorem stPiece_apply (n : Fin 16) (x : (stPiece x0 x1 x2 x4 x5 x6 xs0 n).1.shape.Idx) :
    (stPiece x0 x1 x2 x4 x5 x6 xs0 n).2 x = stAll x0 x1 x2 x4 x5 x6 xs0 ((stPiece x0 x1 x2 x4 x5 x6 xs0 n).1.emb x) := by
  have e0 : (stPiece x0 x1 x2 x4 x5 x6 xs0 n).1.emb x 0 = n := by
    refine Fin.ext ?_
    rw [Rect.emb_apply]
    have := (x 0).isLt
    change _ < 1 at this
    change n.val + 1 * (x 0).val = n.val
    omega
  refine Eq.trans (b := stOut x0 x1 x2 x4 x5 x6 xs0 n fun a => x a.succ)
    (shapeCast_addUnit_apply ![128, 128] (stOut x0 x1 x2 x4 x5 x6 xs0 n) shapeCasts_S128x128_S1x128x128 x) ?_
  unfold stAll
  rw [e0]
  refine congrArg _ (funext fun a => Fin.ext ?_)
  match a with
  | ⟨0, _⟩ => show (x 1).val = 0 + 1 * (x 1).val; omega
  | ⟨1, _⟩ => show (x 2).val = 0 + 1 * (x 2).val; omega

theorem oPiece_apply (n : Fin 16) (r : Fin 2) (x : (oPiece x0 x1 x2 x3 x4 x5 x6 x7 xs0 n r).1.shape.Idx) :
    (oPiece x0 x1 x2 x3 x4 x5 x6 x7 xs0 n r).2 x
      = outAll x0 x1 x2 x3 x4 x5 x6 x7 xs0 ((oPiece x0 x1 x2 x3 x4 x5 x6 x7 xs0 n r).1.emb x) := by
  have h0 : ((oPiece x0 x1 x2 x3 x4 x5 x6 x7 xs0 n r).1.emb x 0).val = 64 * r.val + 1 * (x 0).val := rfl
  have h1 : ((oPiece x0 x1 x2 x3 x4 x5 x6 x7 xs0 n r).1.emb x 1).val = 128 * n.val + 1 * (x 1).val := rfl
  have l0 : (x 0).val < 64 := (x 0).isLt
  have l1 : (x 1).val < 128 := (x 1).isLt
  unfold outAll
  dsimp only
  have e1 : (⟨((oPiece x0 x1 x2 x3 x4 x5 x6 x7 xs0 n r).1.emb x 1).val / 128, by omega⟩ : Fin 16) = n := Fin.ext (by simp only [h1]; omega)
  have e0 : (⟨((oPiece x0 x1 x2 x3 x4 x5 x6 x7 xs0 n r).1.emb x 0).val / 64, by omega⟩ : Fin 2) = r := Fin.ext (by simp only [h0]; omega)
  rw [e0, e1]
  refine congrArg _ (funext fun a => Fin.ext ?_)
  match a with
  | ⟨0, _⟩ => show (x 0).val = ((oPiece x0 x1 x2 x3 x4 x5 x6 x7 xs0 n r).1.emb x 0).val % 64; rw [h0]; omega
  | ⟨1, _⟩ => show (x 1).val = ((oPiece x0 x1 x2 x3 x4 x5 x6 x7 xs0 n r).1.emb x 1).val % 128; rw [h1]; omega

end Whole

theorem canon_state (L : List (View.Piece (Elt F) S16x128x128 .f32)) (y : S16x128x128.Idx) :
    View.canon ((List.ofFn fun n : Fin 16 => stPiece x0 x1 x2 x4 x5 x6 xs0 n.rev) ++ L) y = stAll x0 x1 x2 x4 x5 x6 xs0 y := by
  suffices h : ∀ l : List (Fin 16), y 0 ∈ l → View.canon (l.map (stPiece x0 x1 x2 x4 x5 x6 xs0) ++ L) y = stAll x0 x1 x2 x4 x5 x6 xs0 y by
    have e : (List.ofFn fun n : Fin 16 => stPiece x0 x1 x2 x4 x5 x6 xs0 n.rev) = (List.ofFn fun n : Fin 16 => n.rev).map (stPiece x0 x1 x2 x4 x5 x6 xs0) := by
      rw [List.map_ofFn]; rfl
    rw [e]
    exact h _ (List.mem_ofFn.mpr ⟨Fin.rev (n := 16) (y 0), Fin.rev_rev _⟩)
  intro l
  induction l with
  | nil => intro h; cases h
  | cons n l ih =>
    intro h
    rw [List.map_cons, List.cons_append]
    by_cases hm : y ∈ (stPiece x0 x1 x2 x4 x5 x6 xs0 n).1.set
    · obtain ⟨x, rfl⟩ := (stPiece x0 x1 x2 x4 x5 x6 xs0 n).1.exists_idx_of_mem hm
      refine (View.canon_cons_emb _ _ _ x).trans (stPiece_apply x0 x1 x2 x4 x5 x6 xs0 n x)
    · rw [View.canon_cons_of_not_mem _ _ hm]
      refine ih ((List.mem_cons.mp h).resolve_left fun e => hm ?_)
      have h1 : (y 1).val < 128 := (y 1).isLt
      have h2 : (y 2).val < 128 := (y 2).isLt
      have hy : (stPiece x0 x1 x2 x4 x5 x6 xs0 n).1.emb (ix3 (n0 := 1) (n1 := 128) (n2 := 128) 0 (y 1) (y 2)) = y := by
        funext a
        refine Fin.ext ?_
        match a with
        | ⟨0, _⟩ => show n.val + 1 * 0 = (y 0).val; rw [e]; omega
        | ⟨1, _⟩ => show 0 + 1 * (y 1).val = (y 1).val; omega
        | ⟨2, _⟩ => show 0 + 1 * (y 2).val = (y 2).val; omega
      rw [← hy, ← Rect.map_emb_univ]
      exact Finset.mem_map_of_mem _ (Finset.mem_univ _)

theorem sout_B (hc0) : sout0_B_0 c i arg2 harg2 arg3 harg3 arg4 harg4 arg5 harg5 arg6 harg6 arg7 harg7 arg8 harg8 arg9 harg9 arg10 harg10 arg11 harg11 hc0 x0 x1 x2 x3 x4 x5 x6 x7 xs0 = stAll x0 x1 x2 x4 x5 x6 xs0 := by
  funext y
  unfold sout0_B_0
  rw [View.read_writes_apply_eq_canon _ _ y _ (scover0_B_0 c i arg2 harg2 arg3 harg3 arg4 harg4 arg5 harg5 arg6 harg6 arg7 harg7 arg8 harg8 arg9 harg9 arg10 harg10 arg11 harg11 hc0 x0 x1 x2 x3 x4 x5 x6 x7 xs0 y)]
  rw [statePieces_B]
  have := canon_state x0 x1 x2 x4 x5 x6 xs0 [] y
  rwa [List.append_nil] at this
theorem out_B (hc0) : out0_B_8 c i arg2 harg2 arg3 harg3 arg4 harg4 arg5 harg5 arg6 harg6 arg7 harg7 arg8 harg8 arg9 harg9 arg10 harg10 arg11 harg11 hc0 x0 x1 x2 x3 x4 x5 x6 x7 xs0 = outAll x0 x1 x2 x3 x4 x5 x6 x7 xs0 := by
  funext y
  unfold out0_B_8
  rw [View.read_writes_apply_eq_canon _ _ y _ (cover0_B_8 c i arg2 harg2 arg3 harg3 arg4 harg4 arg5 harg5 arg6 harg6 arg7 harg7 arg8 harg8 arg9 harg9 arg10 harg10 arg11 harg11 hc0 x0 x1 x2 x3 x4 x5 x6 x7 xs0 y)]
  have hc := cover0_B_8 c i arg2 harg2 arg3 harg3 arg4 harg4 arg5 harg5 arg6 harg6 arg7 harg7 arg8 harg8 arg9 harg9 arg10 harg10 arg11 harg11 hc0 x0 x1 x2 x3 x4 x5 x6 x7 xs0 y
  rw [outPieces_B] at hc ⊢
  refine View.canon_apply_of_pieces _ _ (fun p hp x => ?_) y hc
  obtain ⟨n, rfl⟩ := List.mem_ofFn.mp hp
  exact oPiece_apply _ _ _ _ _ _ _ _ _ _ _ x

theorem sout_A (hc0) : sout0_A_0 c i arg2 harg2 arg3 harg3 arg4 harg4 arg5 harg5 arg6 harg6 arg7 harg7 arg8 harg8 arg9 harg9 arg10 harg10 arg11 harg11 hc0 x0 x1 x2 x3 x4 x5 x6 x7 = stAll x0 x1 x2 x4 x5 x6 (zeroV S16x128x128) := by
  funext y
  unfold sout0_A_0
  rw [View.read_writes_apply_eq_canon _ _ y _ (scover0_A_0 c i arg2 harg2 arg3 harg3 arg4 harg4 arg5 harg5 arg6 harg6 arg7 harg7 arg8 harg8 arg9 harg9 arg10 harg10 arg11 harg11 hc0 x0 x1 x2 x3 x4 x5 x6 x7 y)]
  rw [statePieces_A]
  exact canon_state x0 x1 x2 x4 x5 x6 _ _ y
theorem out_A (hc0) : out0_A_8 c i arg2 harg2 arg3 harg3 arg4 harg4 arg5 harg5 arg6 harg6 arg7 harg7 arg8 harg8 arg9 harg9 arg10 harg10 arg11 harg11 hc0 x0 x1 x2 x3 x4 x5 x6 x7 = outAll x0 x1 x2 x3 x4 x5 x6 x7 (zeroV S16x128x128) := by
  funext y
  unfold out0_A_8
  rw [View.read_writes_apply_eq_canon _ _ y _ (cover0_A_8 c i arg2 harg2 arg3 harg3 arg4 harg4 arg5 harg5 arg6 harg6 arg7 harg7 arg8 harg8 arg9 harg9 arg10 harg10 arg11 harg11 hc0 x0 x1 x2 x3 x4 x5 x6 x7 y)]
  have hc := cover0_A_8 c i arg2 harg2 arg3 harg3 arg4 harg4 arg5 harg5 arg6 harg6 arg7 harg7 arg8 harg8 arg9 harg9 arg10 harg10 arg11 harg11 hc0 x0 x1 x2 x3 x4 x5 x6 x7 y
  rw [outPieces_A] at hc ⊢
  refine View.canon_apply_of_pieces _ _ (fun p hp x => ?_) y hc
  obtain ⟨n, rfl⟩ := List.mem_ofFn.mp hp
  exact oPiece_apply _ _ _ _ _ _ _ _ _ _ _ x

end Cert.Gdn
-- ==== Proof.Blocks.lean ====
module

public import proofs.«01_k».proof.Proof.Chunk
public import proofs.«01_k».proof.Proof.Tokens
public import proofs.«01_k».proof.Proof.Pieces
public import proofs.«01_k».proof.Proof.Gen.KernelIdeal.Value
public import Idealize.ShloMosaic.Lib.Claim
public import Idealize.ShloMosaic.Lib.Pipeline.ValueKit
public import Idealize.ShloMosaic.Lib.Tactic.CleanTypes

@[expose] public section

set_option maxRecDepth 16384

noncomputable section

namespace Cert.Gdn

open Idealize.ShloMosaic Idealize.ShloMosaic.TcCoe Idealize.ShloMosaic.Tactic Cert.KernelIdeal Cert.KernelIdeal.Gen Cert.KernelIdeal.Value

variable (m : (ℓ : Loc nD τ sig) → Buf (Elt Ideal) ℓ) (c : Dev nD)

def kaQ : FVec Ideal S16384x8192 .f32 := m ((c.tc : Thread nD τ).loc main_arg0)
def kaV : FVec Ideal S16384x8192 .f32 := m ((c.tc : Thread nD τ).loc main_arg1)
def kaZ : FVec Ideal S16384x8192 .f32 := m ((c.tc : Thread nD τ).loc main_arg2)
def kaG : FVec Ideal S16384x64 .f32 := m ((c.tc : Thread nD τ).loc main_arg3)
def kaB : FVec Ideal S16384x64 .f32 := m ((c.tc : Thread nD τ).loc main_arg4)
def kaW : FVec Ideal S128 .f32 := m ((c.tc : Thread nD τ).loc main_arg5)

/-- The windows' block numbers: the tile of the point and its group of heads. -/
theorem idx : ∀ t : Fin cfg0.N, win0_0.index t = ![t.val % 128, t.val / 128] ∧ win0_1.index t = ![t.val % 128, 4 + t.val / 128]
    ∧ win0_2.index t = ![t.val % 128, t.val / 128] ∧ win0_3.index t = ![t.val % 128, t.val / 128] ∧ win0_4.index t = ![t.val / 128, t.val % 128, 0]
    ∧ win0_5.index t = ![t.val / 128, t.val % 128, 0] ∧ win0_6.index t = ![t.val / 128, 0, t.val % 128] ∧ win0_7.index t = ![0, 0] :=
  (by decide +kernel : ∀ t : Fin grid0.N, _)

theorem hN (t : Fin cfg0.N) : t.val < 512 := lt_of_lt_of_eq t.isLt N_0

abbrev head (t : Fin cfg0.N) (h : Fin 16) : Fin 64 := ⟨16 * (t.val / 128) + h.val, by have := hN t; omega⟩

theorem q_in (t : Fin cfg0.N) (h : Fin 16) (i e : Fin 128) : qkIn (F := Ideal) (iblk m c 0 t) h (ix2 i e)
    = kaQ m c (ix2 (tok (t.val % 128 * 128 + i.val)) ⟨(head t h).val / 2 * 128 + e.val, by omega⟩) := by
  have := hN t
  pointwise [qkIn, kaQ]
  blk_ext [iblk, V, idx t]
theorem k_in (t : Fin cfg0.N) (h : Fin 16) (i e : Fin 128) : qkIn (F := Ideal) (iblk m c 1 t) h (ix2 i e)
    = kaQ m c (ix2 (tok (t.val % 128 * 128 + i.val)) ⟨4096 + ((head t h).val / 2 * 128 + e.val), by omega⟩) := by
  have := hN t
  pointwise [qkIn, kaQ]
  blk_ext [iblk, V, idx t]
theorem v_in (t : Fin cfg0.N) (h : Fin 16) (i e : Fin 128) : vIn (F := Ideal) (iblk m c 2 t) h (ix2 i e)
    = kaV m c (ix2 (tok (t.val % 128 * 128 + i.val)) ⟨(head t h).val * 128 + e.val, by omega⟩) := by
  have := hN t
  pointwise [vIn, kaV]
  blk_ext [iblk, V, idx t]
theorem z_in (t : Fin cfg0.N) (h : Fin 16) (r : Fin 2) (i : Fin 64) (e : Fin 128) : zIn (F := Ideal) (iblk m c 3 t) h r (ix2 i e)
    = kaZ m c (ix2 (tok (t.val % 128 * 128 + (64 * r.val + i.val))) ⟨(head t h).val * 128 + e.val, by omega⟩) := by
  have := hN t
  pointwise [zIn, kaZ]
  blk_ext [iblk, V, idx t]

/-- What the host prepares: the log decays and the weights by head, as columns and as rows, and the norm's weight. -/
theorem v1_apply (a : Fin 32) (t : Fin 16384) (b : Fin 2) : (V m c main_v1 : FVec Ideal S32x16384x2 .f32) (ix3 a t b) = kaG m c (ix2 t ⟨a.val * 2 + b.val, by omega⟩) := by
  unfold V
  entry_read
  pointwise [kaG]
theorem v3_apply (a : Fin 32) (t : Fin 16384) (b : Fin 2) : (V m c main_v3 : FVec Ideal S32x16384x2 .f32) (ix3 a t b) = kaB m c (ix2 t ⟨a.val * 2 + b.val, by omega⟩) := by
  unfold V
  entry_read
  pointwise [kaB]
theorem v5_apply (a : Fin 32) (t : Fin 16384) (b : Fin 2) : (V m c main_v5 : FVec Ideal S32x2x16384 .f32) (ix3 a b t) = kaG m c (ix2 t ⟨a.val * 2 + b.val, by omega⟩) := by
  unfold V
  entry_read
  pointwise [kaG]
theorem v6_apply (a : Fin 1) (t : Fin 128) : (V m c main_v6 : FVec Ideal S1x128 .f32) (ix2 a t) = kaW m c (ix1 t) := by
  unfold V
  entry_read
  pointwise [kaW]

theorem gcol_in (t : Fin cfg0.N) (h : Fin 16) (i : Fin 128) (e : Fin 1) : colIn (F := Ideal) (iblk m c 4 t) h (ix2 i e)
    = kaG m c (ix2 (tok (t.val % 128 * 128 + i.val)) (head t h)) := by
  have := hN t
  pointwise [colIn]
  refine Eq.trans (?_ : _ = V m c main_v1 (ix3 ⟨8 * (t.val / 128) + h.val / 2, by omega⟩ ⟨t.val % 128 * 128 + i.val, by omega⟩ ⟨h.val % 2, by omega⟩)) ?_
  · blk_ext [iblk, idx t]
  · rw [v1_apply]
    blk_ext
theorem bcol_in (t : Fin cfg0.N) (h : Fin 16) (i : Fin 128) (e : Fin 1) : colIn (F := Ideal) (iblk m c 5 t) h (ix2 i e)
    = kaB m c (ix2 (tok (t.val % 128 * 128 + i.val)) (head t h)) := by
  have := hN t
  pointwise [colIn]
  refine Eq.trans (?_ : _ = V m c main_v3 (ix3 ⟨8 * (t.val / 128) + h.val / 2, by omega⟩ ⟨t.val % 128 * 128 + i.val, by omega⟩ ⟨h.val % 2, by omega⟩)) ?_
  · blk_ext [iblk, idx t]
  · rw [v3_apply]
    blk_ext
theorem grow_in (t : Fin cfg0.N) (h : Fin 16) (i : Fin 128) (e : Fin 1) : rowIn (F := Ideal) (iblk m c 6 t) h (ix2 e i)
    = kaG m c (ix2 (tok (t.val % 128 * 128 + i.val)) (head t h)) := by
  have := hN t
  pointwise [rowIn]
  refine Eq.trans (?_ : _ = V m c main_v5 (ix3 ⟨8 * (t.val / 128) + h.val / 2, by omega⟩ ⟨h.val % 2, by omega⟩ ⟨t.val % 128 * 128 + i.val, by omega⟩)) ?_
  · blk_ext [iblk, idx t]
  · rw [v5_apply]
    blk_ext
theorem nw_in (t : Fin cfg0.N) (i : Fin 128) (e : Fin 1) : nwIn (F := Ideal) (iblk m c 7 t) (ix2 e i) = kaW m c (ix1 i) := by
  have := hN t
  pointwise [nwIn]
  refine Eq.trans (?_ : _ = V m c main_v6 (ix2 e i)) (v6_apply m c e i)
  blk_ext [iblk, idx t]

end Cert.Gdn
-- ==== Proof.Array.lean ====
module

public import proofs.«01_k».proof.Proof.Blocks

@[expose] public section

set_option maxRecDepth 16384

noncomputable section

namespace Cert.Gdn

open Idealize.ShloMosaic Idealize.ShloMosaic.TcCoe Idealize.ShloMosaic.Tactic Cert.KernelIdeal Cert.KernelIdeal.Gen Cert.KernelIdeal.Value

variable (m : (ℓ : Loc nD τ sig) → Buf (Elt Ideal) ℓ) (c : Dev nD)

section Data

variable (a0 a1 : S16384x8192.Idx → ℝ) (a3 a4 : S16384x64.Idx → ℝ)

/-- Head `H`'s state before a token, and its outputs at one. -/
abbrev stH (H : Fin 64) (n : ℕ) : Matrix (Fin 128) (Fin 128) ℝ := stM (kTok a0 H) (vTok a1 H) (wTok a3 H) (wTok a4 H) n
abbrev outH (H : Fin 64) (n : ℕ) (f : Fin 128) : ℝ := outN (qTok a0 H) (kTok a0 H) (vTok a1 H) (wTok a3 H) (wTok a4 H) n f

variable (h0 : ∀ i, kaQ m c i = (a0 i : EReal)) (h1 : ∀ i, kaV m c i = (a1 i : EReal)) (h3 : ∀ i, kaG m c i = (a3 i : EReal)) (h4 : ∀ i, kaB m c i = (a4 i : EReal))

theorem q_ofR (h0 : ∀ i, kaQ m c i = (a0 i : EReal)) (t : Fin cfg0.N) (h : Fin 16) :
    qkIn (F := Ideal) (iblk m c 0 t) h = ofR (tileM (qTok a0 (head t h)) (t.val % 128 * 128)) := by
  funext y
  idx_vars y
  rw [q_in, h0]
  rfl
theorem k_ofR (h0 : ∀ i, kaQ m c i = (a0 i : EReal)) (t : Fin cfg0.N) (h : Fin 16) :
    qkIn (F := Ideal) (iblk m c 1 t) h = ofR (tileM (kTok a0 (head t h)) (t.val % 128 * 128)) := by
  funext y
  idx_vars y
  rw [k_in, h0]
  rfl
theorem v_ofR (h1 : ∀ i, kaV m c i = (a1 i : EReal)) (t : Fin cfg0.N) (h : Fin 16) :
    vIn (F := Ideal) (iblk m c 2 t) h = ofR (tileM (vTok a1 (head t h)) (t.val % 128 * 128)) := by
  funext y
  idx_vars y
  rw [v_in, h1]
  rfl
theorem gcol_ofR (h3 : ∀ i, kaG m c i = (a3 i : EReal)) (t : Fin cfg0.N) (h : Fin 16) :
    colIn (F := Ideal) (iblk m c 4 t) h = ofR (colR (tileC (wTok a3 (head t h)) (t.val % 128 * 128))) := by
  funext y
  idx_vars y
  rw [gcol_in, h3]
  rfl
theorem bcol_ofR (h4 : ∀ i, kaB m c i = (a4 i : EReal)) (t : Fin cfg0.N) (h : Fin 16) :
    colIn (F := Ideal) (iblk m c 5 t) h = ofR (colR (tileC (wTok a4 (head t h)) (t.val % 128 * 128))) := by
  funext y
  idx_vars y
  rw [bcol_in, h4]
  rfl
theorem grow_ofR (h3 : ∀ i, kaG m c i = (a3 i : EReal)) (t : Fin cfg0.N) (h : Fin 16) :
    rowIn (F := Ideal) (iblk m c 6 t) h = ofR (rowR (tileC (wTok a3 (head t h)) (t.val % 128 * 128))) := by
  funext y
  idx_vars y
  rw [grow_in, h3]
  rfl

theorem stIn_apply (xs : FVec Ideal S16x128x128 .f32) (h : Fin 16) (e f : Fin 128) : stIn (F := Ideal) xs h (ix2 e f) = xs (ix3 h e f) := by
  refine (shapeCast_dropUnit_apply _ _ _ _).trans (congrArg xs ?_)
  funext a
  refine Fin.ext ?_
  match a with
  | ⟨0, _⟩ => show h.val + 1 * 0 = h.val; omega
  | ⟨1, _⟩ => show 0 + 1 * e.val = e.val; omega
  | ⟨2, _⟩ => show 0 + 1 * f.val = f.val; omega

theorem st_in (xs : FVec Ideal S16x128x128 .f32) (h : Fin 16) (S : Matrix (Fin 128) (Fin 128) ℝ) (hs : ∀ e f, xs (ix3 h e f) = (S e f : EReal)) :
    stIn (F := Ideal) xs h = ofR S := by
  funext y
  idx_vars y
  exact (stIn_apply xs h y0 y1).trans (hs y0 y1)

theorem normV_apply (O : Matrix (Fin 64) (Fin 128) ℝ) (w : FVec Ideal S1x128 .f32) (z : FVec Ideal S64x128 .f32) (i : Fin 64) (f : Fin 128) :
    normV (ofR O) w z (ix2 i f) = normE (fun x => (O i x : EReal)) f (w (ix2 0 f)) (z (ix2 i f)) := by
  pointwise [normV]
  rfl

theorem normE_congr {o o' : Fin 128 → EReal} {f f' : Fin 128} {w w' z z' : EReal} (ho : o = o') (hf : f = f') (hw : w = w') (hz : z = z') :
    normE o f w z = normE o' f' w' z' := by
  rw [ho, hf, hw, hz]

include h0 h1 h3 h4

theorem tile_state (t : Fin cfg0.N) (h : Fin 16) (xs : FVec Ideal S16x128x128 .f32)
    (hs : ∀ e f, xs (ix3 h e f) = (stH a0 a1 a3 a4 (head t h) (t.val % 128 * 128) e f : EReal)) :
    stOut (F := Ideal) (iblk m c 0 t) (iblk m c 1 t) (iblk m c 2 t) (iblk m c 4 t) (iblk m c 5 t) (iblk m c 6 t) xs h
      = ofR (stH a0 a1 a3 a4 (head t h) (t.val % 128 * 128 + 128)) := by
  unfold stOut
  rw [q_ofR m c a0 h0, k_ofR m c a0 h0, v_ofR m c a1 h1, gcol_ofR m c a3 h3, bcol_ofR m c a4 h4, grow_ofR m c a3 h3, st_in xs h _ hs, st2_ofR]
  have e0 := stepR_eq (kTok a0 (head t h)) (vTok a1 (head t h)) (wTok a3 (head t h)) (wTok a4 (head t h)) (t.val % 128 * 128) (by omega) 0
  have e1 := stepR_eq (kTok a0 (head t h)) (vTok a1 (head t h)) (wTok a3 (head t h)) (wTok a4 (head t h)) (t.val % 128 * 128) (by omega) 1
  exact congrArg ofR ((congrArg (stepR 1 _ _ _ _) e0).trans e1)

theorem tile_out (t : Fin cfg0.N) (h : Fin 16) (xs : FVec Ideal S16x128x128 .f32)
    (hs : ∀ e f, xs (ix3 h e f) = (stH a0 a1 a3 a4 (head t h) (t.val % 128 * 128) e f : EReal)) (r : Fin 2) :
    oOut (F := Ideal) (iblk m c 0 t) (iblk m c 1 t) (iblk m c 2 t) (iblk m c 4 t) (iblk m c 5 t) (iblk m c 6 t) xs h r
      = ofR (Matrix.of fun i f => outH a0 a1 a3 a4 (head t h) (t.val % 128 * 128 + 64 * r.val + i.val) f) := by
  have e0 := stepR_eq (kTok a0 (head t h)) (vTok a1 (head t h)) (wTok a3 (head t h)) (wTok a4 (head t h)) (t.val % 128 * 128) (by omega) 0
  have eo := fun r => Matrix.ext (outR_eq (qTok a0 (head t h)) (kTok a0 (head t h)) (vTok a1 (head t h)) (wTok a3 (head t h)) (wTok a4 (head t h)) (t.val % 128 * 128) (by omega) r)
  match r with
  | 0 =>
    unfold oOut
    rw [q_ofR m c a0 h0, k_ofR m c a0 h0, v_ofR m c a1 h1, gcol_ofR m c a3 h3, bcol_ofR m c a4 h4, grow_ofR m c a3 h3, st_in xs h _ hs, o0_ofR]
    exact congrArg ofR (eo 0)
  | 1 =>
    unfold oOut
    rw [q_ofR m c a0 h0, k_ofR m c a0 h0, v_ofR m c a1 h1, gcol_ofR m c a3 h3, bcol_ofR m c a4 h4, grow_ofR m c a3 h3, st_in xs h _ hs, o1_ofR]
    exact congrArg ofR ((congrArg (outR 1 _ _ _ _ _) e0).trans (eo 1))

/-- The state a tile starts from, whatever the point: the recurrence's state at the tile's first token. -/
theorem point (n : ℕ) (hn : n < cfg0.N) : ∃ xs : FVec Ideal S16x128x128 .f32,
    (∀ h e f, xs (ix3 h e f) = (stH a0 a1 a3 a4 (head ⟨n, hn⟩ h) (n % 128 * 128) e f : EReal))
    ∧ outsAt0 m c n hn = (outAll (F := Ideal) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) xs,
      stAll (F := Ideal) (iblk m c 0 ⟨n, hn⟩) (iblk m c 1 ⟨n, hn⟩) (iblk m c 2 ⟨n, hn⟩) (iblk m c 4 ⟨n, hn⟩) (iblk m c 5 ⟨n, hn⟩) (iblk m c 6 ⟨n, hn⟩) xs) := by
  induction n with
  | zero =>
    refine ⟨zeroV (F := Ideal) S16x128x128, fun h e f => ?_, ?_⟩
    · exact Ideal.ofBits_zero_f32
    · rw [outsAt0_A m c ⟨0, hn⟩ rfl, out_A, sout_A]
  | succ n ih =>
    by_cases hz : (n + 1) % 128 = 0
    · refine ⟨zeroV (F := Ideal) S16x128x128, fun h e f => ?_, ?_⟩
      · rw [hz]
        exact Ideal.ofBits_zero_f32
      · rw [outsAt0_A m c ⟨n + 1, hn⟩ hz, out_A, sout_A]
    · obtain ⟨xs, hs, e⟩ := ih (Nat.lt_of_succ_lt hn)
      refine ⟨(outsAt0 m c n (Nat.lt_of_succ_lt hn)).2, fun h i f => ?_, ?_⟩
      · rw [e]
        have hh : head ⟨n, Nat.lt_of_succ_lt hn⟩ h = head ⟨n + 1, hn⟩ h := Fin.ext (by show 16 * (n / 128) + h.val = 16 * ((n + 1) / 128) + h.val; omega)
        have ht : (n + 1) % 128 * 128 = n % 128 * 128 + 128 := by omega
        have := congrFun (tile_state m c a0 a1 a3 a4 h0 h1 h3 h4 ⟨n, Nat.lt_of_succ_lt hn⟩ h xs (hs h)) (ix2 i f)
        rw [ht, ← hh]
        exact this
      · rw [outsAt0_B m c ⟨n + 1, hn⟩ hz, out_B, sout_B]
        rfl

/-- The kernel's result. -/
theorem ker_value (t : Fin 16384) (y : Fin 8192) : (G8 m c : FVec Ideal S16384x8192 .bf16) (ix2 t y)
    = normE (fun f => (outH a0 a1 a3 a4 ⟨y.val / 128, by omega⟩ t.val f : EReal)) ⟨y.val % 128, by omega⟩ (kaW m c (ix1 ⟨y.val % 128, by omega⟩)) (kaZ m c (ix2 t y)) := by
  have hp : pt8Of (ix2 t y) = t.val / 128 + 128 * (y.val / 2048) := by
    show 1 * (t.val / 128 - 0) + 128 * (y.val / 2048 - 0) = _
    omega
  have hlt : pt8Of (ix2 t y) < cfg0.N := lt_of_lt_of_eq (by omega) N_0.symm
  obtain ⟨xs, hs, e⟩ := point m c a0 a1 a3 a4 h0 h1 h3 h4 (pt8Of (ix2 t y)) hlt
  have hg : (G8 m c : FVec Ideal S16384x8192 .bf16) (ix2 t y) = (outsAt0 m c (pt8Of (ix2 t y)) hlt).1 (loc8Of (ix2 t y)) := by
    unfold G8
    rw [dif_pos hlt, outsAt0_sweep]
  rw [hg, e]
  clear hg e
  have hx : pt8Of (ix2 t y) % 128 * 128 = t.val / 128 * 128 := by omega
  have hh : head ⟨pt8Of (ix2 t y), hlt⟩ ⟨y.val % 2048 / 128, by omega⟩ = ⟨y.val / 128, by omega⟩ := Fin.ext (by
    show 16 * (pt8Of (ix2 t y) / 128) + y.val % 2048 / 128 = y.val / 128
    omega)
  show normV (oOut (F := Ideal) _ _ _ _ _ _ _ ⟨y.val % 2048 / 128, by omega⟩ ⟨t.val % 128 / 64, by omega⟩) (nwIn _) (zIn _ _ _)
    (ix2 (n0 := 64) (n1 := 128) ⟨t.val % 128 % 64, by omega⟩ ⟨y.val % 2048 % 128, by omega⟩) = _
  rw [tile_out m c a0 a1 a3 a4 h0 h1 h3 h4 _ _ xs (hs _), normV_apply, nw_in, z_in]
  have et : pt8Of (ix2 t y) % 128 * 128 + (64 * (t.val % 128 / 64) + t.val % 128 % 64) = t.val := by omega
  have ey : (⟨y.val % 2048 % 128, by omega⟩ : Fin 128) = ⟨y.val % 128, by omega⟩ := Fin.ext (by show y.val % 2048 % 128 = y.val % 128; omega)
  refine normE_congr (funext fun x => ?_) ey (congrArg (fun f => kaW m c (ix1 f)) ey) (congrArg₂ (fun a b => kaZ m c (ix2 a b)) ?_ ?_)
  · show (outH a0 a1 a3 a4 _ (pt8Of (ix2 t y) % 128 * 128 + 64 * (t.val % 128 / 64) + t.val % 128 % 64) x : EReal) = _
    rw [hh, Nat.add_assoc, et]
  · refine Fin.ext ?_
    show (pt8Of (ix2 t y) % 128 * 128 + (64 * (t.val % 128 / 64) + t.val % 128 % 64)) % 16384 = t.val
    omega
  · refine Fin.ext ?_
    show (head ⟨pt8Of (ix2 t y), hlt⟩ ⟨y.val % 2048 / 128, by omega⟩).val * 128 + y.val % 2048 % 128 = y.val
    rw [hh]
    show y.val / 128 * 128 + y.val % 2048 % 128 = y.val
    omega

end Data

end Cert.Gdn
-- ==== Proof.Reference.lean ====
module

public import proofs.«01_k».proof.Proof.Chunk
public import proofs.«01_k».proof.Proof.Tokens
public import proofs.«01_k».proof.Proof.Gen.ReferenceIdeal.Run
public import Idealize.ShloMosaic.Lib.DynamicIndex
public import Idealize.ShloMosaic.Lib.Tactic.CleanTypes

@[expose] public section

set_option maxRecDepth 16384

noncomputable section

namespace Cert.Gdn

open Idealize.ShloMosaic Idealize.ShloMosaic.TcCoe Idealize.ShloMosaic.Tactic Cert.ReferenceIdeal Cert.ReferenceIdeal.Gen Cert.ReferenceIdeal.Value Idealize.ShloMosaic.StableHlo

open Idealize.SL Idealize.SL.RA Idealize.SL.BI
variable (m : (ℓ : Loc nD τ sig) → Buf (Elt Ideal) ℓ) (c : Dev nD)

def aQ : FVec Ideal S16384x8192 .f32 := m ((c.tc : Thread nD τ).loc main_arg0)
def aV : FVec Ideal S16384x8192 .f32 := m ((c.tc : Thread nD τ).loc main_arg1)
def aG : FVec Ideal S16384x64 .f32 := m ((c.tc : Thread nD τ).loc main_arg3)
def aB : FVec Ideal S16384x64 .f32 := m ((c.tc : Thread nD τ).loc main_arg4)
variable (V : Valuation τ sig (Elt Ideal)) (n : ℕ)
def cQ : FVec Ideal S16384x64x128 .f32 := V (Proc.devRef .tc main_v19_0)
def cK : FVec Ideal S16384x64x128 .f32 := V (Proc.devRef .tc main_v19_1)
def cV : FVec Ideal S16384x64x128 .f32 := V (Proc.devRef .tc main_v19_2)
def cD : FVec Ideal S16384x64 .f32 := V (Proc.devRef .tc main_v19_3)
def cB : FVec Ideal S16384x64 .f32 := V (Proc.devRef .tc main_v19_4)
def cN : IVec S_ 32 := V (Proc.devRef .tc main_v19_5)
def cS : FVec Ideal S64x128x128 .f32 := V (Proc.devRef .tc main_v19_6)
def cO : FVec Ideal S16384x64x128 .f32 := V (Proc.devRef .tc main_v19_7)

def preQ (x : FVec Ideal S16384x8192 .f32) : FVec Ideal S16384x64x128 .f32 :=
  shapeCast S16384x64x128 (broadcastInDim S16384x32x2x128 ![0, 1, 3] bcast_S16384x32x128_S16384x32x2x128_0_1_3
    (shapeCast S16384x32x128 (extractStridedSlice S16384x4096 ![0, 0] x slices_S16384x8192_S16384x4096_0_0) shapeCasts_S16384x4096_S16384x32x128)) shapeCasts_S16384x32x2x128_S16384x64x128
def preK (x : FVec Ideal S16384x8192 .f32) : FVec Ideal S16384x64x128 .f32 :=
  shapeCast S16384x64x128 (broadcastInDim S16384x32x2x128 ![0, 1, 3] bcast_S16384x32x128_S16384x32x2x128_0_1_3
    (shapeCast S16384x32x128 (extractStridedSlice S16384x4096 ![0, 4096] x slices_S16384x8192_S16384x4096_0_4096) shapeCasts_S16384x4096_S16384x32x128)) shapeCasts_S16384x32x2x128_S16384x64x128
def preV (x : FVec Ideal S16384x8192 .f32) : FVec Ideal S16384x64x128 .f32 := shapeCast S16384x64x128 x shapeCasts_S16384x8192_S16384x64x128
def preD (x : FVec Ideal S16384x64 .f32) : FVec Ideal S16384x64 .f32 :=
  shapeCast S16384x64 (Host.powf (broadcastInDim S256x64x64 ![] bcast_S_S256x64x64 (constant S_ .f32 0x40000000#32))
    (subf (shapeCast S256x64x64 x shapeCasts_S16384x64_S256x64x64)
      (concatenate S256x64x64 1 [⟨S256x1x64, broadcastInDim S256x1x64 ![] bcast_S_S256x1x64 (constant S_ .f32 0x00000000#32)⟩,
        ⟨S256x63x64, extractStridedSlice S256x63x64 ![0, 0, 0] (shapeCast S256x64x64 x shapeCasts_S16384x64_S256x64x64) slices_S256x64x64_S256x63x64_0_0_0⟩]
        concatenates_S256x1x64_S256x63x64_S256x64x64_d1))) shapeCasts_S256x64x64_S16384x64

def preS : FVec Ideal S64x128x128 .f32 := broadcastInDim S64x128x128 ![] bcast_S_S64x128x128 (constant S_ .f32 0x00000000#32)

theorem eQ : entryContents preI m c (Proc.devRef .tc main_v19_0) = preQ (aQ m c) := by
  simp only [entryContents, preI, afterL_cons, afterL_nil, hostOps0]
  after_results_entrywise []
theorem eK : entryContents preI m c (Proc.devRef .tc main_v19_1) = preK (aQ m c) := by
  simp only [entryContents, preI, afterL_cons, afterL_nil, hostOps0]
  after_results_entrywise []
theorem eV : entryContents preI m c (Proc.devRef .tc main_v19_2) = preV (aV m c) := by
  simp only [entryContents, preI, afterL_cons, afterL_nil, hostOps0]
  after_results_entrywise []
theorem eD : entryContents preI m c (Proc.devRef .tc main_v19_3) = preD (aG m c) := by
  simp only [entryContents, preI, afterL_cons, afterL_nil, hostOps0]
  after_results_entrywise []
theorem eB : entryContents preI m c (Proc.devRef .tc main_v19_4) = aB m c := by
  simp only [entryContents, preI, afterL_cons, afterL_nil, hostOps0]
  after_results_entrywise []
theorem eS : entryContents preI m c (Proc.devRef .tc main_v19_6) = preS := by
  simp only [entryContents, preI, afterL_cons, afterL_nil, hostOps0]
  after_results_entrywise []
theorem preQ_apply (x) (t : Fin 16384) (h : Fin 64) (e : Fin 128) : preQ x (ix3 t h e) = x (ix2 t ⟨h.val / 2 * 128 + e.val, by omega⟩) := by
  pointwise [preQ]
theorem preK_apply (x) (t : Fin 16384) (h : Fin 64) (e : Fin 128) : preK x (ix3 t h e) = x (ix2 t ⟨4096 + (h.val / 2 * 128 + e.val), by omega⟩) := by
  pointwise [preK]
theorem preV_apply (x) (t : Fin 16384) (h : Fin 64) (e : Fin 128) : preV x (ix3 t h e) = x (ix2 t ⟨h.val * 128 + e.val, by omega⟩) := by
  pointwise [preV]
theorem two_bits : Ideal.ofBits FTy.f32 1073741824#32 = ((2 : ℝ) : EReal) := by
  simp [Ideal.ofBits, Ideal.ieee]
  rw [← EReal.coe_mul]
  norm_num
theorem pow_two_coe (x : ℝ) : Ideal.pow ((2 : ℝ) : EReal) (x : EReal) = ((2 : ℝ) ^ x : ℝ) := by
  rfl
theorem preD_apply (x) (a : S16384x64.Idx → ℝ) (hx : ∀ i, x i = (a i : EReal)) (t : ℕ) (ht : t < 16384) (h : Fin 64) :
    preD x (ix2 (tok t) h) = (decN (wTok a h) t : EReal) := by
  pointwise [preD]
  rw [two_bits, hx]
  unfold decN wTok
  have h0 : t % 16384 = t := Nat.mod_eq_of_lt ht
  have h1 : ∀ p, (⟨t % 16384 / 64 * 64 + t % 16384 % 64, p⟩ : Fin 16384) = tok t := fun p => Fin.ext (by simp only []; omega)
  rw [h1]
  by_cases hz : t % 64 = 0
  · rw [dif_pos (by omega), if_pos hz, sub_zero, sub_zero, pow_two_coe]
  · have h2 : ∀ p, (⟨t % 16384 / 64 * 64 + (t % 16384 % 64 - 1), p⟩ : Fin 16384) = tok (t - 1) := fun p => Fin.ext (by simp only []; omega)
    rw [dif_neg (by omega), if_neg hz, hx, h2, ← EReal.coe_sub, pow_two_coe]

theorem slice3 (x : FVec Ideal S16384x64x128 .f32) (st : Fin 3 → Int) (hn : n < 16384) (h0 : st 0 = n) (h1 : st 1 = 0) (h2 : st 2 = 0) (h) (h') :
    shapeCast S64x128 (Host.dynamicSlice S1x64x128 x st h) h' = fun y => x (ix3 (tok n) (y 0) (y 1)) := by
  have e0 := Host.clampedStart_of_le (s := S16384x64x128) (t := S1x64x128) rfl st 0 n h0 (by show n + 1 ≤ 16384; omega)
  have e1 := Host.clampedStart_of_le (s := S16384x64x128) (t := S1x64x128) rfl st 1 0 h1 (by decide)
  have e2 := Host.clampedStart_of_le (s := S16384x64x128) (t := S1x64x128) rfl st 2 0 h2 (by decide)
  funext y
  idx_vars y
  pointwise
  congr 1
  simp only [e0, e1, e2]
  rw [show (tok n) = ⟨n, hn⟩ from Fin.ext (Nat.mod_eq_of_lt hn)]
  simp only [Nat.zero_add]
theorem slice2 (x : FVec Ideal S16384x64 .f32) (st : Fin 2 → Int) (hn : n < 16384) (h0 : st 0 = n) (h1 : st 1 = 0) (h) (h') :
    shapeCast S64 (Host.dynamicSlice S1x64 x st h) h' = fun y => x (ix2 (tok n) (y 0)) := by
  have e0 := Host.clampedStart_of_le (s := S16384x64) (t := S1x64) rfl st 0 n h0 (by show n + 1 ≤ 16384; omega)
  have e1 := Host.clampedStart_of_le (s := S16384x64) (t := S1x64) rfl st 1 0 h1 (by decide)
  funext y
  idx_vars y
  pointwise
  congr 1
  simp only [e0, e1]
  rw [show (tok n) = ⟨n, hn⟩ from Fin.ext (Nat.mod_eq_of_lt hn)]
  simp only [Nat.zero_add]

theorem update3 (x : FVec Ideal S16384x64x128 .f32) (u : FVec Ideal S1x64x128 .f32) (st : Fin 3 → Int) (hn : n < 16384) (h0 : st 0 = n) (h1 : st 1 = 0)
    (h2 : st 2 = 0) (h) (t : Fin 16384) (a : Fin 64) (f : Fin 128) :
    Host.dynamicUpdateSlice x u st h (ix3 t a f) = if t.val = n then u (ix3 0 a f) else x (ix3 t a f) := by
  have e0 := Host.clampedStart_of_le (s := S16384x64x128) (t := S1x64x128) rfl st 0 n h0 (by show n + 1 ≤ 16384; omega)
  have e1 := Host.clampedStart_of_le (s := S16384x64x128) (t := S1x64x128) rfl st 1 0 h1 (by decide)
  have e2 := Host.clampedStart_of_le (s := S16384x64x128) (t := S1x64x128) rfl st 2 0 h2 (by decide)
  pointwise
  simp only [e1, e2]
  split
  · rename_i hin
    have ht : t.val = n := by omega
    rw [if_pos ht]
    exact congrArg u (congrArg (fun x => ix3 x a f) (Fin.ext (by show t.val - Host.clampedStart S16384x64x128 S1x64x128 _ st 0 = 0; omega)))
  · rename_i hin
    rw [if_neg]
    rintro rfl
    exact hin (by omega)

theorem ctr_toInt (hn : n < 16384) : (BitVec.ofNat 32 n).toInt = n := by
  exact toInt_ofNat_of_lt (by omega)

/-- The decayed state and the new state of a trip. -/
def tP : FVec Ideal S64x128x128 .f32 := res_main_while0b_v44 V
def tS : FVec Ideal S64x128x128 .f32 := res_main_while0b_v55 V
def tO : FVec Ideal S16384x64x128 .f32 := step_main_v19_7 V

section Trip

variable (hn : n < 16384) (hc : V (Proc.devRef .tc main_v19_5) = fun _ => BitVec.ofNat 32 n)
include hn hc

theorem trip_v44 (a : Fin 64) (e f : Fin 128) :
    tP V (ix3 a e f) = (cS V (ix3 a e f) * cD V (ix2 (tok n) a) : EReal) := by
  unfold tP res_main_while0b_v44
  rw [slice2 n _ _ hn (by rw [hc]; exact ctr_toInt n hn) (by rfl)]
  clean_types
  pointwise []
  rfl

theorem trip_v55 (a : Fin 64) (e f : Fin 128) : tS V (ix3 a e f)
    = (tP V (ix3 a e f) + cK V (ix3 (tok n) a e) * ((cV V (ix3 (tok n) a f)
        - ∑ x, cK V (ix3 (tok n) a x) * tP V (ix3 a x f)) * cB V (ix2 (tok n) a)) : EReal) := by
  unfold tS res_main_while0b_v55 res_main_while0b_v38
  rw [slice3 n _ _ hn (by rw [hc]; exact ctr_toInt n hn) rfl rfl, slice3 n _ _ hn (by rw [hc]; exact ctr_toInt n hn) rfl rfl,
    slice2 n _ _ hn (by rw [hc]; exact ctr_toInt n hn) rfl]
  clean_types
  pointwise []
  rfl

theorem trip_out (t : Fin 16384) (a : Fin 64) (f : Fin 128) :
    tO V (ix3 t a f)
      = if t.val = n then (∑ x, cQ V (ix3 (tok n) a x) * tS V (ix3 a x f) : EReal) else cO V (ix3 t a f) := by
  unfold tO step_main_v19_7
  rw [slice3 n _ _ hn (by rw [hc]; exact ctr_toInt n hn) rfl rfl]
  refine (update3 n _ _ _ hn (by rw [hc]; exact ctr_toInt n hn) rfl rfl _ t a f).trans ?_
  refine if_congr Iff.rfl ?_ rfl
  clean_types
  pointwise []
  rfl

end Trip

theorem out_read (t : Fin 16384) (y : Fin 8192) : (out_main_v36 V : FVec Ideal S16384x8192 .bf16) (ix2 t y)
    = normE (fun f => cO V (ix3 t ⟨y.val / 128, by omega⟩ f)) ⟨y.val % 128, by omega⟩ ((V (Proc.devRef .tc main_arg5) : FVec Ideal S128 .f32) (ix1 ⟨y.val % 128, by omega⟩))
      ((V (Proc.devRef .tc main_arg2) : FVec Ideal S16384x8192 .f32) (ix2 t y)) := by
  unfold out_main_v36
  clean_types
  pointwise []
  rfl

section Iterate

variable (a0 a1 : S16384x8192.Idx → ℝ) (a3 a4 : S16384x64.Idx → ℝ)

/-- What the carried buffers hold before trip `n`. -/
structure Carried : Prop where
  q : cQ V = preQ (aQ m c)
  k : cK V = preK (aQ m c)
  v : cV V = preV (aV m c)
  d : cD V = preD (aG m c)
  b : cB V = aB m c
  ctr : V (Proc.devRef .tc main_v19_5) = fun _ => BitVec.ofNat 32 n
  s : ∀ h e f, cS V (ix3 h e f) = (stN (kTok a0 h) (vTok a1 h) (wTok a3 h) (wTok a4 h) n e f : EReal)
  o : ∀ t h f, t.val < n → cO V (ix3 t h f) = (outN (qTok a0 h) (kTok a0 h) (vTok a1 h) (wTok a3 h) (wTok a4 h) t.val f : EReal)

variable (h0 : ∀ i, aQ m c i = (a0 i : EReal)) (h1 : ∀ i, aV m c i = (a1 i : EReal)) (h3 : ∀ i, aG m c i = (a3 i : EReal)) (h4 : ∀ i, aB m c i = (a4 i : EReal))
include h0 h1 h3 h4

theorem carried_step (hn : n < 16384) (C : Carried m c V n a0 a1 a3 a4) : Carried m c (STEP V) (n + 1) a0 a1 a3 a4 := by
  have hP : ∀ h e f, tP V (ix3 h e f)
      = (stN (kTok a0 h) (vTok a1 h) (wTok a3 h) (wTok a4 h) n e f * decN (wTok a3 h) n : ℝ) := fun h e f => by
    rw [trip_v44 V n hn C.ctr, C.s, C.d, preD_apply _ a3 h3 n hn, ← EReal.coe_mul]
  have hS : ∀ h e f, tS V (ix3 h e f) = (stN (kTok a0 h) (vTok a1 h) (wTok a3 h) (wTok a4 h) (n + 1) e f : EReal) := fun h e f => by
    rw [trip_v55 V n hn C.ctr, C.k, C.v, C.b]
    simp only [hP, preK_apply, preV_apply, h0, h1, h4, ← EReal.coe_mul, coe_sum, ← EReal.coe_sub, ← EReal.coe_add]
    rfl
  refine ⟨(STEP_main_v19_0 V).trans C.q, (STEP_main_v19_1 V).trans C.k, (STEP_main_v19_2 V).trans C.v, (STEP_main_v19_3 V).trans C.d,
    (STEP_main_v19_4 V).trans C.b, ?_, fun h e f => ?_, fun t h f ht => ?_⟩
  · rw [STEP_main_v19_5]
    unfold step_main_v19_5
    rw [C.ctr]
    funext i
    exact (BitVec.ofNat_add n 1).symm
  · exact (congrFun (STEP_main_v19_6 V) (ix3 h e f)).trans (hS h e f)
  · refine (congrFun (STEP_main_v19_7 V) (ix3 t h f)).trans ((trip_out V n hn C.ctr t h f).trans ?_)
    split
    · rename_i he
      simp only [C.q, preQ_apply, h0, hS, ← EReal.coe_mul, coe_sum]
      rw [he]
      rfl
    · exact C.o t h f (by omega)

theorem carried (n : ℕ) (hn : n ≤ 16384) : Carried m c (STEP^[n] (entryContents preI m c)) n a0 a1 a3 a4 := by
  induction n with
  | zero =>
    refine ⟨eQ m c, eK m c, eV m c, eD m c, eB m c, ctr_entry m c, fun h e f => ?_, fun t h f ht => absurd ht (Nat.not_lt_zero _)⟩
    refine (congrFun (eS m c) (ix3 h e f)).trans ?_
    pointwise [preS]
    rfl
  | succ n ih =>
    rw [Function.iterate_succ_apply']
    exact carried_step m c _ n a0 a1 a3 a4 h0 h1 h3 h4 (by omega) (ih (by omega))

/-- The reference's result. -/
theorem ref_value (t : Fin 16384) (y : Fin 8192) :
    (out_main_v36 (STEP^[16384] (entryContents preI m c)) : FVec Ideal S16384x8192 .bf16) (ix2 t y)
      = normE (fun f => (outN (qTok a0 ⟨y.val / 128, by omega⟩) (kTok a0 ⟨y.val / 128, by omega⟩) (vTok a1 ⟨y.val / 128, by omega⟩) (wTok a3 ⟨y.val / 128, by omega⟩)
            (wTok a4 ⟨y.val / 128, by omega⟩) t.val f : EReal)) ⟨y.val % 128, by omega⟩
          ((m ((c.tc : Thread nD τ).loc main_arg5) : FVec Ideal S128 .f32) (ix1 ⟨y.val % 128, by omega⟩))
          ((m ((c.tc : Thread nD τ).loc main_arg2) : FVec Ideal S16384x8192 .f32) (ix2 t y)) := by
  rw [out_read, iter_main_arg5, iter_main_arg2]
  simp only [(carried m c a0 a1 a3 a4 h0 h1 h3 h4 16384 le_rfl).o t _ _ t.isLt]

end Iterate

end Cert.Gdn
-- ==== Proof.Finite.lean ====
module

public import proofs.«01_k».proof.Defs
public import Idealize.ShloMosaic.PureOps

@[expose] public section

noncomputable section

namespace Cert.Gdn

open Idealize.ShloMosaic

/-- A value whose magnitude compares below infinity is a real. -/
theorem real_of_finite (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | coe r => exact ⟨r, rfl⟩
  | bot => simp [Ideal.cmp] at h
  | top => simp [Ideal.cmp] at h

/-- An array the precondition admits is an array of reals. -/
theorem reals_of_finite {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) :
    ∃ a : s.Idx → ℝ, ∀ i, x i = (a i : EReal) :=
  ⟨_, fun i => (real_of_finite _ (congrFun h i)).choose_spec⟩

end Cert.Gdn

end
-- ==== Proof.Results.lean ====
module

public import proofs.«01_k».proof.Proof.Gen.Pre_finite
public import proofs.«01_k».proof.Proof.Array
public import proofs.«01_k».proof.Proof.Reference
public import proofs.«01_k».proof.Proof.Finite

@[expose] public section

noncomputable section

namespace Cert.Gdn

open Idealize.ShloMosaic Idealize.ShloMosaic.TcCoe Idealize.ShloMosaic.StableHlo Idealize.SL.Sem

/-- The two results are one array. -/
theorem results (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hf : Cert.Pre_KernelIdeal_finite m)
    (he : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)) :
    ReferenceIdeal.Value.out_main_v36 (ReferenceIdeal.Value.STEP^[16384] (entryContents ReferenceIdeal.Value.preI m' c)) = KernelIdeal.Value.G8 m c := by
  obtain ⟨f0, f1, f3, f4⟩ := hf c
  obtain ⟨a0, h0⟩ := reals_of_finite _ _ f0
  obtain ⟨a1, h1⟩ := reals_of_finite _ _ f1
  obtain ⟨a3, h3⟩ := reals_of_finite _ _ f3
  obtain ⟨a4, h4⟩ := reals_of_finite _ _ f4
  obtain ⟨e0, e1, e2, e3, e4, e5⟩ := he
  refine funext (β := fun _ => EReal) fun y => ?_
  obtain ⟨t, x, rfl⟩ : ∃ (t : Fin 16384) (x : Fin 8192), y = ix2 t x := ⟨y 0, y 1, eq_ix2 y⟩
  refine (ref_value m' c a0 a1 a3 a4 (fun i => (congrFun e0 i).trans (h0 i)) (fun i => (congrFun e1 i).trans (h1 i))
    (fun i => (congrFun e3 i).trans (h3 i)) (fun i => (congrFun e4 i).trans (h4 i)) t x).trans ?_
  refine Eq.trans ?_ (ker_value m c a0 a1 a3 a4 h0 h1 h3 h4 t x).symm
  exact normE_congr rfl rfl (congrFun e5 _) (congrFun e2 _)

end Cert.Gdn

end
-- ==== Proof.HgrnChain.lean ====
/- The body of the HGRN recurrence as functions of one unit: a head on a chunk of 64 tokens. -/
module

public import proofs.«01_k».proof.Proof.Gen.HgrnIdeal.Frame

@[expose] public section

set_option maxRecDepth 16384

noncomputable section

namespace Cert.HgrnValue

open Idealize.ShloMosaic Cert.HgrnIdeal Cert.HgrnIdeal.Gen

variable {F : FTy → Type} [FloatOps F] [Named F]

def zeroV (s : Shape) : FVec F s .f32 := broadcast s (Scalar.ofBits .f32 0x00000000#32)
def oneV (s : Shape) : FVec F s .f32 := broadcast s (Scalar.ofBits .f32 0x3F800000#32)

/-- Row and column numbers, and their quotients and remainders. -/
def rowV : IVec S64x64 32 := iota .tc S64x64 32 [0] iota_S64x64_d0_w32
def colV : IVec S64x64 32 := iota .tc S64x64 32 [1] iota_S64x64_d1_w32
def fdiv (x : IVec S64x64 32) (n : BitVec 32) : IVec S64x64 32 :=
  select (andi (cmpi .ne
      (subi (extui 32 (cmpi .sgt x (broadcast S64x64 0#32)) natLt_1_32) (extui 32 (cmpi .slt x (broadcast S64x64 0#32)) natLt_1_32))
      (broadcast S64x64 (Scalar.subi (Scalar.extui (Scalar.cmpi .sgt n 0#32)) (Scalar.extui (Scalar.cmpi .slt n 0#32)))))
    (cmpi .ne (remsi x (broadcast S64x64 n)) (broadcast S64x64 0#32)))
    (subi (divsi x (broadcast S64x64 n)) (broadcast S64x64 1#32)) (divsi x (broadcast S64x64 n))
def nz (n : BitVec 32) : BitVec 32 := Scalar.select (Scalar.cmpi .eq n 0#32) 1#32 n
def fmod {s : Shape} (hs : s.Broadcasts s) (x : IVec s 32) (n : BitVec 32) : IVec s 32 :=
  select (andi (xori (cmpi .slt (remsi x (broadcast s (nz n))) (broadcast s 0#32)) (broadcastTo s (broadcast s (Scalar.cmpi .slt (nz n) 0#32)) hs))
      (cmpi .ne (remsi x (broadcast s (nz n))) (broadcast s 0#32)))
    (addi (remsi x (broadcast s (nz n))) (broadcast s (nz n))) (remsi x (broadcast s (nz n)))

/-- The pairs of blocks of `n` rows, an odd one and the one before it; the columns `j` of the diagonal's blocks of 8, and the rows from there. -/
def pairV (n : BitVec 32) : IVec S64x64 1 :=
  andi (cmpi .eq (fmod broadcasts_S64x64_S64x64 (fdiv rowV n) 2#32) (broadcast S64x64 1#32))
    (cmpi .eq (fdiv rowV n) (addi (fdiv colV n) (broadcast S64x64 1#32)))
def diagV (j : BitVec 32) : IVec S64x64 1 :=
  andi (cmpi .eq (fdiv rowV 8#32) (fdiv colV 8#32)) (cmpi .eq (fmod broadcasts_S64x64_S64x64 colV 8#32) (broadcast S64x64 j))
def fromV (j : BitVec 32) : IVec S64x1 1 :=
  cmpi .sge (fmod broadcasts_S64x1_S64x1 (iota .tc S64x1 32 [0] iota_S64x1_d0_w32) 8#32) (broadcast S64x1 j)
def triV : FVec F S64x64 .f32 := sitofp .f32 (extui 32 (cmpi .sge rowV colV) natLt_1_32)

/-- The first row of each block of 32, 16 or 8 rows, over the block. -/
def first32 (x : FVec F S64x128 .f32) : FVec F S64x128 .f32 :=
  shapeCast S64x128 (broadcastTo S2x32x128 (shapeCast S2x1x128 (extractStridedSlice S2x1x128 ![0, 0, 0]
    (shapeCast S2x32x128 x shapeCasts_S64x128_S2x32x128) slices_S2x32x128_o0_0_0_S2x1x128) shapeCasts_S2x1x128_S2x1x128)
    broadcasts_S2x1x128_S2x32x128) shapeCasts_S2x32x128_S64x128
def first16 (x : FVec F S64x128 .f32) : FVec F S64x128 .f32 :=
  shapeCast S64x128 (broadcastTo S4x16x128 (shapeCast S4x1x128 (extractStridedSlice S4x1x128 ![0, 0, 0]
    (shapeCast S4x16x128 x shapeCasts_S64x128_S4x16x128) slices_S4x16x128_o0_0_0_S4x1x128) shapeCasts_S4x1x128_S4x1x128)
    broadcasts_S4x1x128_S4x16x128) shapeCasts_S4x16x128_S64x128
theorem slices_8 (j : Fin 8) : S8x8x128.Slices ![0, j.val, 0] S8x1x128 := by revert j; decide
/-- Row `j` of each block of 8 rows, over the block. -/
def row8 (x : FVec F S64x128 .f32) (j : Fin 8) : FVec F S64x128 .f32 :=
  shapeCast S64x128 (broadcastTo S8x8x128 (shapeCast S8x1x128 (extractStridedSlice S8x1x128 ![0, j.val, 0]
    (shapeCast S8x8x128 x shapeCasts_S64x128_S8x8x128) (slices_8 j)) shapeCasts_S8x1x128_S8x1x128)
    broadcasts_S8x1x128_S8x8x128) shapeCasts_S8x8x128_S64x128
def lastRow (x : FVec F S64x128 .f32) : FVec F S1x128 .f32 := extractStridedSlice S1x128 ![63, 0] x slices_S64x128_o63_0_S1x128

/-- The first row of the next block, the last one taking the last row. -/
def next32 (x : FVec F S64x128 .f32) : FVec F S64x128 .f32 :=
  concatenate S64x128 0 [⟨S32x128, extractStridedSlice S32x128 ![32, 0] (first32 x) slices_S64x128_o32_0_S32x128⟩,
    ⟨S32x128, broadcastTo S32x128 (shapeCast S1x128 (lastRow x) shapeCasts_S1x128_S1x128) broadcasts_S1x128_S32x128⟩] concatenates_S32x128_S32x128_S64x128_d0
def next16 (x : FVec F S64x128 .f32) : FVec F S64x128 .f32 :=
  concatenate S64x128 0 [⟨S48x128, extractStridedSlice S48x128 ![16, 0] (first16 x) slices_S64x128_o16_0_S48x128⟩,
    ⟨S16x128, broadcastTo S16x128 (shapeCast S1x128 (lastRow x) shapeCasts_S1x128_S1x128) broadcasts_S1x128_S16x128⟩] concatenates_S48x128_S16x128_S64x128_d0
def next8 (x : FVec F S64x128 .f32) : FVec F S64x128 .f32 :=
  concatenate S64x128 0 [⟨S56x128, extractStridedSlice S56x128 ![8, 0] (row8 x 0) slices_S64x128_o8_0_S56x128⟩,
    ⟨S8x128, broadcastTo S8x128 (shapeCast S1x128 (lastRow x) shapeCasts_S1x128_S1x128) broadcasts_S1x128_S8x128⟩] concatenates_S56x128_S8x128_S64x128_d0

/-- The products of queries and keys, each decayed to the boundary between their blocks. -/
def crossV (q k b f n : FVec F S64x128 .f32) : FVec F S64x64 .f32 :=
  matmul dot_S64x128_S64x128_S64x64_1_1_0_0_n_n none (truncf .bf16 (mulf q (exp2 (subf b f))) bitsLt_bf16_f32)
    (truncf .bf16 (mulf k (exp2 (subf n b))) bitsLt_bf16_f32) (constant S64x64 .f32 0x00000000#32)

/-- The products of the queries with row `j` of the keys of their block of 8. -/
def sameV (q k b : FVec F S64x128 .f32) (j : Fin 8) (w : BitVec 32) : FVec F S64x64 .f32 :=
  broadcastTo S64x64 (shapeCast S64x1 (shapeCast S64x1 (multiReduction .add [1] S64
    (mulf (mulf q (exp2 (select (broadcastTo S64x128 (shapeCast S64x1 (fromV w) shapeCasts_S64x1_S64x1) broadcasts_S64x1_S64x128)
      (subf b (row8 b j)) (broadcast S64x128 (Scalar.ofBits .f32 0xFF800000#32))))) (row8 k j))
    0x00000000#32 reduces_S64x128_S64 (.inl rfl) rfl) shapeCasts_S64_S64x1) shapeCasts_S64x1_S64x1) broadcasts_S64x1_S64x64

/-- The decayed attention inside a chunk. -/
def attV (q k b : FVec F S64x128 .f32) : FVec F S64x64 .f32 :=
  select (diagV 7#32) (sameV q k b 7 7#32) (select (diagV 6#32) (sameV q k b 6 6#32) (select (diagV 5#32) (sameV q k b 5 5#32)
    (select (diagV 4#32) (sameV q k b 4 4#32) (select (diagV 3#32) (sameV q k b 3 3#32) (select (diagV 2#32) (sameV q k b 2 2#32)
    (select (diagV 1#32) (sameV q k b 1 1#32) (select (diagV 0#32) (sameV q k b 0 0#32)
    (addf (addf (addf (zeroV S64x64) (select (pairV 32#32) (crossV q k b (first32 b) (next32 b)) (zeroV S64x64)))
      (select (pairV 16#32) (crossV q k b (first16 b) (next16 b)) (zeroV S64x64)))
      (select (pairV 8#32) (crossV q k b (row8 b 0) (next8 b)) (zeroV S64x64))))))))))

/-- A chunk's outputs and its state after, for the state `s` before it. -/
def intraV (q k b v : FVec F S64x128 .f32) : FVec F S64x128 .f32 :=
  matmul dot_S64x64_S64x128_S64x128_1_0_0_1_n_n none (truncf .bf16 (attV q k b) bitsLt_bf16_f32) (truncf .bf16 v bitsLt_bf16_f32) (constant S64x128 .f32 0x00000000#32)
def outV (q k b v : FVec F S64x128 .f32) (s : FVec F S128x128 .f32) : FVec F S64x128 .f32 :=
  addf (intraV q k b v) (matmul dot_S64x128_S128x128_S64x128_1_1_0_0_n_n none (truncf .bf16 (mulf q (exp2 b)) bitsLt_bf16_f32)
    (truncf .bf16 s bitsLt_bf16_f32) (constant S64x128 .f32 0x00000000#32))
def kvV (k b v : FVec F S64x128 .f32) : FVec F S128x128 .f32 :=
  matmul dot_S64x128_S64x128_S128x128_0_0_1_1_n_n none (truncf .bf16 v bitsLt_bf16_f32)
    (truncf .bf16 (mulf k (exp2 (subf (broadcastTo S64x128 (lastRow b) broadcasts_S1x128_S64x128) b))) bitsLt_bf16_f32) (constant S128x128 .f32 0x00000000#32)
def nextV (k b v : FVec F S64x128 .f32) (s : FVec F S128x128 .f32) : FVec F S128x128 .f32 :=
  addf (mulf s (broadcastTo S128x128 (exp2 (lastRow b)) broadcasts_S1x128_S128x128)) (kvV k b v)

def sigV {s : Shape} (x : FVec F s .f32) : FVec F s .f32 := divf (oneV s) (addf (oneV s) (exp (subf (zeroV s) x)))
def siluV {s : Shape} (x : FVec F s .f32) : FVec F s .f32 := mulf x (sigV x)

/-- The gated norm of a chunk's outputs. -/
def normV (o : FVec F S64x128 .f32) (w : FVec F S1x128 .f32) (z : FVec F S64x128 .f32) : FVec F S64x128 .bf16 :=
  truncf .bf16 (mulf (mulf (mulf o (broadcastTo S64x128 (rsqrt (addf (divf (shapeCast S64x1 (multiReduction .add [1] S64 (mulf o o) 0x00000000#32 reduces_S64x128_S64 (.inl rfl) rfl)
    shapeCasts_S64_S64x1) (broadcast S64x1 (Scalar.ofBits .f32 0x43000000#32))) (broadcast S64x1 (Scalar.ofBits .f32 0x358637BD#32)))) broadcasts_S64x1_S64x128))
    (broadcastTo S64x128 w broadcasts_S1x128_S64x128)) (siluV z)) bitsLt_bf16_f32

/-- The lower bound of the decays, from the two layers' logits. -/
def lbV (a b : FVec F S1x1024 .f32) : FVec F S1x1024 .f32 :=
  addf (zeroV S1x1024) (divf (exp (subf b (maximumf a b))) (addf (exp (subf a (maximumf a b))) (exp (subf b (maximumf a b)))))
def lseV (a b : FVec F S256x1024 .f32) : FVec F S256x1024 .f32 :=
  addf (maximumf a b) (log (addf (oneV S256x1024) (exp (subf (zeroV S256x1024) (absf (subf a b))))))
/-- The base-2 log decays, and the keys. -/
def log2V (lb : FVec F S1x1024 .f32) (f : FVec F S256x1024 .f32) : FVec F S256x1024 .f32 :=
  mulf (lseV (broadcastTo S256x1024 (log lb) broadcasts_S1x1024_S256x1024)
    (addf (broadcastTo S256x1024 (log1p (subf (zeroV S1x1024) lb)) broadcasts_S1x1024_S256x1024)
      (subf (minimumf f (zeroV S256x1024)) (log (addf (oneV S256x1024) (exp (subf (zeroV S256x1024) (absf f))))))))
    (broadcast S256x1024 (Named.named κ "log2_e" 0x3FB8AA3B#32))
def keyV (lb : FVec F S1x1024 .f32) (f : FVec F S256x1024 .f32) : FVec F S256x1024 .f32 :=
  mulf (broadcastTo S256x1024 (subf (oneV S1x1024) lb) broadcasts_S1x1024_S256x1024) (sigV (subf (zeroV S256x1024) f))

section Inputs

variable (x0 x1 x2 x3 : Vec F S256x1024 .f32) (x4 : Vec F S2x1024 .f32) (x5 : Vec F S1x128 .f32) (xs : Vec F S8x128x128 .f32) (c : Fin 8) (r : Fin 4)

theorem inb_unit : ∀ a, (![64 * r.val, 128 * c.val] : Fin 2 → ℕ) a + S64x128.size a ≤ S256x1024.size a := by revert r c; decide
theorem slices_unit : S256x1024.Slices ![64 * r.val, 128 * c.val] S64x128 := by revert r c; decide
theorem inb_state : ∀ a, (![c.val, 0, 0] : Fin 3 → ℕ) a + S1x128x128.size a ≤ S8x128x128.size a := by revert c; decide

/-- The unit's part of an array of the grid point, cut out or loaded. -/
def cut (x : FVec F S256x1024 .f32) : FVec F S64x128 .f32 := extractStridedSlice (s := S256x1024) S64x128 ![64 * r.val, 128 * c.val] x (slices_unit c r)
def unitIn (x : Vec F S256x1024 .f32) : FVec F S64x128 .f32 := View.ld x (Rect.unit (s := S256x1024) ![64 * r.val, 128 * c.val] S64x128.size (inb_unit c r))
def whole (x : Vec F S256x1024 .f32) : FVec F S256x1024 .f32 := View.ld x (Rect.unit (s := S256x1024) ![0, 0] S256x1024.size inb_S256x1024_S256x1024_0_0)
def lbIn : FVec F S1x1024 .f32 := lbV (View.ld x4 (Rect.unit (s := S2x1024) ![0, 0] S1x1024.size inb_S2x1024_S1x1024_0_0))
  (View.ld x4 (Rect.unit (s := S2x1024) ![1, 0] S1x1024.size inb_S2x1024_S1x1024_1_0))
def nwIn : FVec F S1x128 .f32 := shapeCast S1x128 (View.ld x5 (Rect.unit (s := S1x128) ![0, 0] S1x128.size inb_S1x128_S1x128_0_0)) shapeCasts_S1x128_S1x128
def stIn : FVec F S128x128 .f32 := shapeCast S128x128
  (View.ld xs (Rect.unit (s := S8x128x128) ![c.val, 0, 0] S1x128x128.size (inb_state c))) shapeCasts_S1x128x128_S128x128

/-- The unit's queries, keys and summed log decays. -/
def qU : FVec F S64x128 .f32 := cut c r (siluV (whole x0))
def kU : FVec F S64x128 .f32 := cut c r (keyV (lbIn x4) (whole x1))
def bU : FVec F S64x128 .f32 :=
  matmul dot_S64x64_S64x128_S64x128_1_0_0_1_n_n (some .fp32) triV (cut c r (log2V (lbIn x4) (whole x1))) (constant S64x128 .f32 0x00000000#32)

/-- Head `c`'s state before chunk `n` of the tile. -/
def stU : ℕ → FVec F S128x128 .f32
  | 0 => stIn xs c
  | n + 1 => nextV (kU x1 x4 c (Fin.ofNat 4 n)) (bU x1 x4 c (Fin.ofNat 4 n)) (unitIn c (Fin.ofNat 4 n) x2) (stU n)

/-- The unit's outputs before the norm. -/
def oU : FVec F S64x128 .f32 := outV (qU x0 c r) (kU x1 x4 c r) (bU x1 x4 c r) (unitIn c r x2) (stU x1 x2 x4 xs c r.val)

/-- What is stored for head `c`'s state, and for the unit's outputs. -/
def stPiece : View.Piece (Elt F) S8x128x128 .f32 :=
  ⟨Rect.unit (s := S8x128x128) ![c.val, 0, 0] S1x128x128.size (inb_state c), shapeCast S1x128x128 (stU x1 x2 x4 xs c 4) shapeCasts_S128x128_S1x128x128⟩
def oPiece : View.Piece (Elt F) S256x1024 .bf16 :=
  ⟨Rect.unit (s := S256x1024) ![64 * r.val, 128 * c.val] S64x128.size (inb_unit c r), normV (oU x0 x1 x2 x4 xs c r) (nwIn x5) (unitIn c r x3)⟩

end Inputs

end Cert.HgrnValue
-- ==== Proof.HgrnMasks.lean ====
/- The masks of a chunk's attention, as conditions on row and column. -/
module

public import proofs.«01_k».proof.Proof.HgrnChain
public import proofs.«01_k».proof.Proof.Masks
public import Idealize.ShloMosaic.Lib.Pointwise

@[expose] public section

set_option maxRecDepth 16384

noncomputable section

namespace Cert.HgrnValue

open Idealize.ShloMosaic Idealize.ShloMosaic.Tactic Cert.HgrnIdeal Cert.HgrnIdeal.Gen
open Cert.Gdn (word_eq word_ge bit_and)

theorem fdiv_row (n : ℕ) (hn : n = 8 ∨ n = 16 ∨ n = 32) (i j : Fin 64) :
    fdiv rowV (BitVec.ofNat 32 n) (ix2 i j) = BitVec.ofNat 32 (i.val / n) := by
  pointwise [fdiv, rowV]
  rcases hn with rfl | rfl | rfl <;> (revert i; decide +kernel)
theorem fdiv_col (n : ℕ) (hn : n = 8 ∨ n = 16 ∨ n = 32) (i j : Fin 64) :
    fdiv colV (BitVec.ofNat 32 n) (ix2 i j) = BitVec.ofNat 32 (j.val / n) := by
  pointwise [fdiv, colV]
  rcases hn with rfl | rfl | rfl <;> (revert j; decide +kernel)

/-- A remainder of words below 64, by 2 or by 8. -/
def modW (x n : BitVec 32) : BitVec 32 := fmod broadcasts_S64x1_S64x1 (fun _ => x) n (ix2 0 0)
theorem modW_apply : ∀ (a : Fin 64), modW (BitVec.ofNat 32 a.val) 2#32 = BitVec.ofNat 32 (a.val % 2) ∧ modW (BitVec.ofNat 32 a.val) 8#32 = BitVec.ofNat 32 (a.val % 8) := by
  decide +kernel
theorem fmod_apply {s : Shape} (hs : s.Broadcasts s) (x : IVec s 32) (n : BitVec 32) (y : s.Idx) : fmod hs x n y = modW (x y) n := rfl

theorem lt64 (i : Fin 64) (n : ℕ) : i.val / n < 64 := lt_of_le_of_lt (Nat.div_le_self _ _) i.isLt

theorem add_one_word (a : ℕ) : IntOp.addi (BitVec.ofNat 32 a) 1#32 = BitVec.ofNat 32 (a + 1) := (BitVec.ofNat_add a 1).symm

theorem pairV_apply (n : ℕ) (hn : n = 8 ∨ n = 16 ∨ n = 32) (i j : Fin 64) :
    pairV (BitVec.ofNat 32 n) (ix2 i j) = if i.val / n % 2 = 1 ∧ i.val / n = j.val / n + 1 then 1#1 else 0#1 := by
  show IntOp.andi (IntOp.cmpi .eq (fmod broadcasts_S64x64_S64x64 (fdiv rowV (BitVec.ofNat 32 n)) 2#32 (ix2 i j)) (BitVec.ofNat 32 1))
    (IntOp.cmpi .eq (fdiv rowV (BitVec.ofNat 32 n) (ix2 i j)) (IntOp.addi (fdiv colV (BitVec.ofNat 32 n) (ix2 i j)) 1#32)) = _
  have hi := lt64 i n
  have hj := lt64 j n
  rw [fmod_apply, fdiv_row n hn, fdiv_col n hn, (modW_apply ⟨i.val / n, hi⟩).1, add_one_word, word_eq ⟨i.val / n % 2, by omega⟩ ⟨1, by omega⟩,
    word_eq ⟨i.val / n, by omega⟩ ⟨j.val / n + 1, by omega⟩, bit_and]

theorem diagV_apply (w : Fin 8) (i j : Fin 64) :
    diagV (BitVec.ofNat 32 w.val) (ix2 i j) = if i.val / 8 = j.val / 8 ∧ j.val % 8 = w.val then 1#1 else 0#1 := by
  show IntOp.andi (IntOp.cmpi .eq (fdiv rowV (BitVec.ofNat 32 8) (ix2 i j)) (fdiv colV (BitVec.ofNat 32 8) (ix2 i j)))
    (IntOp.cmpi .eq (fmod broadcasts_S64x64_S64x64 colV 8#32 (ix2 i j)) (BitVec.ofNat 32 w.val)) = _
  have hi := lt64 i 8
  have hj := lt64 j 8
  have hc : colV (ix2 i j) = BitVec.ofNat 32 j.val := by unfold colV; rw [iota_single_apply]; rfl
  rw [fmod_apply, hc, fdiv_row 8 (by norm_num), fdiv_col 8 (by norm_num), (modW_apply j).2, word_eq ⟨i.val / 8, by omega⟩ ⟨j.val / 8, by omega⟩,
    word_eq ⟨j.val % 8, by omega⟩ ⟨w.val, by omega⟩, bit_and]

theorem fromV_apply (w : Fin 8) (i : Fin 64) (e : Fin 1) : fromV (BitVec.ofNat 32 w.val) (ix2 i e) = if w.val ≤ i.val % 8 then 1#1 else 0#1 := by
  show IntOp.cmpi .sge (fmod broadcasts_S64x1_S64x1 (iota .tc S64x1 32 [0] iota_S64x1_d0_w32) 8#32 (ix2 i e)) (BitVec.ofNat 32 w.val) = _
  have hc : (iota .tc S64x1 32 [0] iota_S64x1_d0_w32 : IVec S64x1 32) (ix2 i e) = BitVec.ofNat 32 i.val := by rw [iota_single_apply]; rfl
  rw [fmod_apply, hc, (modW_apply i).2, word_ge ⟨i.val % 8, by omega⟩ ⟨w.val, by omega⟩]

theorem triV_apply (i j : Fin 64) : (triV (F := Ideal) (ix2 i j) : EReal) = if j.val ≤ i.val then ((1 : ℝ) : EReal) else ((0 : ℝ) : EReal) := by
  have hc : IntOp.cmpi .sge (rowV (ix2 i j)) (colV (ix2 i j)) = if j.val ≤ i.val then 1#1 else 0#1 := by
    unfold rowV colV
    rw [iota_single_apply, iota_single_apply]
    exact word_ge ⟨i.val, by omega⟩ ⟨j.val, by omega⟩
  show ((((BitVec.setWidth 32 (IntOp.cmpi .sge (rowV (ix2 i j)) (colV (ix2 i j))) : BitVec 32).toInt : ℝ)) : EReal) = _
  rw [hc]
  split <;> norm_num

end Cert.HgrnValue
-- ==== Proof.HgrnTokens.lean ====
/- The gated recurrence over the reals: token by token, and a chunk of 64 tokens at once. -/
module

public import Idealize.ShloMosaic.Lib.Pointwise

@[expose] public section

noncomputable section

namespace Cert.HgrnValue

/-- The logistic function and the lower bound of two logits. -/
def sigR (x : ℝ) : ℝ := 1 / (1 + Real.exp (-x))
def lowR (a b : ℝ) : ℝ := Real.exp (b - max a b) / (Real.exp (a - max a b) + Real.exp (b - max a b))

theorem sigR_pos (x : ℝ) : 0 < sigR x := by unfold sigR; positivity
theorem lowR_pos (a b : ℝ) : 0 < lowR a b := by unfold lowR; positivity
theorem lowR_lt (a b : ℝ) : lowR a b < 1 := by
  unfold lowR
  rw [div_lt_one (by positivity)]
  exact lt_add_of_pos_left _ (Real.exp_pos _)

/-- The log of a sum of exponentials, by the larger one. -/
theorem lse (x y : ℝ) : max x y + Real.log (1 + Real.exp (-|x - y|)) = Real.log (Real.exp x + Real.exp y) := by
  rcases le_total x y with h | h
  · rw [max_eq_right h, abs_of_nonpos (sub_nonpos.mpr h), neg_neg]
    have : Real.exp x + Real.exp y = Real.exp y * (1 + Real.exp (x - y)) := by rw [mul_add, mul_one, ← Real.exp_add]; ring_nf
    rw [this, Real.log_mul (Real.exp_ne_zero _) (by positivity), Real.log_exp]
  · rw [max_eq_left h, abs_of_nonneg (sub_nonneg.mpr h)]
    have : Real.exp x + Real.exp y = Real.exp x * (1 + Real.exp (-(x - y))) := by rw [mul_add, mul_one, ← Real.exp_add]; ring_nf
    rw [this, Real.log_mul (Real.exp_ne_zero _) (by positivity), Real.log_exp]

theorem logSig (x : ℝ) : min x 0 - Real.log (1 + Real.exp (-|x|)) = Real.log (sigR x) := by
  have h := lse (-x) 0
  rw [sub_zero, abs_neg, Real.exp_zero] at h
  have hm : max (-x) 0 = -min x 0 := by
    rw [← neg_zero, max_neg_neg, neg_zero]
  unfold sigR
  rw [one_div, Real.log_inv]
  rw [hm, add_comm (Real.exp (-x))] at h
  linarith

section Recurrence

variable (q k v l : ℕ → Fin 128 → ℝ)

/-- The state before token `n`, and the token's outputs. -/
def stN : ℕ → Fin 128 → Fin 128 → ℝ
  | 0 => fun _ _ => 0
  | n + 1 => fun d e => stN n d e * (2 : ℝ) ^ l n d + k n d * v n e
def outN (n : ℕ) (e : Fin 128) : ℝ := ∑ d, q n d * stN k v l (n + 1) d e

/-- The log decay from token `T` on. -/
def sumL (T m : ℕ) (d : Fin 128) : ℝ := ∑ j ∈ Finset.range m, l (T + j) d

theorem stN_from (T m : ℕ) (d e : Fin 128) : stN k v l (T + m) d e
    = stN k v l T d e * (2 : ℝ) ^ sumL l T m d + ∑ j ∈ Finset.range m, k (T + j) d * v (T + j) e * (2 : ℝ) ^ (sumL l T m d - sumL l T (j + 1) d) := by
  induction m with
  | zero => simp [sumL]
  | succ m ih =>
    have hs : sumL l T (m + 1) d = sumL l T m d + l (T + m) d := Finset.sum_range_succ _ _
    have hr : stN k v l (T + (m + 1)) d e = stN k v l (T + m) d e * (2 : ℝ) ^ l (T + m) d + k (T + m) d * v (T + m) e := rfl
    rw [hr, ih, add_mul, Finset.sum_mul, Finset.sum_range_succ, sub_self, Real.rpow_zero, mul_one, mul_assoc, ← Real.rpow_add two_pos, ← hs, add_assoc]
    congr 2
    refine Finset.sum_congr rfl fun j _ => ?_
    rw [mul_assoc, ← Real.rpow_add two_pos, hs]
    congr 2
    ring

/-- The rows of a chunk that starts at token `T`. -/
def chunk (x : ℕ → Fin 128 → ℝ) (T : ℕ) : Matrix (Fin 64) (Fin 128) ℝ := Matrix.of fun i d => x (T + i.val) d
def cumR (x : Matrix (Fin 64) (Fin 128) ℝ) : Matrix (Fin 64) (Fin 128) ℝ := Matrix.of fun i d => ∑ j : Fin 64, if j.val ≤ i.val then x j d else 0

theorem sum_le (i : Fin 64) (f : ℕ → ℝ) : (∑ j : Fin 64, if j.val ≤ i.val then f j.val else 0) = ∑ j ∈ Finset.range (i.val + 1), f j := by
  rw [Fin.sum_univ_eq_sum_range (fun j => if j ≤ i.val then f j else 0) 64, ← Finset.sum_filter]
  refine Finset.sum_congr (Finset.ext fun j => ?_) fun _ _ => rfl
  have := i.isLt
  simp only [Finset.mem_filter, Finset.mem_range]
  omega

theorem cumR_chunk (T : ℕ) (i : Fin 64) (d : Fin 128) : cumR (chunk l T) i d = sumL l T (i.val + 1) d :=
  sum_le i fun j => l (T + j) d

end Recurrence

section Chunk

variable (q k b v : Matrix (Fin 64) (Fin 128) ℝ) (S : Matrix (Fin 128) (Fin 128) ℝ)

/-- The decayed attention inside a chunk, its outputs, and the state after it, kept with the values first. -/
def attR : Matrix (Fin 64) (Fin 64) ℝ := Matrix.of fun i j => if j.val ≤ i.val then ∑ d, q i d * k j d * (2 : ℝ) ^ (b i d - b j d) else 0
def outR : Matrix (Fin 64) (Fin 128) ℝ := Matrix.of fun i e => ∑ j, attR q k b i j * v j e + ∑ d, q i d * (2 : ℝ) ^ b i d * S e d
def nextR : Matrix (Fin 128) (Fin 128) ℝ := Matrix.of fun e d => S e d * (2 : ℝ) ^ b 63 d + ∑ i, v i e * (k i d * (2 : ℝ) ^ (b 63 d - b i d))

end Chunk

section Agree

variable (q k v l : ℕ → Fin 128 → ℝ) (T : ℕ)

/-- The state before a token, as the kernel keeps it. -/
def stT (n : ℕ) : Matrix (Fin 128) (Fin 128) ℝ := Matrix.of fun e d => stN k v l n d e

theorem outR_eq (i : Fin 64) (e : Fin 128) :
    outR (chunk q T) (chunk k T) (cumR (chunk l T)) (chunk v T) (stT k v l T) i e = outN q k v l (T + i.val) e := by
  have ho : outN q k v l (T + i.val) e = ∑ d, q (T + i.val) d * stN k v l (T + (i.val + 1)) d e := rfl
  rw [ho]
  simp only [stN_from, mul_add, Finset.sum_add_distrib]
  unfold outR
  rw [Matrix.of_apply, add_comm]
  congr 1
  · refine Finset.sum_congr rfl fun d _ => ?_
    rw [cumR_chunk]
    show q (T + i.val) d * _ * stN k v l T d e = _
    ring
  · have ha : ∀ j : Fin 64, attR (chunk q T) (chunk k T) (cumR (chunk l T)) i j * chunk v T j e
        = if j.val ≤ i.val then (∑ d, q (T + i.val) d * k (T + j.val) d * (2 : ℝ) ^ (sumL l T (i.val + 1) d - sumL l T (j.val + 1) d)) * v (T + j.val) e else 0 := fun j => by
      unfold attR
      simp only [Matrix.of_apply, cumR_chunk, ite_mul, zero_mul]
      rfl
    simp only [ha]
    rw [sum_le i fun j => (∑ d, q (T + i.val) d * k (T + j) d * (2 : ℝ) ^ (sumL l T (i.val + 1) d - sumL l T (j + 1) d)) * v (T + j) e]
    simp only [Finset.sum_mul, Finset.mul_sum]
    rw [Finset.sum_comm]
    refine Finset.sum_congr rfl fun d _ => Finset.sum_congr rfl fun j _ => ?_
    ring

theorem nextR_eq : nextR (chunk k T) (cumR (chunk l T)) (chunk v T) (stT k v l T) = stT k v l (T + 64) := by
  ext e d
  unfold nextR stT
  simp only [Matrix.of_apply]
  rw [stN_from, cumR_chunk]
  congr 1
  rw [← Fin.sum_univ_eq_sum_range (fun j => k (T + j) d * v (T + j) e * (2 : ℝ) ^ (sumL l T 64 d - sumL l T (j + 1) d)) 64]
  refine Finset.sum_congr rfl fun j _ => ?_
  rw [cumR_chunk]
  show v (T + j.val) e * (k (T + j.val) d * _) = _
  rw [← mul_assoc, mul_comm (v _ _)]
  rfl

end Agree

end Cert.HgrnValue
-- ==== Proof.HgrnReals.lean ====
/- What the operations of a unit do to vectors of reals. -/
module

public import proofs.«01_k».proof.Proof.HgrnMasks
public import proofs.«01_k».proof.Proof.HgrnTokens
public import proofs.«01_k».proof.Proof.Reals

@[expose] public section

set_option maxRecDepth 16384

noncomputable section

namespace Cert.HgrnValue

open Idealize.ShloMosaic Idealize.ShloMosaic.Tactic Cert.HgrnIdeal Cert.HgrnIdeal.Gen
open Cert.Gdn (ofR ofR_apply coe_sum addf_ofR subf_ofR mulf_ofR exp2_ofR)

/-- A matrix with its rows renumbered. -/
def rowsAt (f : Fin 64 → Fin 64) (x : Matrix (Fin 64) (Fin 128) ℝ) : Matrix (Fin 64) (Fin 128) ℝ := Matrix.of fun i d => x (f i) d

/-- The first row of a row's block of `n`, row `w` of its block of 8, and the first row of the next block, the last row past the end. -/
def firstOf (n : ℕ) (i : Fin 64) : Fin 64 := ⟨i.val / n * n, lt_of_le_of_lt (Nat.div_mul_le_self _ _) i.isLt⟩
def rowOf (w : Fin 8) (i : Fin 64) : Fin 64 := ⟨i.val / 8 * 8 + w.val, by omega⟩
def nextOf (n : ℕ) (i : Fin 64) : Fin 64 := if h : i.val + n < 64 then firstOf n ⟨i.val + n, h⟩ else 63

variable (q k b f n v : Matrix (Fin 64) (Fin 128) ℝ) (S : Matrix (Fin 128) (Fin 128) ℝ)

theorem first32_ofR : first32 (ofR b) = ofR (rowsAt (firstOf 32) b) := by
  funext y
  idx_vars y
  pointwise [first32, ofR, rowsAt, firstOf, Matrix.of_apply]
theorem first16_ofR : first16 (ofR b) = ofR (rowsAt (firstOf 16) b) := by
  funext y
  idx_vars y
  pointwise [first16, ofR, rowsAt, firstOf, Matrix.of_apply]
theorem row8_ofR (w : Fin 8) : row8 (ofR b) w = ofR (rowsAt (rowOf w) b) := by
  funext y
  idx_vars y
  pointwise [row8, ofR, rowsAt, rowOf, Matrix.of_apply]
theorem first8_ofR : row8 (ofR b) 0 = ofR (rowsAt (firstOf 8) b) := row8_ofR b 0
theorem lastRow_ofR : lastRow (ofR b) = ofR (Matrix.of fun _ d => b 63 d) := by
  funext y
  idx_vars y
  pointwise [lastRow, ofR, Matrix.of_apply]

theorem next32_ofR : next32 (ofR b) = ofR (rowsAt (nextOf 32) b) := by
  unfold next32
  rw [first32_ofR, lastRow_ofR]
  funext y
  idx_vars y
  pointwise [ofR, rowsAt, nextOf, Matrix.of_apply]
  split <;> rename_i h
  · rw [dif_pos (by omega)]; congr 3; exact Fin.ext (by simp only []; omega)
  · rw [dif_neg (by omega)]
theorem next16_ofR : next16 (ofR b) = ofR (rowsAt (nextOf 16) b) := by
  unfold next16
  rw [first16_ofR, lastRow_ofR]
  funext y
  idx_vars y
  pointwise [ofR, rowsAt, nextOf, Matrix.of_apply]
  split <;> rename_i h
  · rw [dif_pos (by omega)]; congr 3; exact Fin.ext (by simp only []; omega)
  · rw [dif_neg (by omega)]
theorem next8_ofR : next8 (ofR b) = ofR (rowsAt (nextOf 8) b) := by
  unfold next8
  rw [first8_ofR, lastRow_ofR]
  funext y
  idx_vars y
  pointwise [ofR, rowsAt, nextOf, Matrix.of_apply]
  split <;> rename_i h
  · rw [dif_pos (by omega)]; congr 3; exact Fin.ext (by simp only []; omega)
  · rw [dif_neg (by omega)]

theorem crossV_ofR : crossV (ofR q) (ofR k) (ofR b) (ofR f) (ofR n)
    = ofR (Matrix.of fun i j => ∑ d, (q i d * (2 : ℝ) ^ (b i d - f i d)) * (k j d * (2 : ℝ) ^ (n j d - b j d))) := by
  unfold crossV
  rw [subf_ofR, exp2_ofR, mulf_ofR, subf_ofR, exp2_ofR, mulf_ofR]
  funext y
  idx_vars y
  pointwise [ofR]
  simp only [← EReal.coe_mul, coe_sum]
  rfl

theorem minf_bits : Ideal.ofBits FTy.f32 4286578688#32 = ⊥ := by simp [Ideal.ofBits, Ideal.ieee]

theorem sameV_ofR (w : Fin 8) : sameV (ofR q) (ofR k) (ofR b) w (BitVec.ofNat 32 w.val)
    = ofR (Matrix.of fun i _ => if w.val ≤ i.val % 8 then ∑ d, q i d * (2 : ℝ) ^ (b i d - b (rowOf w i) d) * k (rowOf w i) d else 0) := by
  have hs : exp2 (select (broadcastTo S64x128 (shapeCast S64x1 (fromV (BitVec.ofNat 32 w.val)) shapeCasts_S64x1_S64x1) broadcasts_S64x1_S64x128)
      (subf (ofR b) (row8 (ofR b) w)) (broadcast S64x128 (Scalar.ofBits .f32 0xFF800000#32)))
      = ofR (Matrix.of fun i d => if w.val ≤ i.val % 8 then (2 : ℝ) ^ (b i d - b (rowOf w i) d) else 0) := by
    rw [row8_ofR, subf_ofR]
    funext y
    idx_vars y
    have h := fromV_apply w y0 0
    pointwise [ofR]
    rw [h]
    simp only [Matrix.of_apply]
    split
    · exact Ideal.exp2_coe _
    · show Ideal.exp2 (Ideal.ofBits FTy.f32 4286578688#32) = _
      rw [minf_bits, Ideal.exp2_bot]
      rfl
  unfold sameV
  rw [hs, row8_ofR, mulf_ofR, mulf_ofR]
  funext y
  idx_vars y
  pointwise [ofR]
  simp only [coe_sum, Matrix.of_apply, rowsAt]
  split
  · rfl
  · simp

theorem zero_ofR {m n : ℕ} : zeroV (F := Ideal) (⟨2, ![m, n]⟩ : Shape) = ofR 0 := by
  funext y; exact Ideal.ofBits_zero_f32

/-- A selection by a condition on row and column. -/
theorem select_ofR (p : IVec S64x64 1) (c : Fin 64 → Fin 64 → Prop) [∀ i j, Decidable (c i j)]
    (hp : ∀ i j, p (ix2 i j) = if c i j then 1#1 else 0#1) (A B : Matrix (Fin 64) (Fin 64) ℝ) :
    select p (ofR A) (ofR B) = ofR (Matrix.of fun i j => if c i j then A i j else B i j) := by
  funext y
  obtain ⟨i, j, rfl⟩ : ∃ i j, y = ix2 i j := ⟨y 0, y 1, eq_ix2 y⟩
  show Scalar.select (p (ix2 i j)) (ofR A (ix2 i j)) (ofR B (ix2 i j)) = ofR (Matrix.of fun i j => if c i j then A i j else B i j) (ix2 i j)
  rw [hp, ofR_apply, ofR_apply, ofR_apply, Matrix.of_apply]
  split <;> rfl

/-- The decay across two blocks that meet at row `r`. -/
theorem cross_eq (i j r : Fin 64) : (∑ d, (q i d * (2 : ℝ) ^ (b i d - b r d)) * (k j d * (2 : ℝ) ^ (b r d - b j d)))
    = ∑ d, q i d * k j d * (2 : ℝ) ^ (b i d - b j d) := by
  refine Finset.sum_congr rfl fun d _ => ?_
  rw [mul_mul_mul_comm, ← Real.rpow_add two_pos, sub_add_sub_cancel]

/-- The part of the attention that the masks of blocks of `n` keep. -/
def pairR (n : ℕ) : Matrix (Fin 64) (Fin 64) ℝ := Matrix.of fun i j => if i.val / n % 2 = 1 ∧ i.val / n = j.val / n + 1 then attR q k b i j else 0

theorem next_first (n : ℕ) (hn : n = 8 ∨ n = 16 ∨ n = 32) (i j : Fin 64) (h : i.val / n = j.val / n + 1) : nextOf n j = firstOf n i := by
  unfold nextOf
  rcases hn with rfl | rfl | rfl
  all_goals
    rw [dif_pos (by omega)]
    exact Fin.ext (by simp only [firstOf]; omega)

theorem le_of_pair (n : ℕ) (i j : Fin 64) (h : i.val / n = j.val / n + 1) : j.val ≤ i.val := by
  by_contra hc
  have := Nat.div_le_div_right (c := n) (le_of_not_ge hc)
  omega

theorem pair_ofR (n : ℕ) (hn : n = 8 ∨ n = 16 ∨ n = 32) :
    select (pairV (BitVec.ofNat 32 n)) (crossV (ofR q) (ofR k) (ofR b) (ofR (rowsAt (firstOf n) b)) (ofR (rowsAt (nextOf n) b))) (zeroV S64x64)
      = ofR (pairR q k b n) := by
  rw [crossV_ofR, show zeroV (F := Ideal) S64x64 = ofR 0 from zero_ofR, select_ofR _ _ (pairV_apply n hn)]
  refine congrArg ofR (funext fun i => funext fun j => ?_)
  unfold pairR
  simp only [Matrix.of_apply]
  split
  · rename_i h
    unfold attR rowsAt
    simp only [Matrix.of_apply]
    rw [if_pos (le_of_pair n i j h.2), next_first n hn i j h.2, cross_eq]
  · rfl

/-- A column of the diagonal's blocks, laid over what is there. -/
theorem diag_ofR (w : Fin 8) (B : Matrix (Fin 64) (Fin 64) ℝ) :
    select (diagV (BitVec.ofNat 32 w.val)) (sameV (ofR q) (ofR k) (ofR b) w (BitVec.ofNat 32 w.val)) (ofR B)
      = ofR (Matrix.of fun i j => if i.val / 8 = j.val / 8 ∧ j.val % 8 = w.val then attR q k b i j else B i j) := by
  rw [sameV_ofR, select_ofR _ _ (diagV_apply w)]
  refine congrArg ofR (funext fun i => funext fun j => ?_)
  simp only [Matrix.of_apply]
  split
  · rename_i h
    have hr : rowOf w i = j := Fin.ext (by simp only [rowOf]; omega)
    unfold attR
    rw [hr, Matrix.of_apply]
    refine if_congr (by omega) (Finset.sum_congr rfl fun d _ => ?_) rfl
    ring
  · rfl

theorem attV_ofR : attV (ofR q) (ofR k) (ofR b) = ofR (attR q k b) := by
  unfold attV
  rw [first32_ofR, first16_ofR, first8_ofR, next32_ofR, next16_ofR, next8_ofR, show (32#32 : BitVec 32) = BitVec.ofNat 32 32 from rfl, pair_ofR q k b 32 (by norm_num),
    show (16#32 : BitVec 32) = BitVec.ofNat 32 16 from rfl, pair_ofR q k b 16 (by norm_num), pair_ofR q k b 8 (by norm_num),
    show zeroV (F := Ideal) S64x64 = ofR 0 from zero_ofR, addf_ofR, addf_ofR, addf_ofR]
  have h := diag_ofR q k b
  rw [show diagV 0#32 = diagV (BitVec.ofNat 32 (0 : Fin 8).val) from rfl]
  erw [h 0, h 1, h 2, h 3, h 4, h 5, h 6, h 7]
  refine congrArg ofR (funext fun i => funext fun j => ?_)
  simp only [Matrix.of_apply, Matrix.add_apply, Matrix.zero_apply, pairR, zero_add]
  have hi := i.isLt
  have hj := j.isLt
  by_cases hd : i.val / 8 = j.val / 8
  · have hw : j.val % 8 < 8 := Nat.mod_lt _ (by norm_num)
    generalize attR q k b i j = x
    have e : ∀ w : Fin 8, (i.val / 8 = j.val / 8 ∧ j.val % 8 = w.val) = (j.val % 8 = w.val) := fun w => by simp only [hd, true_and]
    simp only [e]
    generalize j.val % 8 = r at hw
    interval_cases r <;> simp
  · have e : ∀ w : Fin 8, (i.val / 8 = j.val / 8 ∧ j.val % 8 = w.val) = False := fun w => by simp only [hd, false_and]
    simp only [e, if_false]
    by_cases hl : j.val ≤ i.val
    · by_cases h32 : i.val / 32 % 2 = 1 ∧ i.val / 32 = j.val / 32 + 1
      · rw [if_pos h32, if_neg (by omega), if_neg (by omega), add_zero, add_zero]
      · by_cases h16 : i.val / 16 % 2 = 1 ∧ i.val / 16 = j.val / 16 + 1
        · rw [if_neg h32, if_pos h16, if_neg (by omega), zero_add, add_zero]
        · rw [if_neg h32, if_neg h16, if_pos (by omega), zero_add, zero_add]
    · rw [if_neg (by omega), if_neg (by omega), if_neg (by omega)]
      unfold attR
      rw [Matrix.of_apply, if_neg hl, add_zero, add_zero]

theorem outV_ofR : outV (ofR q) (ofR k) (ofR b) (ofR v) (ofR S) = ofR (outR q k b v S) := by
  unfold outV intraV
  rw [attV_ofR, exp2_ofR, mulf_ofR]
  funext y
  idx_vars y
  pointwise [ofR]
  simp only [← EReal.coe_mul, coe_sum, ← EReal.coe_add]
  rfl

theorem nextV_ofR : nextV (ofR k) (ofR b) (ofR v) (ofR S) = ofR (nextR k b v S) := by
  have hb : subf (broadcastTo S64x128 (lastRow (ofR b)) broadcasts_S1x128_S64x128) (ofR b) = ofR (Matrix.of fun i d => b 63 d - b i d) := by
    rw [lastRow_ofR]
    funext y
    idx_vars y
    pointwise [ofR, Matrix.of_apply]
    exact (EReal.coe_sub _ _).symm
  unfold nextV kvV
  rw [hb, exp2_ofR, mulf_ofR, lastRow_ofR, exp2_ofR]
  funext y
  idx_vars y
  pointwise [ofR, Matrix.of_apply]
  simp only [← EReal.coe_mul, coe_sum, ← EReal.coe_add]
  rfl

theorem cumV_ofR (x : Matrix (Fin 64) (Fin 128) ℝ) :
    matmul dot_S64x64_S64x128_S64x128_1_0_0_1_n_n (some .fp32) triV (ofR x) (constant (F := Ideal) S64x128 .f32 0x00000000#32) = ofR (cumR x) := by
  have ht : triV (F := Ideal) = ofR (Matrix.of fun i j => if j.val ≤ i.val then (1 : ℝ) else 0) := by
    funext y
    obtain ⟨i, j, rfl⟩ : ∃ i j, y = ix2 i j := ⟨y 0, y 1, eq_ix2 y⟩
    refine (triV_apply i j).trans ?_
    rw [ofR_apply, Matrix.of_apply]
    split <;> rfl
  rw [ht]
  funext y
  idx_vars y
  pointwise [ofR, Matrix.of_apply]
  simp only [← EReal.coe_mul, coe_sum]
  unfold cumR
  simp only [Matrix.of_apply, ite_mul, one_mul, zero_mul]

end Cert.HgrnValue
-- ==== Proof.HgrnGates.lean ====
/- The gates of the recurrence on reals: the lower bound, the log decays, the keys and the queries. -/
module

public import proofs.«01_k».proof.Proof.HgrnReals

@[expose] public section

set_option maxRecDepth 16384

noncomputable section

namespace Cert.HgrnValue

open Idealize.ShloMosaic Idealize.ShloMosaic.Tactic Cert.HgrnIdeal Cert.HgrnIdeal.Gen
open Cert.Gdn (ofR ofR_apply coe_sum addf_ofR subf_ofR mulf_ofR exp2_ofR)

theorem one_bits : Ideal.ofBits FTy.f32 0x3F800000#32 = ((1 : ℝ) : EReal) := by
  rw [Ideal.ofBits_one_f32]; rfl
theorem zero_bits : Ideal.ofBits FTy.f32 0x00000000#32 = ((0 : ℝ) : EReal) := Ideal.ofBits_zero_f32

theorem max_coe (x y : ℝ) : max (x : EReal) (y : EReal) = ((max x y : ℝ) : EReal) := (EReal.coe_strictMono.monotone.map_max).symm
theorem min_coe (x y : ℝ) : min (x : EReal) (y : EReal) = ((min x y : ℝ) : EReal) := (EReal.coe_strictMono.monotone.map_min).symm
theorem abs_coe (x : ℝ) : max (x : EReal) (-(x : EReal)) = ((|x| : ℝ) : EReal) := by
  rw [← EReal.coe_neg, max_coe]; rfl
theorem div_real (x y : ℝ) (h : y ≠ 0) : Ideal.div (x : EReal) (y : EReal) = ((x / y : ℝ) : EReal) := by
  rw [Ideal.div_coe h, ← EReal.coe_mul, mul_one_div]
theorem log_real (x : ℝ) (h : 0 < x) : Ideal.log (x : EReal) = ((Real.log x : ℝ) : EReal) := by
  rw [Ideal.log_coe, if_neg (not_le.mpr h)]

/-- The logistic function as the programs write it. -/
theorem sig_coe (x : ℝ) : Ideal.div ((1 : ℝ) : EReal) (((1 : ℝ) : EReal) + Ideal.exp (-(x : EReal))) = ((sigR x : ℝ) : EReal) := by
  rw [← EReal.coe_neg, Ideal.exp_coe, ← EReal.coe_add, div_real _ _ (by positivity)]
  rfl

/-- The logistic function on the extended reals, and the gate over a bound with its base-2 log. -/
def sigX (x : EReal) : ℝ := (Ideal.div ((1 : ℝ) : EReal) (((1 : ℝ) : EReal) + Ideal.exp (-x))).toReal
def gateX (l : ℝ) (x : EReal) : ℝ := l + (1 - l) * sigX x
def logX (l : ℝ) (x : EReal) : ℝ := Real.log (gateX l x) * (Real.log 2)⁻¹

theorem sigX_coe (x : ℝ) : sigX (x : EReal) = sigR x := by
  unfold sigX
  rw [sig_coe, EReal.toReal_coe]
theorem sig_top : Ideal.div ((1 : ℝ) : EReal) (((1 : ℝ) : EReal) + Ideal.exp (-⊤)) = ((1 : ℝ) : EReal) := by
  rw [EReal.neg_top]
  show Ideal.div ((1 : ℝ) : EReal) (((1 : ℝ) : EReal) + ((0 : ℝ) : EReal)) = _
  rw [← EReal.coe_add, add_zero, div_real _ _ one_ne_zero, div_one]
theorem sig_bot : Ideal.div ((1 : ℝ) : EReal) (((1 : ℝ) : EReal) + Ideal.exp (-⊥)) = ((0 : ℝ) : EReal) := by
  rw [EReal.neg_bot]
  show Ideal.div ((1 : ℝ) : EReal) (((1 : ℝ) : EReal) + ⊤) = _
  rw [EReal.coe_add_top]
  unfold Ideal.div
  rw [if_neg EReal.top_ne_zero, EReal.inv_top, mul_zero, EReal.coe_zero]
theorem sig_eq (x : EReal) : Ideal.div ((1 : ℝ) : EReal) (((1 : ℝ) : EReal) + Ideal.exp (-x)) = ((sigX x : ℝ) : EReal) := by
  unfold sigX
  induction x using EReal.rec with
  | bot => rw [sig_bot, EReal.toReal_coe]
  | coe x => rw [sig_coe, EReal.toReal_coe]
  | top => rw [sig_top, EReal.toReal_coe]
theorem sigX_nonneg (x : EReal) : 0 ≤ sigX x := by
  induction x using EReal.rec with
  | bot => unfold sigX; rw [sig_bot, EReal.toReal_coe]
  | coe x => rw [sigX_coe]; exact (sigR_pos x).le
  | top => unfold sigX; rw [sig_top, EReal.toReal_coe]; exact zero_le_one

theorem gateX_pos (l : ℝ) (x : EReal) (h0 : 0 < l) (h1 : l < 1) : 0 < gateX l x :=
  add_pos_of_pos_of_nonneg h0 (mul_nonneg (sub_pos.mpr h1).le (sigX_nonneg x))
theorem two_logX (l : ℝ) (x : EReal) (h0 : 0 < l) (h1 : l < 1) : (2 : ℝ) ^ logX l x = gateX l x := by
  have h2 : Real.log 2 ≠ 0 := (Real.log_pos one_lt_two).ne'
  unfold logX
  rw [Real.rpow_def_of_pos two_pos, mul_comm (Real.log (gateX l x)), ← mul_assoc, mul_inv_cancel₀ h2, one_mul, Real.exp_log (gateX_pos l x h0 h1)]

variable {m n : ℕ} (x : Matrix (Fin m) (Fin n) ℝ)

theorem sigV_ofR : sigV (ofR x) = ofR (Matrix.of fun i d => sigR (x i d)) := by
  funext y
  show Ideal.div (Ideal.ofBits FTy.f32 0x3F800000#32) (Ideal.ofBits FTy.f32 0x3F800000#32 + Ideal.exp (Ideal.ofBits FTy.f32 0x00000000#32 - ((x (y 0) (y 1) : ℝ) : EReal))) = _
  rw [one_bits, zero_bits, EReal.coe_zero, zero_sub, sig_coe]
  rfl
theorem siluV_ofR : siluV (ofR x) = ofR (Matrix.of fun i d => x i d * sigR (x i d)) := by
  unfold siluV
  rw [sigV_ofR, mulf_ofR]
  rfl

theorem lbV_ofR (a b : Matrix (Fin 1) (Fin 1024) ℝ) : lbV (ofR a) (ofR b) = ofR (Matrix.of fun i d => lowR (a i d) (b i d)) := by
  funext y
  obtain ⟨i, d, rfl⟩ : ∃ i d, y = ix2 i d := ⟨y 0, y 1, eq_ix2 y⟩
  show Ideal.ofBits FTy.f32 0x00000000#32 + Ideal.div (Ideal.exp (((b i d : ℝ) : EReal) - max ((a i d : ℝ) : EReal) ((b i d : ℝ) : EReal)))
    (Ideal.exp (((a i d : ℝ) : EReal) - max ((a i d : ℝ) : EReal) ((b i d : ℝ) : EReal)) + Ideal.exp (((b i d : ℝ) : EReal) - max ((a i d : ℝ) : EReal) ((b i d : ℝ) : EReal))) = _
  rw [zero_bits, EReal.coe_zero, zero_add, max_coe, ← EReal.coe_sub, ← EReal.coe_sub, Ideal.exp_coe, Ideal.exp_coe, ← EReal.coe_add, div_real _ _ (by positivity)]
  rfl

/-- The kernel's log of the logistic function, and its log of the gate. -/
def lsX (z : EReal) : EReal := min z ((0 : ℝ) : EReal) - Ideal.log (((1 : ℝ) : EReal) + Ideal.exp (((0 : ℝ) : EReal) - max z (-z)))
def lseX (x y : EReal) : EReal := max x y + Ideal.log (((1 : ℝ) : EReal) + Ideal.exp (((0 : ℝ) : EReal) - max (x - y) (-(x - y))))

theorem lsX_coe (x : ℝ) : lsX (x : EReal) = ((Real.log (sigR x) : ℝ) : EReal) := by
  unfold lsX
  rw [min_coe, abs_coe, ← EReal.coe_sub, zero_sub, Ideal.exp_coe, ← EReal.coe_add, log_real _ (by positivity), ← EReal.coe_sub, logSig]
theorem zero_sub_top : ((0 : ℝ) : EReal) - ⊤ = ⊥ := by rw [sub_eq_add_neg, EReal.neg_top, EReal.add_bot]
theorem log_exp_bot : Ideal.log (((1 : ℝ) : EReal) + Ideal.exp ⊥) = ((0 : ℝ) : EReal) := by
  show Ideal.log (((1 : ℝ) : EReal) + ((0 : ℝ) : EReal)) = _
  rw [← EReal.coe_add, add_zero, log_real _ one_pos, Real.log_one]
theorem lsX_top : lsX ⊤ = ((0 : ℝ) : EReal) := by
  unfold lsX
  rw [EReal.neg_top, max_bot_right, zero_sub_top, log_exp_bot, min_top_left, ← EReal.coe_sub, sub_zero]
theorem lsX_bot : lsX ⊥ = ⊥ := by
  unfold lsX
  rw [EReal.neg_bot, max_top_right, zero_sub_top, log_exp_bot, min_bot_left, EReal.bot_sub]

theorem lseX_coe (x y : ℝ) : lseX (x : EReal) (y : EReal) = ((Real.log (Real.exp x + Real.exp y) : ℝ) : EReal) := by
  unfold lseX
  rw [max_coe, ← EReal.coe_sub, abs_coe, ← EReal.coe_sub, zero_sub, Ideal.exp_coe, ← EReal.coe_add, log_real _ (by positivity), ← EReal.coe_add, lse]
theorem lseX_bot (x : ℝ) : lseX (x : EReal) ⊥ = (x : EReal) := by
  unfold lseX
  rw [max_bot_right, EReal.coe_sub_bot, EReal.neg_top, max_bot_right, zero_sub_top, log_exp_bot, ← EReal.coe_add, add_zero]

/-- The kernel's log of the gate is the gate's log, an infinite gate included. -/
theorem gate_log (l : ℝ) (h0 : 0 < l) (h1 : l < 1) (z : EReal) :
    lseX ((Real.log l : ℝ) : EReal) (((Real.log (1 - l) : ℝ) : EReal) + lsX z) = ((Real.log (gateX l z) : ℝ) : EReal) := by
  have h1' : 0 < 1 - l := sub_pos.mpr h1
  unfold gateX
  induction z using EReal.rec with
  | bot =>
    rw [lsX_bot, EReal.add_bot, lseX_bot]
    unfold sigX
    rw [sig_bot, EReal.toReal_coe, mul_zero, add_zero]
  | coe x => rw [lsX_coe, ← EReal.coe_add, lseX_coe, Real.exp_log h0, Real.exp_add, Real.exp_log h1', Real.exp_log (sigR_pos x), sigX_coe]
  | top =>
    rw [lsX_top, ← EReal.coe_add, add_zero, lseX_coe, Real.exp_log h0, Real.exp_log h1']
    unfold sigX
    rw [sig_top, EReal.toReal_coe, mul_one]

theorem log2V_ofR (l : Matrix (Fin 1) (Fin 1024) ℝ) (h0 : ∀ d, 0 < l 0 d) (h1 : ∀ d, l 0 d < 1) (z : FVec Ideal S256x1024 .f32) :
    log2V (F := Ideal) (ofR l) z = ofR (Matrix.of fun i d => logX (l 0 d) (z (ix2 i d))) := by
  have hl : broadcastTo S256x1024 (log (ofR l : FVec Ideal S1x1024 .f32)) broadcasts_S1x1024_S256x1024 = ofR (Matrix.of fun _ d => Real.log (l 0 d)) := by
    funext y
    idx_vars y
    pointwise [ofR, Matrix.of_apply]
    exact log_real _ (h0 y1)
  have h2 : broadcastTo S256x1024 (log1p (subf (zeroV S1x1024) (ofR l))) broadcasts_S1x1024_S256x1024 = ofR (Matrix.of fun _ d => Real.log (1 - l 0 d)) := by
    funext y
    idx_vars y
    pointwise [ofR, Matrix.of_apply]
    show Ideal.log (1 + (Ideal.ofBits FTy.f32 0x00000000#32 - ((l 0 y1 : ℝ) : EReal))) = _
    rw [zero_bits, ← EReal.coe_sub, ← EReal.coe_one, ← EReal.coe_add, zero_sub, ← sub_eq_add_neg, log_real _ (sub_pos.mpr (h1 y1))]
  have hk : (Named.named κ "log2_e" 0x3FB8AA3B#32 : Ideal .f32) = (((Real.log 2)⁻¹ : ℝ) : EReal) := IdealRules.named_const.ideal_named_scalar _ _ _ _ rfl
  unfold log2V
  rw [hl, h2]
  funext y
  obtain ⟨i, d, rfl⟩ : ∃ i d, y = ix2 i d := ⟨y 0, y 1, eq_ix2 y⟩
  have hg := gate_log (l 0 d) (h0 d) (h1 d) (z (ix2 i d))
  unfold lseX lsX at hg
  rw [← one_bits, ← zero_bits] at hg
  rw [ofR_apply, Matrix.of_apply]
  unfold logX
  rw [EReal.coe_mul, ← hg, ← hk]
  rfl

theorem keyV_ofR (l : Matrix (Fin 1) (Fin 1024) ℝ) (z : FVec Ideal S256x1024 .f32) :
    keyV (ofR l) z = ofR (Matrix.of fun i d => (1 - l 0 d) * sigX (-z (ix2 i d))) := by
  have hs : sigV (subf (zeroV S256x1024) z) = ofR (Matrix.of fun i d => sigX (-z (ix2 i d))) := by
    funext y
    obtain ⟨i, d, rfl⟩ : ∃ i d, y = ix2 i d := ⟨y 0, y 1, eq_ix2 y⟩
    show Ideal.div (Ideal.ofBits FTy.f32 0x3F800000#32) (Ideal.ofBits FTy.f32 0x3F800000#32
      + Ideal.exp (Ideal.ofBits FTy.f32 0x00000000#32 - (Ideal.ofBits FTy.f32 0x00000000#32 - z (ix2 i d)))) = _
    rw [one_bits, zero_bits, EReal.coe_zero, zero_sub, zero_sub, sig_eq]
    rfl
  have hl : broadcastTo S256x1024 (subf (oneV S1x1024) (ofR l)) broadcasts_S1x1024_S256x1024 = ofR (Matrix.of fun (_ : Fin 256) d => 1 - l 0 d) := by
    funext y
    idx_vars y
    pointwise [ofR, Matrix.of_apply]
    show Ideal.ofBits FTy.f32 0x3F800000#32 - ((l 0 y1 : ℝ) : EReal) = _
    rw [one_bits, ← EReal.coe_sub]
  unfold keyV
  rw [hs, hl, mulf_ofR]
  rfl

/-- The unit's part of a matrix of the grid point. -/
def cutR (c : Fin 8) (r : Fin 4) (x : Matrix (Fin 256) (Fin 1024) ℝ) : Matrix (Fin 64) (Fin 128) ℝ :=
  Matrix.of fun i d => x ⟨64 * r.val + i.val, by omega⟩ ⟨128 * c.val + d.val, by omega⟩
theorem cut_ofR (c : Fin 8) (r : Fin 4) (x : Matrix (Fin 256) (Fin 1024) ℝ) : cut c r (ofR x) = ofR (cutR c r x) := by
  funext y
  idx_vars y
  pointwise [cut, ofR, cutR, Matrix.of_apply]

end Cert.HgrnValue
-- ==== Proof.HgrnPieces.lean ====
/- What the body of the HGRN recurrence stores, as the functions of its units. -/
module

public import proofs.«01_k».proof.Proof.HgrnChain
public import proofs.«01_k».proof.Proof.Gen.HgrnIdeal.Value
public import Idealize.ShloMosaic.Lib.Pointwise
public import Idealize.ShloMosaic.Lib.VecWindow

@[expose] public section

set_option maxRecDepth 16384

noncomputable section

namespace Cert.HgrnValue

open Idealize.ShloMosaic Idealize.ShloMosaic.TcCoe Idealize.ShloMosaic.Tactic Cert.HgrnIdeal Cert.HgrnIdeal.Gen

variable {F : FTy → Type} [FloatOps F] [Named F]

variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole)
  (arg6 : Memref sig .tc .vmem S2x1024 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S8x128x128 .f32) (harg9 : arg9.IsWhole)
  (x0 x1 x2 x3 : Vec F S256x1024 .f32) (x4 : Vec F S2x1024 .f32) (x5 : Vec F S1x128 .f32) (xs0 : Vec F S8x128x128 .f32)

/-- The state's pieces past the first tile. -/
theorem statePieces_B (hc0) : (kernelRun0_B c i arg2 harg2 arg3 harg3 arg4 harg4 arg5 harg5 arg6 harg6 arg7 harg7 arg8 harg8 arg9 harg9 hc0 x0 x1 x2 x3 x4 x5 xs0).2.1
    = (List.ofFn fun n : Fin 8 => stPiece x1 x2 x4 xs0 n.rev) := by
  have h : (kernelRun0_B c i arg2 harg2 arg3 harg3 arg4 harg4 arg5 harg5 arg6 harg6 arg7 harg7 arg8 harg8 arg9 harg9 hc0 x0 x1 x2 x3 x4 x5 xs0).2.1
      = (List.ofFn fun n : Fin 8 => stPiece (arg3.view.read (Elt F) (harg3.unread x1)) (arg4.view.read (Elt F) (harg4.unread x2)) (arg6.view.read (Elt F) (harg6.unread x4)) (arg9.view.read (Elt F) (harg9.unread xs0)) n.rev) := by
    sl_kernel_rfl
  rw [h]
  simp only [Memref.IsWhole.read_unread]

/-- The outputs' pieces past the first tile. -/
theorem outPieces_B (hc0) : (kernelRun0_B c i arg2 harg2 arg3 harg3 arg4 harg4 arg5 harg5 arg6 harg6 arg7 harg7 arg8 harg8 arg9 harg9 hc0 x0 x1 x2 x3 x4 x5 xs0).1
    = List.ofFn fun n : Fin 32 => oPiece x0 x1 x2 x3 x4 x5 xs0
        ⟨n.rev.val % 8, Nat.mod_lt _ (by norm_num)⟩ ⟨n.rev.val / 8, by omega⟩ := by
  have h : (kernelRun0_B c i arg2 harg2 arg3 harg3 arg4 harg4 arg5 harg5 arg6 harg6 arg7 harg7 arg8 harg8 arg9 harg9 hc0 x0 x1 x2 x3 x4 x5 xs0).1
      = List.ofFn fun n : Fin 32 => oPiece (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg9.view.read (Elt F) (harg9.unread xs0))
        ⟨n.rev.val % 8, Nat.mod_lt _ (by norm_num)⟩ ⟨n.rev.val / 8, by omega⟩ := by
    sl_kernel_rfl
  rw [h]
  simp only [Memref.IsWhole.read_unread]

/-- The first tile's state is what the body has just stored: zeros. -/
theorem read_state_A (v : View sig .tc .vmem S8x128x128 .f32) (f : v.ty.Contents (Elt F)) :
    v.read (Elt F) (v.writes (Elt F) f kernelRun0_A.sl.HS0_1) = zeroV S8x128x128 := by
  refine (View.read_writes_full v f inb_S8x128x128_S8x128x128_0_0_0 k0_pay3 []).trans ?_
  unfold k0_pay3
  exact shapeCast_self _ _

/-- The state's pieces on the first tile. -/
theorem statePieces_A (hc0) : (kernelRun0_A c i arg2 harg2 arg3 harg3 arg4 harg4 arg5 harg5 arg6 harg6 arg7 harg7 arg8 harg8 arg9 harg9 hc0 x0 x1 x2 x3 x4 x5).2.1
    = (List.ofFn fun n : Fin 8 => stPiece x1 x2 x4 (zeroV S8x128x128) n.rev)
    ++ [⟨Rect.unit (s := S8x128x128) ![0, 0, 0] S8x128x128.size inb_S8x128x128_S8x128x128_0_0_0, k0_pay3⟩] := by
  have h : (kernelRun0_A c i arg2 harg2 arg3 harg3 arg4 harg4 arg5 harg5 arg6 harg6 arg7 harg7 arg8 harg8 arg9 harg9 hc0 x0 x1 x2 x3 x4 x5).2.1
      = (List.ofFn fun n : Fin 8 => stPiece (arg3.view.read (Elt F) (harg3.unread x1)) (arg4.view.read (Elt F) (harg4.unread x2)) (arg6.view.read (Elt F) (harg6.unread x4)) (arg9.view.read (Elt F) (arg9.view.writes (Elt F) arg9.view.junk kernelRun0_A.sl.HS0_1)) n.rev)
    ++ [⟨Rect.unit (s := S8x128x128) ![0, 0, 0] S8x128x128.size inb_S8x128x128_S8x128x128_0_0_0, k0_pay3⟩] := by
    sl_kernel_rfl
  rw [h]
  simp only [Memref.IsWhole.read_unread, read_state_A]

/-- The outputs' pieces on the first tile. -/
theorem outPieces_A (hc0) : (kernelRun0_A c i arg2 harg2 arg3 harg3 arg4 harg4 arg5 harg5 arg6 harg6 arg7 harg7 arg8 harg8 arg9 harg9 hc0 x0 x1 x2 x3 x4 x5).1
    = List.ofFn fun n : Fin 32 => oPiece x0 x1 x2 x3 x4 x5 (zeroV S8x128x128)
        ⟨n.rev.val % 8, Nat.mod_lt _ (by norm_num)⟩ ⟨n.rev.val / 8, by omega⟩ := by
  have h : (kernelRun0_A c i arg2 harg2 arg3 harg3 arg4 harg4 arg5 harg5 arg6 harg6 arg7 harg7 arg8 harg8 arg9 harg9 hc0 x0 x1 x2 x3 x4 x5).1
      = List.ofFn fun n : Fin 32 => oPiece (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg9.view.read (Elt F) (arg9.view.writes (Elt F) arg9.view.junk kernelRun0_A.sl.HS0_1))
        ⟨n.rev.val % 8, Nat.mod_lt _ (by norm_num)⟩ ⟨n.rev.val / 8, by omega⟩ := by
    sl_kernel_rfl
  rw [h]
  simp only [Memref.IsWhole.read_unread, read_state_A]

section Whole

/-- The state of all heads after the tile. -/
def stAll : Vec F S8x128x128 .f32 := fun y => stU x1 x2 x4 xs0 (y 0) 4 (ix2 (n0 := 128) (n1 := 128) (y 1) (y 2))

/-- The outputs of all heads on the tile. -/
def outAll : Vec F S256x1024 .bf16 := fun y =>
  have h0 : (y 0).val < 256 := (y 0).isLt
  have h1 : (y 1).val < 1024 := (y 1).isLt
  normV (oU x0 x1 x2 x4 xs0 ⟨(y 1).val / 128, by omega⟩ ⟨(y 0).val / 64, by omega⟩) (nwIn x5)
    (unitIn ⟨(y 1).val / 128, by omega⟩ ⟨(y 0).val / 64, by omega⟩ x3)
    (ix2 (n0 := 64) (n1 := 128) ⟨(y 0).val % 64, by omega⟩ ⟨(y 1).val % 128, by omega⟩)

theorem stPiece_apply (n : Fin 8) (x : (stPiece x1 x2 x4 xs0 n).1.shape.Idx) :
    (stPiece x1 x2 x4 xs0 n).2 x = stAll x1 x2 x4 xs0 ((stPiece x1 x2 x4 xs0 n).1.emb x) := by
  have e0 : (stPiece x1 x2 x4 xs0 n).1.emb x 0 = n := by
    refine Fin.ext ?_
    rw [Rect.emb_apply]
    have := (x 0).isLt
    change _ < 1 at this
    change n.val + 1 * (x 0).val = n.val
    omega
  refine Eq.trans (b := stU x1 x2 x4 xs0 n 4 fun a => x a.succ)
    (shapeCast_addUnit_apply ![128, 128] (stU x1 x2 x4 xs0 n 4) shapeCasts_S128x128_S1x128x128 x) ?_
  unfold stAll
  rw [e0]
  refine congrArg _ (funext fun a => Fin.ext ?_)
  match a with
  | ⟨0, _⟩ => show (x 1).val = 0 + 1 * (x 1).val; omega
  | ⟨1, _⟩ => show (x 2).val = 0 + 1 * (x 2).val; omega

theorem oPiece_apply (n : Fin 8) (r : Fin 4) (x : (oPiece x0 x1 x2 x3 x4 x5 xs0 n r).1.shape.Idx) :
    (oPiece x0 x1 x2 x3 x4 x5 xs0 n r).2 x
      = outAll x0 x1 x2 x3 x4 x5 xs0 ((oPiece x0 x1 x2 x3 x4 x5 xs0 n r).1.emb x) := by
  have h0 : ((oPiece x0 x1 x2 x3 x4 x5 xs0 n r).1.emb x 0).val = 64 * r.val + 1 * (x 0).val := rfl
  have h1 : ((oPiece x0 x1 x2 x3 x4 x5 xs0 n r).1.emb x 1).val = 128 * n.val + 1 * (x 1).val := rfl
  have l0 : (x 0).val < 64 := (x 0).isLt
  have l1 : (x 1).val < 128 := (x 1).isLt
  unfold outAll
  dsimp only
  have e1 : (⟨((oPiece x0 x1 x2 x3 x4 x5 xs0 n r).1.emb x 1).val / 128, by omega⟩ : Fin 8) = n := Fin.ext (by simp only [h1]; omega)
  have e0 : (⟨((oPiece x0 x1 x2 x3 x4 x5 xs0 n r).1.emb x 0).val / 64, by omega⟩ : Fin 4) = r := Fin.ext (by simp only [h0]; omega)
  rw [e0, e1]
  refine congrArg _ (funext fun a => Fin.ext ?_)
  match a with
  | ⟨0, _⟩ => show (x 0).val = ((oPiece x0 x1 x2 x3 x4 x5 xs0 n r).1.emb x 0).val % 64; rw [h0]; omega
  | ⟨1, _⟩ => show (x 1).val = ((oPiece x0 x1 x2 x3 x4 x5 xs0 n r).1.emb x 1).val % 128; rw [h1]; omega

end Whole

theorem canon_state (L : List (View.Piece (Elt F) S8x128x128 .f32)) (y : S8x128x128.Idx) :
    View.canon ((List.ofFn fun n : Fin 8 => stPiece x1 x2 x4 xs0 n.rev) ++ L) y = stAll x1 x2 x4 xs0 y := by
  suffices h : ∀ l : List (Fin 8), y 0 ∈ l → View.canon (l.map (stPiece x1 x2 x4 xs0) ++ L) y = stAll x1 x2 x4 xs0 y by
    have e : (List.ofFn fun n : Fin 8 => stPiece x1 x2 x4 xs0 n.rev) = (List.ofFn fun n : Fin 8 => n.rev).map (stPiece x1 x2 x4 xs0) := by
      rw [List.map_ofFn]; rfl
    rw [e]
    exact h _ (List.mem_ofFn.mpr ⟨Fin.rev (n := 8) (y 0), Fin.rev_rev _⟩)
  intro l
  induction l with
  | nil => intro h; cases h
  | cons n l ih =>
    intro h
    rw [List.map_cons, List.cons_append]
    by_cases hm : y ∈ (stPiece x1 x2 x4 xs0 n).1.set
    · obtain ⟨x, rfl⟩ := (stPiece x1 x2 x4 xs0 n).1.exists_idx_of_mem hm
      refine (View.canon_cons_emb _ _ _ x).trans (stPiece_apply x1 x2 x4 xs0 n x)
    · rw [View.canon_cons_of_not_mem _ _ hm]
      refine ih ((List.mem_cons.mp h).resolve_left fun e => hm ?_)
      have h1 : (y 1).val < 128 := (y 1).isLt
      have h2 : (y 2).val < 128 := (y 2).isLt
      have hy : (stPiece x1 x2 x4 xs0 n).1.emb (ix3 (n0 := 1) (n1 := 128) (n2 := 128) 0 (y 1) (y 2)) = y := by
        funext a
        refine Fin.ext ?_
        match a with
        | ⟨0, _⟩ => show n.val + 1 * 0 = (y 0).val; rw [e]; omega
        | ⟨1, _⟩ => show 0 + 1 * (y 1).val = (y 1).val; omega
        | ⟨2, _⟩ => show 0 + 1 * (y 2).val = (y 2).val; omega
      rw [← hy, ← Rect.map_emb_univ]
      exact Finset.mem_map_of_mem _ (Finset.mem_univ _)

theorem sout_B (hc0) : sout0_B_0 c i arg2 harg2 arg3 harg3 arg4 harg4 arg5 harg5 arg6 harg6 arg7 harg7 arg8 harg8 arg9 harg9 hc0 x0 x1 x2 x3 x4 x5 xs0 = stAll x1 x2 x4 xs0 := by
  funext y
  unfold sout0_B_0
  rw [View.read_writes_apply_eq_canon _ _ y _ (scover0_B_0 c i arg2 harg2 arg3 harg3 arg4 harg4 arg5 harg5 arg6 harg6 arg7 harg7 arg8 harg8 arg9 harg9 hc0 x0 x1 x2 x3 x4 x5 xs0 y)]
  rw [statePieces_B]
  have := canon_state x1 x2 x4 xs0 [] y
  rwa [List.append_nil] at this
theorem out_B (hc0) : out0_B_6 c i arg2 harg2 arg3 harg3 arg4 harg4 arg5 harg5 arg6 harg6 arg7 harg7 arg8 harg8 arg9 harg9 hc0 x0 x1 x2 x3 x4 x5 xs0 = outAll x0 x1 x2 x3 x4 x5 xs0 := by
  funext y
  unfold out0_B_6
  rw [View.read_writes_apply_eq_canon _ _ y _ (cover0_B_6 c i arg2 harg2 arg3 harg3 arg4 harg4 arg5 harg5 arg6 harg6 arg7 harg7 arg8 harg8 arg9 harg9 hc0 x0 x1 x2 x3 x4 x5 xs0 y)]
  have hc := cover0_B_6 c i arg2 harg2 arg3 harg3 arg4 harg4 arg5 harg5 arg6 harg6 arg7 harg7 arg8 harg8 arg9 harg9 hc0 x0 x1 x2 x3 x4 x5 xs0 y
  rw [outPieces_B] at hc ⊢
  refine View.canon_apply_of_pieces _ _ (fun p hp x => ?_) y hc
  obtain ⟨n, rfl⟩ := List.mem_ofFn.mp hp
  exact oPiece_apply _ _ _ _ _ _ _ _ _ x

theorem sout_A (hc0) : sout0_A_0 c i arg2 harg2 arg3 harg3 arg4 harg4 arg5 harg5 arg6 harg6 arg7 harg7 arg8 harg8 arg9 harg9 hc0 x0 x1 x2 x3 x4 x5 = stAll x1 x2 x4 (zeroV S8x128x128) := by
  funext y
  unfold sout0_A_0
  rw [View.read_writes_apply_eq_canon _ _ y _ (scover0_A_0 c i arg2 harg2 arg3 harg3 arg4 harg4 arg5 harg5 arg6 harg6 arg7 harg7 arg8 harg8 arg9 harg9 hc0 x0 x1 x2 x3 x4 x5 y)]
  rw [statePieces_A]
  exact canon_state x1 x2 x4 _ _ y
theorem out_A (hc0) : out0_A_6 c i arg2 harg2 arg3 harg3 arg4 harg4 arg5 harg5 arg6 harg6 arg7 harg7 arg8 harg8 arg9 harg9 hc0 x0 x1 x2 x3 x4 x5 = outAll x0 x1 x2 x3 x4 x5 (zeroV S8x128x128) := by
  funext y
  unfold out0_A_6
  rw [View.read_writes_apply_eq_canon _ _ y _ (cover0_A_6 c i arg2 harg2 arg3 harg3 arg4 harg4 arg5 harg5 arg6 harg6 arg7 harg7 arg8 harg8 arg9 harg9 hc0 x0 x1 x2 x3 x4 x5 y)]
  have hc := cover0_A_6 c i arg2 harg2 arg3 harg3 arg4 harg4 arg5 harg5 arg6 harg6 arg7 harg7 arg8 harg8 arg9 harg9 hc0 x0 x1 x2 x3 x4 x5 y
  rw [outPieces_A] at hc ⊢
  refine View.canon_apply_of_pieces _ _ (fun p hp x => ?_) y hc
  obtain ⟨n, rfl⟩ := List.mem_ofFn.mp hp
  exact oPiece_apply _ _ _ _ _ _ _ _ _ x

end Cert.HgrnValue
-- ==== Proof.HgrnBlocks.lean ====
/- The blocks of the recurrence's grid points, and its tokens' queries, keys, values and log decays. -/
module

public import proofs.«01_k».proof.Proof.HgrnGates
public import proofs.«01_k».proof.Proof.HgrnPieces
public import proofs.«01_k».proof.Proof.Tokens
public import Idealize.ShloMosaic.Lib.Claim
public import Idealize.ShloMosaic.Lib.Pipeline.ValueKit
public import Idealize.ShloMosaic.Lib.Tactic.CleanTypes

@[expose] public section

set_option maxRecDepth 16384

noncomputable section

namespace Cert.HgrnValue

open Idealize.ShloMosaic Idealize.ShloMosaic.TcCoe Idealize.ShloMosaic.Tactic Cert.HgrnIdeal Cert.HgrnIdeal.Gen Cert.HgrnIdeal.Value
open Cert.Gdn (ofR ofR_apply tok)

section Tokens

variable (a0 : (⟨2, ![16384, 16384]⟩ : Shape).Idx → ℝ) (p : (⟨2, ![16384, 16384]⟩ : Shape).Idx → EReal) (a1 : (⟨2, ![2, 4096]⟩ : Shape).Idx → ℝ) (H : Fin 32)

/-- Part `s` of a token's projections (queries, gates, values, output gates) on lane `d` of head `H`. -/
def part (s : Fin 4) (t : ℕ) (d : Fin 128) : ℝ := a0 (ix2 (tok t) ⟨4096 * s.val + (H.val * 128 + d.val), by omega⟩)
/-- The forget gate before the logistic function; it may be infinite. -/
def gate (t : ℕ) (d : Fin 128) : EReal := p (ix2 (tok t) ⟨4096 + (H.val * 128 + d.val), by omega⟩)
/-- The head's lower bounds. -/
def low (d : Fin 128) : ℝ := lowR (a1 (ix2 0 ⟨H.val * 128 + d.val, by omega⟩)) (a1 (ix2 1 ⟨H.val * 128 + d.val, by omega⟩))
def qTok (t : ℕ) (d : Fin 128) : ℝ := part a0 H 0 t d * sigR (part a0 H 0 t d)
def kTok (t : ℕ) (d : Fin 128) : ℝ := (1 - low a1 H d) * sigX (-gate p H t d)
def vTok (t : ℕ) (d : Fin 128) : ℝ := part a0 H 2 t d
def lTok (t : ℕ) (d : Fin 128) : ℝ := logX (low a1 H d) (gate p H t d)

end Tokens

variable (m : (ℓ : Loc nD τ sig) → Buf (Elt Ideal) ℓ) (c : Dev nD)

def kaP : FVec Ideal S16384x16384 .f32 := m ((c.tc : Thread nD τ).loc main_arg0)
def kaL : FVec Ideal S2x4096 .f32 := m ((c.tc : Thread nD τ).loc main_arg1)
def kaW : FVec Ideal S128 .f32 := m ((c.tc : Thread nD τ).loc main_arg2)

/-- The windows' block numbers: the tile of the point and its group of heads. -/
theorem idx : ∀ t : Fin cfg0.N, win0_0.index t = ![t.val % 64, t.val / 64] ∧ win0_1.index t = ![t.val % 64, 4 + t.val / 64]
    ∧ win0_2.index t = ![t.val % 64, 8 + t.val / 64] ∧ win0_3.index t = ![t.val % 64, 12 + t.val / 64] ∧ win0_4.index t = ![0, t.val / 64]
    ∧ win0_5.index t = ![0, 0] :=
  (by decide +kernel : ∀ t : Fin grid0.N, _)

theorem hN (t : Fin cfg0.N) : t.val < 256 := lt_of_lt_of_eq t.isLt N_0

abbrev head (t : Fin cfg0.N) (h : Fin 8) : Fin 32 := ⟨8 * (t.val / 64) + h.val, by have := hN t; omega⟩

/-- A part of the projections on the tile and group of a point, over the reals. -/
def tileR (a0 : S16384x16384.Idx → ℝ) (s : Fin 4) (t : Fin cfg0.N) : Matrix (Fin 256) (Fin 1024) ℝ :=
  Matrix.of fun i d => a0 (ix2 (tok (t.val % 64 * 256 + i.val)) ⟨4096 * s.val + (t.val / 64 * 1024 + d.val), by have := hN t; omega⟩)
def rowR (a1 : S2x4096.Idx → ℝ) (r : Fin 2) (t : Fin cfg0.N) : Matrix (Fin 1) (Fin 1024) ℝ :=
  Matrix.of fun _ d => a1 (ix2 r ⟨t.val / 64 * 1024 + d.val, by have := hN t; omega⟩)

/-- The queries' and the values' columns hold reals. -/
def Reals (x : FVec Ideal S16384x16384 .f32) (a0 : S16384x16384.Idx → ℝ) : Prop :=
  ∀ t y : Fin 16384, y.val < 4096 ∨ 8192 ≤ y.val ∧ y.val < 12288 → x (ix2 t y) = (a0 (ix2 t y) : EReal)

variable (a0 : S16384x16384.Idx → ℝ) (a1 : S2x4096.Idx → ℝ) (h0 : Reals (kaP m c) a0) (h1 : ∀ i, kaL m c i = (a1 i : EReal))

theorem q_in (h0 : Reals (kaP m c) a0) (t : Fin cfg0.N) : whole (F := Ideal) (iblk m c 0 t) = ofR (tileR a0 0 t) := by
  have := hN t
  funext y
  idx_vars y
  refine Eq.trans (?_ : _ = kaP m c (ix2 (tok (t.val % 64 * 256 + y0.val)) ⟨4096 * 0 + (t.val / 64 * 1024 + y1.val), by omega⟩)) (h0 _ _ (by dsimp only; omega))
  pointwise [whole, kaP]
  blk_ext [iblk, V, idx t]
theorem f_in (t : Fin cfg0.N) (i : Fin 256) (d : Fin 1024) : whole (F := Ideal) (iblk m c 1 t) (ix2 i d)
    = kaP m c (ix2 (tok (t.val % 64 * 256 + i.val)) ⟨4096 + (t.val / 64 * 1024 + d.val), by have := hN t; omega⟩) := by
  have := hN t
  pointwise [whole, kaP]
  blk_ext [iblk, V, idx t]
theorem v_in (h0 : Reals (kaP m c) a0) (t : Fin cfg0.N) (h : Fin 8) (r : Fin 4) : unitIn (F := Ideal) h r (iblk m c 2 t) = ofR (cutR h r (tileR a0 2 t)) := by
  have := hN t
  funext y
  idx_vars y
  refine Eq.trans (?_ : _ = kaP m c (ix2 (tok (t.val % 64 * 256 + (64 * r.val + y0.val))) ⟨4096 * 2 + (t.val / 64 * 1024 + (128 * h.val + y1.val)), by omega⟩)) (h0 _ _ (by dsimp only; omega))
  pointwise [unitIn, kaP]
  blk_ext [iblk, V, idx t]
theorem z_in (t : Fin cfg0.N) (h : Fin 8) (r : Fin 4) (i : Fin 64) (d : Fin 128) : unitIn (F := Ideal) h r (iblk m c 3 t) (ix2 i d)
    = kaP m c (ix2 (tok (t.val % 64 * 256 + (64 * r.val + i.val))) ⟨4096 * 3 + (t.val / 64 * 1024 + (128 * h.val + d.val)), by have := hN t; omega⟩) := by
  have := hN t
  pointwise [unitIn, kaP]
  blk_ext [iblk, V, idx t]

theorem lb_in (h1 : ∀ i, kaL m c i = (a1 i : EReal)) (t : Fin cfg0.N) :
    lbIn (F := Ideal) (iblk m c 4 t) = ofR (Matrix.of fun i d => lowR (rowR a1 0 t i d) (rowR a1 1 t i d)) := by
  have := hN t
  have e0 : View.ld (iblk m c 4 t : FVec Ideal S2x1024 .f32) (Rect.unit (s := S2x1024) ![0, 0] S1x1024.size inb_S2x1024_S1x1024_0_0) = ofR (rowR a1 0 t) := by
    funext y
    idx_vars y
    refine Eq.trans (?_ : _ = kaL m c (ix2 0 ⟨t.val / 64 * 1024 + y1.val, by omega⟩)) (h1 _)
    pointwise [kaL]
    blk_ext [iblk, V, idx t]
  have e1 : View.ld (iblk m c 4 t : FVec Ideal S2x1024 .f32) (Rect.unit (s := S2x1024) ![1, 0] S1x1024.size inb_S2x1024_S1x1024_1_0) = ofR (rowR a1 1 t) := by
    funext y
    idx_vars y
    refine Eq.trans (?_ : _ = kaL m c (ix2 1 ⟨t.val / 64 * 1024 + y1.val, by omega⟩)) (h1 _)
    pointwise [kaL]
    blk_ext [iblk, V, idx t]
  unfold lbIn
  refine (congrArg₂ lbV e0 e1).trans (lbV_ofR _ _)

theorem w_apply (a : Fin 1) (d : Fin 128) : (V m c main_v0 : FVec Ideal S1x128 .f32) (ix2 a d) = kaW m c (ix1 d) := by
  unfold V
  entry_read
  pointwise [kaW]
theorem nw_in (t : Fin cfg0.N) (e : Fin 1) (d : Fin 128) : nwIn (F := Ideal) (iblk m c 5 t) (ix2 e d) = kaW m c (ix1 d) := by
  have := hN t
  pointwise [nwIn]
  refine Eq.trans (?_ : _ = V m c main_v0 (ix2 e d)) (w_apply m c e d)
  blk_ext [iblk, idx t]

/-- A unit's part of a tile is the chunk of the head's tokens. -/
theorem cut_tile (s : Fin 4) (t : Fin cfg0.N) (h : Fin 8) (r : Fin 4) (i : Fin 64) (d : Fin 128) :
    cutR h r (tileR a0 s t) i d = part a0 (head t h) s (t.val % 64 * 256 + 64 * r.val + i.val) d := by
  unfold cutR tileR part
  simp only [Matrix.of_apply]
  refine congrArg a0 (congrArg₂ ix2 (Fin.ext ?_) (Fin.ext ?_))
  · show (t.val % 64 * 256 + (64 * r.val + i.val)) % 16384 = (t.val % 64 * 256 + 64 * r.val + i.val) % 16384
    rw [Nat.add_assoc]
  · show 4096 * s.val + (t.val / 64 * 1024 + (128 * h.val + d.val)) = 4096 * s.val + ((8 * (t.val / 64) + h.val) * 128 + d.val)
    omega
theorem low_tile (t : Fin cfg0.N) (h : Fin 8) (d : Fin 128) (e : Fin 1) (hd : 128 * h.val + d.val < 1024) :
    lowR (rowR a1 0 t e ⟨128 * h.val + d.val, hd⟩) (rowR a1 1 t e ⟨128 * h.val + d.val, hd⟩) = low a1 (head t h) d := by
  unfold rowR low
  simp only [Matrix.of_apply]
  have e : t.val / 64 * 1024 + (128 * h.val + d.val) = (head t h).val * 128 + d.val := by
    show _ = (8 * (t.val / 64) + h.val) * 128 + d.val
    omega
  simp only [e]

theorem q_unit (h0 : Reals (kaP m c) a0) (t : Fin cfg0.N) (h : Fin 8) (r : Fin 4) :
    qU (F := Ideal) (iblk m c 0 t) h r = ofR (chunk (qTok a0 (head t h)) (t.val % 64 * 256 + 64 * r.val)) := by
  unfold qU
  rw [q_in m c a0 h0, siluV_ofR, cut_ofR]
  refine congrArg ofR (funext fun i => funext fun d => ?_)
  show cutR h r (tileR a0 0 t) i d * sigR (cutR h r (tileR a0 0 t) i d) = _
  rw [cut_tile]
  rfl
theorem v_unit (h0 : Reals (kaP m c) a0) (t : Fin cfg0.N) (h : Fin 8) (r : Fin 4) :
    unitIn (F := Ideal) h r (iblk m c 2 t) = ofR (chunk (vTok a0 (head t h)) (t.val % 64 * 256 + 64 * r.val)) := by
  rw [v_in m c a0 h0]
  exact congrArg ofR (funext fun i => funext fun d => cut_tile a0 2 t h r i d)
theorem f_unit (t : Fin cfg0.N) (h : Fin 8) (r : Fin 4) (i : Fin 64) (d : Fin 128) :
    whole (F := Ideal) (iblk m c 1 t) (ix2 ⟨64 * r.val + i.val, by omega⟩ ⟨128 * h.val + d.val, by omega⟩)
      = gate (kaP m c) (head t h) (t.val % 64 * 256 + 64 * r.val + i.val) d := by
  rw [f_in]
  unfold gate
  refine congrArg (kaP m c) (congrArg₂ ix2 (Fin.ext ?_) (Fin.ext ?_))
  · show (t.val % 64 * 256 + (64 * r.val + i.val)) % 16384 = (t.val % 64 * 256 + 64 * r.val + i.val) % 16384
    rw [Nat.add_assoc]
  · show 4096 + (t.val / 64 * 1024 + (128 * h.val + d.val)) = 4096 + ((8 * (t.val / 64) + h.val) * 128 + d.val)
    omega
include h1 in
theorem k_unit (t : Fin cfg0.N) (h : Fin 8) (r : Fin 4) :
    kU (F := Ideal) (iblk m c 1 t) (iblk m c 4 t) h r = ofR (chunk (kTok (kaP m c) a1 (head t h)) (t.val % 64 * 256 + 64 * r.val)) := by
  unfold kU
  rw [lb_in m c a1 h1, keyV_ofR, cut_ofR]
  refine congrArg ofR (funext fun i => funext fun d => ?_)
  show (1 - lowR (rowR a1 0 t 0 ⟨128 * h.val + d.val, _⟩) (rowR a1 1 t 0 ⟨128 * h.val + d.val, _⟩))
    * sigX (-(whole (F := Ideal) (iblk m c 1 t) (ix2 ⟨64 * r.val + i.val, _⟩ ⟨128 * h.val + d.val, _⟩))) = _
  rw [f_unit, low_tile]
  rfl
include h1 in
theorem b_unit (t : Fin cfg0.N) (h : Fin 8) (r : Fin 4) :
    bU (F := Ideal) (iblk m c 1 t) (iblk m c 4 t) h r = ofR (cumR (chunk (lTok (kaP m c) a1 (head t h)) (t.val % 64 * 256 + 64 * r.val))) := by
  unfold bU
  rw [lb_in m c a1 h1, log2V_ofR _ (fun d => lowR_pos _ _) (fun d => lowR_lt _ _), cut_ofR, cumV_ofR]
  refine congrArg (fun x => ofR (cumR x)) (funext fun i => funext fun d => ?_)
  show logX (lowR (rowR a1 0 t 0 ⟨128 * h.val + d.val, _⟩) (rowR a1 1 t 0 ⟨128 * h.val + d.val, _⟩))
    (whole (F := Ideal) (iblk m c 1 t) (ix2 ⟨64 * r.val + i.val, _⟩ ⟨128 * h.val + d.val, _⟩)) = _
  rw [f_unit, low_tile]
  rfl

end Cert.HgrnValue
-- ==== Proof.HgrnArray.lean ====
/- The recurrence's result: the state from tile to tile, and each token's outputs. -/
module

public import proofs.«01_k».proof.Proof.HgrnBlocks

@[expose] public section

set_option maxRecDepth 16384

noncomputable section

namespace Cert.HgrnValue

open Idealize.ShloMosaic Idealize.ShloMosaic.TcCoe Idealize.ShloMosaic.Tactic Cert.HgrnIdeal Cert.HgrnIdeal.Gen Cert.HgrnIdeal.Value
open Cert.Gdn (ofR ofR_apply tok normE)

variable (m : (ℓ : Loc nD τ sig) → Buf (Elt Ideal) ℓ) (c : Dev nD)

/-- The output gate. -/
def siluE (z : EReal) : EReal := z * Ideal.div (Ideal.ofBits FTy.f32 0x3F800000#32) (Ideal.ofBits FTy.f32 0x3F800000#32 + Ideal.exp (-z))

theorem normV_apply (O : Matrix (Fin 64) (Fin 128) ℝ) (w : FVec Ideal S1x128 .f32) (z : FVec Ideal S64x128 .f32) (i : Fin 64) (e : Fin 128) :
    normV (ofR O) w z (ix2 i e) = normE (fun x => (O i x : EReal)) e (w (ix2 0 e)) (siluE (z (ix2 i e))) := by
  have hz : siluV z (ix2 i e) = siluE (z (ix2 i e)) := by
    show z (ix2 i e) * Ideal.div (Ideal.ofBits FTy.f32 0x3F800000#32) (Ideal.ofBits FTy.f32 0x3F800000#32 + Ideal.exp (Ideal.ofBits FTy.f32 0x00000000#32 - z (ix2 i e))) = _
    rw [zero_bits, EReal.coe_zero, zero_sub]
    rfl
  unfold normV
  rw [← hz]
  generalize siluV z = s
  pointwise []
  rfl

theorem stIn_apply (xs : FVec Ideal S8x128x128 .f32) (h : Fin 8) (e d : Fin 128) : stIn (F := Ideal) xs h (ix2 e d) = xs (ix3 h e d) := by
  refine (shapeCast_dropUnit_apply _ _ _ _).trans (congrArg xs ?_)
  funext a
  refine Fin.ext ?_
  match a with
  | ⟨0, _⟩ => show h.val + 1 * 0 = h.val; omega
  | ⟨1, _⟩ => show 0 + 1 * e.val = e.val; omega
  | ⟨2, _⟩ => show 0 + 1 * d.val = d.val; omega

section Head

variable (a0 : S16384x16384.Idx → ℝ) (p : S16384x16384.Idx → EReal) (a1 : S2x4096.Idx → ℝ)

/-- Head `H`'s state before a token, and its outputs at one. -/
abbrev stH (H : Fin 32) (n : ℕ) : Matrix (Fin 128) (Fin 128) ℝ := stT (kTok p a1 H) (vTok a0 H) (lTok p a1 H) n
abbrev outH (H : Fin 32) (n : ℕ) (e : Fin 128) : ℝ := outN (qTok a0 H) (kTok p a1 H) (vTok a0 H) (lTok p a1 H) n e

end Head

variable (a0 : S16384x16384.Idx → ℝ) (a1 : S2x4096.Idx → ℝ) (h0 : Reals (kaP m c) a0) (h1 : ∀ i, kaL m c i = (a1 i : EReal))
include h0 h1

theorem tile_state (t : Fin cfg0.N) (h : Fin 8) (xs : FVec Ideal S8x128x128 .f32)
    (hs : ∀ e d, xs (ix3 h e d) = (stH a0 (kaP m c) a1 (head t h) (t.val % 64 * 256) e d : EReal)) (n : ℕ) (hn : n ≤ 4) :
    stU (F := Ideal) (iblk m c 1 t) (iblk m c 2 t) (iblk m c 4 t) xs h n = ofR (stH a0 (kaP m c) a1 (head t h) (t.val % 64 * 256 + 64 * n)) := by
  induction n with
  | zero =>
    funext y
    idx_vars y
    exact (stIn_apply xs h y0 y1).trans (hs y0 y1)
  | succ n ih =>
    have e : (Fin.ofNat 4 n).val = n := Nat.mod_eq_of_lt (by omega)
    unfold stU
    rw [ih (by omega), k_unit m c a1 h1, b_unit m c a1 h1, v_unit m c a0 h0, nextV_ofR, e]
    exact congrArg ofR (nextR_eq _ _ _ _)

theorem tile_out (t : Fin cfg0.N) (h : Fin 8) (xs : FVec Ideal S8x128x128 .f32)
    (hs : ∀ e d, xs (ix3 h e d) = (stH a0 (kaP m c) a1 (head t h) (t.val % 64 * 256) e d : EReal)) (r : Fin 4) :
    oU (F := Ideal) (iblk m c 0 t) (iblk m c 1 t) (iblk m c 2 t) (iblk m c 4 t) xs h r
      = ofR (Matrix.of fun i e => outH a0 (kaP m c) a1 (head t h) (t.val % 64 * 256 + 64 * r.val + i.val) e) := by
  unfold oU
  rw [tile_state m c a0 a1 h0 h1 t h xs hs r.val (by omega), q_unit m c a0 h0, k_unit m c a1 h1, b_unit m c a1 h1, v_unit m c a0 h0, outV_ofR]
  exact congrArg ofR (funext fun i => funext fun e => outR_eq _ _ _ _ _ i e)

/-- The state a tile starts from, whatever the point: the recurrence's state at the tile's first token. -/
theorem point (n : ℕ) (hn : n < cfg0.N) : ∃ xs : FVec Ideal S8x128x128 .f32,
    (∀ h e d, xs (ix3 h e d) = (stH a0 (kaP m c) a1 (head ⟨n, hn⟩ h) (n % 64 * 256) e d : EReal))
    ∧ outsAt0 m c n hn = (outAll (F := Ideal) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) xs,
      stAll (F := Ideal) (iblk m c 1 ⟨n, hn⟩) (iblk m c 2 ⟨n, hn⟩) (iblk m c 4 ⟨n, hn⟩) xs) := by
  induction n with
  | zero =>
    refine ⟨zeroV (F := Ideal) S8x128x128, fun h e d => ?_, ?_⟩
    · exact Ideal.ofBits_zero_f32
    · rw [outsAt0_A m c ⟨0, hn⟩ rfl, out_A, sout_A]
  | succ n ih =>
    by_cases hz : (n + 1) % 64 = 0
    · refine ⟨zeroV (F := Ideal) S8x128x128, fun h e d => ?_, ?_⟩
      · rw [hz]
        exact Ideal.ofBits_zero_f32
      · rw [outsAt0_A m c ⟨n + 1, hn⟩ hz, out_A, sout_A]
    · obtain ⟨xs, hs, e⟩ := ih (Nat.lt_of_succ_lt hn)
      refine ⟨(outsAt0 m c n (Nat.lt_of_succ_lt hn)).2, fun h i d => ?_, ?_⟩
      · rw [e]
        have hh : head ⟨n, Nat.lt_of_succ_lt hn⟩ h = head ⟨n + 1, hn⟩ h := Fin.ext (by show 8 * (n / 64) + h.val = 8 * ((n + 1) / 64) + h.val; omega)
        have ht : (n + 1) % 64 * 256 = n % 64 * 256 + 64 * 4 := by omega
        have := congrFun (tile_state m c a0 a1 h0 h1 ⟨n, Nat.lt_of_succ_lt hn⟩ h xs (hs h) 4 le_rfl) (ix2 i d)
        rw [ht, ← hh]
        exact this
      · rw [outsAt0_B m c ⟨n + 1, hn⟩ hz, out_B, sout_B]
        rfl

/-- The kernel's result. -/
theorem ker_value (t : Fin 16384) (y : Fin 4096) : (G6 m c : FVec Ideal S16384x4096 .bf16) (ix2 t y)
    = normE (fun e => (outH a0 (kaP m c) a1 ⟨y.val / 128, by omega⟩ t.val e : EReal)) ⟨y.val % 128, by omega⟩ (kaW m c (ix1 ⟨y.val % 128, by omega⟩))
      (siluE (kaP m c (ix2 t ⟨12288 + y.val, by omega⟩))) := by
  have hp : pt6Of (ix2 t y) = t.val / 256 + 64 * (y.val / 1024) := by
    show 1 * (t.val / 256 - 0) + 64 * (y.val / 1024 - 0) = _
    omega
  have hlt : pt6Of (ix2 t y) < cfg0.N := lt_of_lt_of_eq (by omega) N_0.symm
  obtain ⟨xs, hs, e⟩ := point m c a0 a1 h0 h1 (pt6Of (ix2 t y)) hlt
  have hg : (G6 m c : FVec Ideal S16384x4096 .bf16) (ix2 t y) = (outsAt0 m c (pt6Of (ix2 t y)) hlt).1 (loc6Of (ix2 t y)) := by
    unfold G6
    rw [dif_pos hlt, outsAt0_sweep]
  rw [hg, e]
  clear hg e
  have hh : head ⟨pt6Of (ix2 t y), hlt⟩ ⟨y.val % 1024 / 128, by omega⟩ = ⟨y.val / 128, by omega⟩ := Fin.ext (by
    show 8 * (pt6Of (ix2 t y) / 64) + y.val % 1024 / 128 = y.val / 128
    omega)
  show normV (oU (F := Ideal) _ _ _ _ _ ⟨y.val % 1024 / 128, by omega⟩ ⟨t.val % 256 / 64, by omega⟩) (nwIn _) (unitIn _ _ _)
    (ix2 (n0 := 64) (n1 := 128) ⟨t.val % 256 % 64, by omega⟩ ⟨y.val % 1024 % 128, by omega⟩) = _
  rw [tile_out m c a0 a1 h0 h1 _ _ xs (hs _), normV_apply, nw_in, z_in]
  have et : pt6Of (ix2 t y) % 64 * 256 + (64 * (t.val % 256 / 64) + t.val % 256 % 64) = t.val := by omega
  have ey : (⟨y.val % 1024 % 128, by omega⟩ : Fin 128) = ⟨y.val % 128, by omega⟩ := Fin.ext (by show y.val % 1024 % 128 = y.val % 128; omega)
  have ho : (fun x => (outH a0 (kaP m c) a1 (head ⟨pt6Of (ix2 t y), hlt⟩ ⟨y.val % 1024 / 128, by omega⟩) (pt6Of (ix2 t y) % 64 * 256 + 64 * (t.val % 256 / 64) + t.val % 256 % 64) x : EReal))
      = fun x => (outH a0 (kaP m c) a1 ⟨y.val / 128, by omega⟩ t.val x : EReal) := by
    rw [hh, Nat.add_assoc, et]
  have hz : ∀ p, (ix2 (tok (pt6Of (ix2 t y) % 64 * 256 + (64 * (t.val % 256 / 64) + t.val % 256 % 64)))
      (⟨4096 * 3 + (pt6Of (ix2 t y) / 64 * 1024 + (128 * (y.val % 1024 / 128) + y.val % 1024 % 128)), p⟩ : Fin 16384)) = ix2 t ⟨12288 + y.val, by omega⟩ := fun p => by
    refine congrArg₂ ix2 (Fin.ext ?_) (Fin.ext ?_)
    · show (pt6Of (ix2 t y) % 64 * 256 + (64 * (t.val % 256 / 64) + t.val % 256 % 64)) % 16384 = t.val
      omega
    · show 4096 * 3 + (pt6Of (ix2 t y) / 64 * 1024 + (128 * (y.val % 1024 / 128) + y.val % 1024 % 128)) = 12288 + y.val
      omega
  refine (congrArg (fun o => normE o _ _ _) ho).trans ?_
  refine congrArg₂ (fun (f : Fin 128) z => normE (fun x => (outH a0 (kaP m c) a1 ⟨y.val / 128, by omega⟩ t.val x : EReal)) f (kaW m c (ix1 f)) (siluE z)) ey ?_
  exact congrArg (kaP m c) (hz _)

end Cert.HgrnValue
-- ==== Proof.HgrnReference.lean ====
/- The reference of the recurrence, token by token. -/
module

public import proofs.«01_k».proof.Proof.HgrnArray
public import proofs.«01_k».proof.Proof.Gen.HgrnRefIdeal.Run
public import Idealize.ShloMosaic.Lib.DynamicIndex
public import Idealize.ShloMosaic.Lib.Tactic.CleanTypes

@[expose] public section

set_option maxRecDepth 16384

noncomputable section

namespace Cert.HgrnValue

open Idealize.ShloMosaic Idealize.ShloMosaic.TcCoe Idealize.ShloMosaic.Tactic Cert.HgrnRefIdeal Cert.HgrnRefIdeal.Gen Cert.HgrnRefIdeal.Value Idealize.ShloMosaic.StableHlo
open Idealize.SL Idealize.SL.RA Idealize.SL.BI
open Cert.Gdn (coe_sum tok normE)

/-- The softmax of the two layers' logits, and the lower bound. -/
def maxL (x : FVec Ideal S2x4096 .f32) : FVec Ideal S4096 .f32 :=
  maximumf (broadcastInDim S4096 ![] bcast_S_S4096 (constant S_ .f32 0xFF800000#32)) (Host.reduce FloatOps.maximumf x (constant S_ .f32 0xFF800000#32) reducesTo_S2x4096_S4096_d0 h_S_)
def twoL (x : FVec Ideal S4096 .f32) : FVec Ideal S2x4096 .f32 :=
  broadcastInDim S2x4096 ![0, 1] bcast_S1x4096_S2x4096_0_1 (broadcastInDim S1x4096 ![1] bcast_S4096_S1x4096_1 x)
def expL (x : FVec Ideal S2x4096 .f32) : FVec Ideal S2x4096 .f32 := Host.exp (subf x (twoL (maxL x)))
def softL (x : FVec Ideal S2x4096 .f32) : FVec Ideal S2x4096 .f32 :=
  Host.divf (expL x) (twoL (Host.reduceAdd (expL x) (constant S_ .f32 0x00000000#32) reducesTo_S2x4096_S4096_d0 h_S_))
def boundL (x : FVec Ideal S2x4096 .f32) : FVec Ideal S4096 .f32 :=
  subf (addf (shapeCast S4096 (extractStridedSlice S1x4096 ![0, 0] (softL x) slices_S2x4096_S1x4096_0_0) shapeCasts_S1x4096_S4096)
    (shapeCast S4096 (extractStridedSlice S1x4096 ![1, 0] (softL x) slices_S2x4096_S1x4096_1_0) shapeCasts_S1x4096_S4096))
    (shapeCast S4096 (extractStridedSlice S1x4096 ![0, 0] (softL x) slices_S2x4096_S1x4096_0_0) shapeCasts_S1x4096_S4096)

/-- The logistic function of every element, and a row over all tokens. -/
def sigA (x : FVec Ideal S16384x4096 .f32) : FVec Ideal S16384x4096 .f32 :=
  Host.divf (broadcastInDim S16384x4096 ![] bcast_S_S16384x4096 (constant S_ .f32 0x3F800000#32))
    (addf (broadcastInDim S16384x4096 ![] bcast_S_S16384x4096 (constant S_ .f32 0x3F800000#32)) (Host.exp (Host.negf x)))
def allA (x : FVec Ideal S4096 .f32) : FVec Ideal S16384x4096 .f32 :=
  broadcastInDim S16384x4096 ![0, 1] bcast_S1x4096_S16384x4096_0_1 (broadcastInDim S1x4096 ![1] bcast_S4096_S1x4096_1 x)
def restL (x : FVec Ideal S4096 .f32) : FVec Ideal S4096 .f32 := subf (broadcastInDim S4096 ![] bcast_S_S4096 (constant S_ .f32 0x3F800000#32)) x

/-- What the loop takes: queries, keys, values and decays by head. -/
def preQ (x : FVec Ideal S16384x16384 .f32) : FVec Ideal S16384x32x128 .f32 :=
  shapeCast S16384x32x128 (mulf (extractStridedSlice S16384x4096 ![0, 0] x slices_S16384x16384_S16384x4096_0_0)
    (sigA (extractStridedSlice S16384x4096 ![0, 0] x slices_S16384x16384_S16384x4096_0_0))) shapeCasts_S16384x4096_S16384x32x128
def preK (x : FVec Ideal S16384x16384 .f32) (l : FVec Ideal S2x4096 .f32) : FVec Ideal S16384x32x128 .f32 :=
  shapeCast S16384x32x128 (mulf (allA (restL (boundL l))) (sigA (Host.negf (extractStridedSlice S16384x4096 ![0, 4096] x slices_S16384x16384_S16384x4096_0_4096)))) shapeCasts_S16384x4096_S16384x32x128
def preV (x : FVec Ideal S16384x16384 .f32) : FVec Ideal S16384x32x128 .f32 :=
  shapeCast S16384x32x128 (extractStridedSlice S16384x4096 ![0, 8192] x slices_S16384x16384_S16384x4096_0_8192) shapeCasts_S16384x4096_S16384x32x128
def preD (x : FVec Ideal S16384x16384 .f32) (l : FVec Ideal S2x4096 .f32) : FVec Ideal S16384x32x128 .f32 :=
  shapeCast S16384x32x128 (addf (allA (boundL l)) (mulf (allA (restL (boundL l))) (sigA (extractStridedSlice S16384x4096 ![0, 4096] x slices_S16384x16384_S16384x4096_0_4096))))
    shapeCasts_S16384x4096_S16384x32x128
def preS : FVec Ideal S32x128x128 .f32 := broadcastInDim S32x128x128 ![] bcast_S_S32x128x128 (constant S_ .f32 0x00000000#32)

theorem maxL_apply (x : FVec Ideal S2x4096 .f32) (a : S2x4096.Idx → ℝ) (hx : ∀ i, x i = (a i : EReal)) (d : Fin 4096) :
    maxL x (ix1 d) = ((max (a (ix2 0 d)) (a (ix2 1 d)) : ℝ) : EReal) := by
  pointwise [maxL]
  rw [show (Finset.univ : Finset (Fin 2)) = {0, 1} from rfl, Finset.fold_insert (by decide), Finset.fold_singleton, hx, hx,
    show Ideal.ofBits FTy.f32 4286578688#32 = (⊥ : EReal) from by simp [Ideal.ofBits, Ideal.ieee], max_bot_left, max_bot_right, max_coe]
theorem expL_apply (x : FVec Ideal S2x4096 .f32) (a : S2x4096.Idx → ℝ) (hx : ∀ i, x i = (a i : EReal)) (r : Fin 2) (d : Fin 4096) :
    expL x (ix2 r d) = ((Real.exp (a (ix2 r d) - max (a (ix2 0 d)) (a (ix2 1 d))) : ℝ) : EReal) := by
  have h := maxL_apply x a hx d
  unfold expL
  generalize maxL x = M at h ⊢
  pointwise [twoL]
  rw [h, hx, ← EReal.coe_sub]
  rfl
theorem softL_apply (x : FVec Ideal S2x4096 .f32) (a : S2x4096.Idx → ℝ) (hx : ∀ i, x i = (a i : EReal)) (r : Fin 2) (d : Fin 4096) :
    softL x (ix2 r d) = ((Real.exp (a (ix2 r d) - max (a (ix2 0 d)) (a (ix2 1 d)))
      / (Real.exp (a (ix2 0 d) - max (a (ix2 0 d)) (a (ix2 1 d))) + Real.exp (a (ix2 1 d) - max (a (ix2 0 d)) (a (ix2 1 d)))) : ℝ) : EReal) := by
  have h := fun r => expL_apply x a hx r d
  unfold softL
  generalize expL x = M at h ⊢
  pointwise [twoL]
  rw [Fin.sum_univ_two, h, h, h, ← EReal.coe_add]
  exact div_real _ _ (by positivity)
theorem boundL_apply (x : FVec Ideal S2x4096 .f32) (a : S2x4096.Idx → ℝ) (hx : ∀ i, x i = (a i : EReal)) (d : Fin 4096) :
    boundL x (ix1 d) = ((lowR (a (ix2 0 d)) (a (ix2 1 d)) : ℝ) : EReal) := by
  have h := fun r => softL_apply x a hx r d
  unfold boundL
  generalize softL x = M at h ⊢
  pointwise []
  rw [h, h, ← EReal.coe_add, ← EReal.coe_sub, add_sub_cancel_left]
  rfl

theorem sigA_apply (x : FVec Ideal S16384x4096 .f32) (i : S16384x4096.Idx) : sigA x i = ((sigX (x i) : ℝ) : EReal) := by
  show Ideal.div (Ideal.ofBits FTy.f32 0x3F800000#32) (Ideal.ofBits FTy.f32 0x3F800000#32 + Ideal.exp (-(x i))) = _
  rw [one_bits, sig_eq]

variable (m : (ℓ : Loc nD τ sig) → Buf (Elt Ideal) ℓ) (c : Dev nD)

def aP : FVec Ideal S16384x16384 .f32 := m ((c.tc : Thread nD τ).loc main_arg0)
def aL : FVec Ideal S2x4096 .f32 := m ((c.tc : Thread nD τ).loc main_arg1)

theorem eQ : entryContents preI m c (Proc.devRef .tc main_v56_0) = preQ (aP m c) := by
  simp only [entryContents, preI, afterL_cons, afterL_nil, hostOps0, hostOps0_1, hostOps0_2]
  after_results_entrywise []
theorem eK : entryContents preI m c (Proc.devRef .tc main_v56_1) = preK (aP m c) (aL m c) := by
  simp only [entryContents, preI, afterL_cons, afterL_nil, hostOps0, hostOps0_1, hostOps0_2]
  after_results_entrywise []
theorem eV : entryContents preI m c (Proc.devRef .tc main_v56_2) = preV (aP m c) := by
  simp only [entryContents, preI, afterL_cons, afterL_nil, hostOps0, hostOps0_1, hostOps0_2]
  after_results_entrywise []
theorem eD : entryContents preI m c (Proc.devRef .tc main_v56_3) = preD (aP m c) (aL m c) := by
  simp only [entryContents, preI, afterL_cons, afterL_nil, hostOps0, hostOps0_1, hostOps0_2]
  after_results_entrywise []
theorem eS : entryContents preI m c (Proc.devRef .tc main_v56_5) = preS := by
  simp only [entryContents, preI, afterL_cons, afterL_nil, hostOps0, hostOps0_1, hostOps0_2]
  after_results_entrywise []

theorem rest_apply (l : FVec Ideal S2x4096 .f32) (a1 : S2x4096.Idx → ℝ) (h1 : ∀ i, l i = (a1 i : EReal)) (H : Fin 32) (d : Fin 128) :
    restL (boundL l) (ix1 ⟨H.val * 128 + d.val, by omega⟩) = ((1 - low a1 H d : ℝ) : EReal) := by
  show Ideal.ofBits FTy.f32 0x3F800000#32 - boundL l _ = (_ : EReal)
  rw [one_bits, boundL_apply l a1 h1, ← EReal.coe_sub]
  rfl

section Pre

variable (x : FVec Ideal S16384x16384 .f32) (l : FVec Ideal S2x4096 .f32) (a0 : S16384x16384.Idx → ℝ) (a1 : S2x4096.Idx → ℝ)
  (h0 : Reals x a0) (h1 : ∀ i, l i = (a1 i : EReal)) (n : ℕ) (H : Fin 32) (d : Fin 128)

theorem headA (z : FVec Ideal S16384x4096 .f32) (t : Fin 16384) :
    shapeCast S16384x32x128 z shapeCasts_S16384x4096_S16384x32x128 (ix3 t H d) = z (ix2 t ⟨H.val * 128 + d.val, by omega⟩) := by
  pointwise []

theorem allA_apply (z : FVec Ideal S4096 .f32) (t : Fin 16384) (y : Fin 4096) : allA z (ix2 t y) = z (ix1 y) := by
  pointwise [allA]

theorem part_f : extractStridedSlice S16384x4096 ![0, 4096] x slices_S16384x16384_S16384x4096_0_4096 (ix2 (tok n) ⟨H.val * 128 + d.val, by omega⟩) = gate x H n d := by
  pointwise [gate]

section Finite

include h0

theorem part_q : extractStridedSlice S16384x4096 ![0, 0] x slices_S16384x16384_S16384x4096_0_0 (ix2 (tok n) ⟨H.val * 128 + d.val, by omega⟩) = (part a0 H 0 n d : EReal) := by
  refine Eq.trans ?_ (h0 (tok n) ⟨4096 * (0 : Fin 4).val + (H.val * 128 + d.val), by omega⟩ (by dsimp only; omega))
  pointwise []
theorem part_v : extractStridedSlice S16384x4096 ![0, 8192] x slices_S16384x16384_S16384x4096_0_8192 (ix2 (tok n) ⟨H.val * 128 + d.val, by omega⟩) = (part a0 H 2 n d : EReal) := by
  refine Eq.trans ?_ (h0 (tok n) ⟨4096 * (2 : Fin 4).val + (H.val * 128 + d.val), by omega⟩ (by dsimp only; omega))
  pointwise []

theorem preQ_apply : preQ x (ix3 (tok n) H d) = (qTok a0 H n d : EReal) := by
  unfold preQ
  rw [headA]
  show extractStridedSlice S16384x4096 ![0, 0] x slices_S16384x16384_S16384x4096_0_0 _ * sigA _ _ = (_ : EReal)
  rw [sigA_apply, part_q x a0 h0 n H d, sigX_coe, ← EReal.coe_mul]
  rfl
theorem preV_apply : preV x (ix3 (tok n) H d) = (vTok a0 H n d : EReal) := by
  unfold preV
  rw [headA, part_v x a0 h0 n H d]
  rfl

end Finite

include h1

theorem preK_apply : preK x l (ix3 (tok n) H d) = (kTok x a1 H n d : EReal) := by
  unfold preK
  rw [headA]
  show allA (restL (boundL l)) _ * sigA _ _ = (_ : EReal)
  rw [allA_apply, rest_apply l a1 h1 H d, sigA_apply, ← EReal.coe_mul]
  show (((1 - low a1 H d) * sigX (-(extractStridedSlice S16384x4096 ![0, 4096] x slices_S16384x16384_S16384x4096_0_4096 _)) : ℝ) : EReal) = _
  rw [part_f x n H d]
  rfl
theorem preD_apply : preD x l (ix3 (tok n) H d) = (((2 : ℝ) ^ lTok x a1 H n d : ℝ) : EReal) := by
  unfold preD
  rw [headA]
  show allA (boundL l) _ + allA (restL (boundL l)) _ * sigA _ _ = (_ : EReal)
  rw [allA_apply, allA_apply, rest_apply l a1 h1 H d, boundL_apply l a1 h1, sigA_apply, part_f x n H d, ← EReal.coe_mul, ← EReal.coe_add]
  exact congrArg (fun r : ℝ => (r : EReal)) (two_logX _ _ (lowR_pos _ _) (lowR_lt _ _)).symm

end Pre

variable (V : Valuation τ sig (Elt Ideal)) (n : ℕ)
def cQ : FVec Ideal S16384x32x128 .f32 := V (Proc.devRef .tc main_v56_0)
def cK : FVec Ideal S16384x32x128 .f32 := V (Proc.devRef .tc main_v56_1)
def cV : FVec Ideal S16384x32x128 .f32 := V (Proc.devRef .tc main_v56_2)
def cD : FVec Ideal S16384x32x128 .f32 := V (Proc.devRef .tc main_v56_3)
def cS : FVec Ideal S32x128x128 .f32 := V (Proc.devRef .tc main_v56_5)
def cO : FVec Ideal S16384x32x128 .f32 := V (Proc.devRef .tc main_v56_6)

/-- One token's row, and a row replaced. -/
theorem slice3 (x : FVec Ideal S16384x32x128 .f32) (st : Fin 3 → Int) (hn : n < 16384) (h0 : st 0 = n) (h1 : st 1 = 0) (h2 : st 2 = 0) (h) (h') :
    shapeCast S32x128 (Host.dynamicSlice S1x32x128 x st h) h' = fun y => x (ix3 (tok n) (y 0) (y 1)) := by
  have e0 := Host.clampedStart_of_le (s := S16384x32x128) (t := S1x32x128) rfl st 0 n h0 (by show n + 1 ≤ 16384; omega)
  have e1 := Host.clampedStart_of_le (s := S16384x32x128) (t := S1x32x128) rfl st 1 0 h1 (by decide)
  have e2 := Host.clampedStart_of_le (s := S16384x32x128) (t := S1x32x128) rfl st 2 0 h2 (by decide)
  funext y
  idx_vars y
  pointwise
  congr 1
  simp only [e0, e1, e2]
  rw [show (tok n) = ⟨n, hn⟩ from Fin.ext (Nat.mod_eq_of_lt hn)]
  simp only [Nat.zero_add]
theorem update3 (x : FVec Ideal S16384x32x128 .f32) (u : FVec Ideal S1x32x128 .f32) (st : Fin 3 → Int) (hn : n < 16384) (h0 : st 0 = n) (h1 : st 1 = 0)
    (h2 : st 2 = 0) (h) (t : Fin 16384) (a : Fin 32) (f : Fin 128) :
    Host.dynamicUpdateSlice x u st h (ix3 t a f) = if t.val = n then u (ix3 0 a f) else x (ix3 t a f) := by
  have e0 := Host.clampedStart_of_le (s := S16384x32x128) (t := S1x32x128) rfl st 0 n h0 (by show n + 1 ≤ 16384; omega)
  have e1 := Host.clampedStart_of_le (s := S16384x32x128) (t := S1x32x128) rfl st 1 0 h1 (by decide)
  have e2 := Host.clampedStart_of_le (s := S16384x32x128) (t := S1x32x128) rfl st 2 0 h2 (by decide)
  pointwise
  simp only [e1, e2]
  split
  · rename_i hin
    have ht : t.val = n := by omega
    rw [if_pos ht]
    exact congrArg u (congrArg (fun x => ix3 x a f) (Fin.ext (by show t.val - Host.clampedStart S16384x32x128 S1x32x128 _ st 0 = 0; omega)))
  · rename_i hin
    rw [if_neg]
    rintro rfl
    exact hin (by omega)

/-- The new state of a trip, and the outputs after it. -/
def tS : FVec Ideal S32x128x128 .f32 := res_main_while0b_v91 V
def tO : FVec Ideal S16384x32x128 .f32 := step_main_v56_6 V

section Trip

variable (hn : n < 16384) (hc : V (Proc.devRef .tc main_v56_4) = fun _ => BitVec.ofNat 32 n)
include hn hc

theorem counter : ((V (Proc.devRef .tc main_v56_4) : IVec S_ 32) (Shape.Idx.first h_S_)).toInt = n := by
  rw [hc]
  exact toInt_ofNat_of_lt (by omega)

theorem trip_state (a : Fin 32) (d e : Fin 128) : tS V (ix3 a d e)
    = (cS V (ix3 a d e) * cD V (ix3 (tok n) a d) + cK V (ix3 (tok n) a d) * cV V (ix3 (tok n) a e) : EReal) := by
  unfold tS res_main_while0b_v91
  rw [slice3 n _ _ hn (counter V n hn hc) rfl rfl, slice3 n _ _ hn (counter V n hn hc) rfl rfl, slice3 n _ _ hn (counter V n hn hc) rfl rfl]
  clean_types
  pointwise []
  rfl

theorem trip_out (t : Fin 16384) (a : Fin 32) (e : Fin 128) :
    tO V (ix3 t a e) = if t.val = n then (∑ x, cQ V (ix3 (tok n) a x) * tS V (ix3 a x e) : EReal) else cO V (ix3 t a e) := by
  unfold tO step_main_v56_6
  rw [slice3 n _ _ hn (counter V n hn hc) rfl rfl]
  refine (update3 n _ _ _ hn (counter V n hn hc) rfl rfl _ t a e).trans ?_
  refine if_congr Iff.rfl ?_ rfl
  clean_types
  pointwise []
  rfl

end Trip

theorem siluE_one (z : EReal) : siluE z = z * Ideal.div 1 (1 + Ideal.exp (-z)) := by
  unfold siluE
  rw [one_bits, EReal.coe_one]
theorem out_read (t : Fin 16384) (y : Fin 4096) : (out_main_v78 V : FVec Ideal S16384x4096 .bf16) (ix2 t y)
    = normE (fun e => cO V (ix3 t ⟨y.val / 128, by omega⟩ e)) ⟨y.val % 128, by omega⟩ ((V (Proc.devRef .tc main_arg2) : FVec Ideal S128 .f32) (ix1 ⟨y.val % 128, by omega⟩))
      (siluE ((V (Proc.devRef .tc main_arg0) : FVec Ideal S16384x16384 .f32) (ix2 t ⟨12288 + y.val, by omega⟩))) := by
  unfold out_main_v78
  clean_types
  pointwise []
  refine Eq.trans ?_ (congrArg (normE _ _ _) (siluE_one _).symm)
  rfl

section Iterate

variable (a0 : S16384x16384.Idx → ℝ) (a1 : S2x4096.Idx → ℝ)

/-- What the carried buffers hold before trip `n`. -/
structure Carried : Prop where
  q : cQ V = preQ (aP m c)
  k : cK V = preK (aP m c) (aL m c)
  v : cV V = preV (aP m c)
  d : cD V = preD (aP m c) (aL m c)
  ctr : V (Proc.devRef .tc main_v56_4) = fun _ => BitVec.ofNat 32 n
  s : ∀ h d e, cS V (ix3 h d e) = (stN (kTok (aP m c) a1 h) (vTok a0 h) (lTok (aP m c) a1 h) n d e : EReal)
  o : ∀ t h e, t.val < n → cO V (ix3 t h e) = (outN (qTok a0 h) (kTok (aP m c) a1 h) (vTok a0 h) (lTok (aP m c) a1 h) t.val e : EReal)

variable (h0 : Reals (aP m c) a0) (h1 : ∀ i, aL m c i = (a1 i : EReal))
include h0 h1

theorem carried_step (hn : n < 16384) (C : Carried m c V n a0 a1) : Carried m c (STEP V) (n + 1) a0 a1 := by
  have hS : ∀ h d e, tS V (ix3 h d e) = (stN (kTok (aP m c) a1 h) (vTok a0 h) (lTok (aP m c) a1 h) (n + 1) d e : EReal) := fun h d e => by
    rw [trip_state V n hn C.ctr, C.s, C.k, C.v, C.d, preK_apply _ _ a1 h1, preV_apply _ a0 h0, preD_apply _ _ a1 h1,
      ← EReal.coe_mul, ← EReal.coe_mul, ← EReal.coe_add]
    rfl
  refine ⟨(STEP_main_v56_0 V).trans C.q, (STEP_main_v56_1 V).trans C.k, (STEP_main_v56_2 V).trans C.v, (STEP_main_v56_3 V).trans C.d,
    ?_, fun h d e => ?_, fun t h e ht => ?_⟩
  · rw [STEP_main_v56_4]
    unfold step_main_v56_4
    rw [C.ctr]
    funext i
    exact (BitVec.ofNat_add n 1).symm
  · exact (congrFun (STEP_main_v56_5 V) (ix3 h d e)).trans (hS h d e)
  · refine (congrFun (STEP_main_v56_6 V) (ix3 t h e)).trans ((trip_out V n hn C.ctr t h e).trans ?_)
    split
    · rename_i he
      simp only [C.q, preQ_apply _ a0 h0, hS, ← EReal.coe_mul, coe_sum]
      rw [he]
      rfl
    · exact C.o t h e (by omega)

theorem carried (n : ℕ) (hn : n ≤ 16384) : Carried m c (STEP^[n] (entryContents preI m c)) n a0 a1 := by
  induction n with
  | zero =>
    refine ⟨eQ m c, eK m c, eV m c, eD m c, ctr_entry m c, fun h d e => ?_, fun t h e ht => absurd ht (Nat.not_lt_zero _)⟩
    refine (congrFun (eS m c) (ix3 h d e)).trans ?_
    pointwise [preS]
    rfl
  | succ n ih =>
    rw [Function.iterate_succ_apply']
    exact carried_step m c _ n a0 a1 h0 h1 (by omega) (ih (by omega))

/-- The reference's result. -/
theorem ref_value (t : Fin 16384) (y : Fin 4096) :
    (out_main_v78 (STEP^[16384] (entryContents preI m c)) : FVec Ideal S16384x4096 .bf16) (ix2 t y)
      = normE (fun e => (outH a0 (aP m c) a1 ⟨y.val / 128, by omega⟩ t.val e : EReal)) ⟨y.val % 128, by omega⟩
          ((m ((c.tc : Thread nD τ).loc main_arg2) : FVec Ideal S128 .f32) (ix1 ⟨y.val % 128, by omega⟩))
          (siluE ((m ((c.tc : Thread nD τ).loc main_arg0) : FVec Ideal S16384x16384 .f32) (ix2 t ⟨12288 + y.val, by omega⟩))) := by
  rw [out_read, iter_main_arg2, iter_main_arg0]
  simp only [(carried m c a0 a1 h0 h1 16384 le_rfl).o t _ _ t.isLt]

end Iterate

end Cert.HgrnValue
-- ==== Proof.HgrnResults.lean ====
/- The recurrence: the kernel's result is the reference's. -/
module

public import proofs.«01_k».proof.Proof.Gen.Pre_hgrn_finite
public import proofs.«01_k».proof.Proof.Array
public import proofs.«01_k».proof.Proof.HgrnReference
public import proofs.«01_k».proof.Proof.Finite

@[expose] public section

noncomputable section

namespace Cert.HgrnValue

open Idealize.ShloMosaic Idealize.ShloMosaic.TcCoe Idealize.ShloMosaic.StableHlo Idealize.SL.Sem Idealize.ShloMosaic.Tactic

/-- The two results are one array. -/
theorem results (m : (ℓ : Loc HgrnIdeal.nD HgrnIdeal.τ HgrnIdeal.sig) → Buf (Elt Ideal) ℓ)
    (m' : (ℓ : Loc HgrnRefIdeal.nD HgrnRefIdeal.τ HgrnRefIdeal.sig) → Buf (Elt Ideal) ℓ) (c : Dev HgrnIdeal.nD)
    (hf : Cert.Pre_HgrnIdeal_hgrn_finite m)
    (he : m' ((c.tc : Thread HgrnRefIdeal.nD HgrnRefIdeal.τ).loc HgrnRefIdeal.main_arg0) = m ((c.tc : Thread HgrnIdeal.nD HgrnIdeal.τ).loc HgrnIdeal.main_arg0)
      ∧ m' ((c.tc : Thread HgrnRefIdeal.nD HgrnRefIdeal.τ).loc HgrnRefIdeal.main_arg1) = m ((c.tc : Thread HgrnIdeal.nD HgrnIdeal.τ).loc HgrnIdeal.main_arg1)
      ∧ m' ((c.tc : Thread HgrnRefIdeal.nD HgrnRefIdeal.τ).loc HgrnRefIdeal.main_arg2) = m ((c.tc : Thread HgrnIdeal.nD HgrnIdeal.τ).loc HgrnIdeal.main_arg2)) :
    HgrnRefIdeal.Value.out_main_v78 (HgrnRefIdeal.Value.STEP^[16384] (entryContents HgrnRefIdeal.Value.preI m' c)) = HgrnIdeal.Value.G6 m c := by
  obtain ⟨fq, fv, f1⟩ := hf c
  obtain ⟨q, hq⟩ := Cert.Gdn.reals_of_finite _ _ fq
  obtain ⟨v, hv⟩ := Cert.Gdn.reals_of_finite _ _ fv
  obtain ⟨a1, h1⟩ := Cert.Gdn.reals_of_finite _ _ f1
  obtain ⟨e0, e1, e2⟩ := he
  have h0 : Reals (kaP m c) fun i => (kaP m c i).toReal := fun t y hy => by
    rcases hy with hy | ⟨hy, hy'⟩
    · have h : kaP m c (ix2 t y) = (q (ix2 t ⟨y.val, hy⟩) : EReal) := Eq.trans (by pointwise [kaP]) (hq (ix2 t ⟨y.val, hy⟩))
      simp only [h, EReal.toReal_coe]
    · have e : (⟨8192 + (y.val - 8192), by omega⟩ : Fin 16384) = y := Fin.ext (by dsimp only; omega)
      have h : kaP m c (ix2 t ⟨8192 + (y.val - 8192), by omega⟩) = (v (ix2 t ⟨y.val - 8192, by omega⟩) : EReal) :=
        Eq.trans (by pointwise [kaP]) (hv (ix2 t ⟨y.val - 8192, by omega⟩))
      rw [e] at h
      simp only [h, EReal.toReal_coe]
  have ep : aP m' c = kaP m c := e0
  refine funext (β := fun _ => EReal) fun y => ?_
  obtain ⟨t, x, rfl⟩ : ∃ (t : Fin 16384) (x : Fin 4096), y = ix2 t x := ⟨y 0, y 1, eq_ix2 y⟩
  refine (ref_value m' c _ a1 (ep ▸ h0) (fun i => (congrFun e1 i).trans (h1 i)) t x).trans ?_
  refine Eq.trans ?_ (ker_value m c _ a1 h0 h1 t x).symm
  exact Cert.Gdn.normE_congr (by rw [ep]) rfl (congrFun e2 _) (congrArg siluE (congrFun e0 _))

end Cert.HgrnValue

end
-- ==== Proof.Product.lean ====
module

public import Idealize.ShloMosaic.Lib.Pointwise

@[expose] public section

noncomputable section

namespace Cert.Gdn

open Idealize.ShloMosaic

/-- The product of two arrays of extended reals. -/
def prodE {M K N : ℕ} (x : (⟨2, ![M, K]⟩ : Shape).Idx → EReal) (w : (⟨2, ![K, N]⟩ : Shape).Idx → EReal) (r : Fin M) (j : Fin N) : EReal :=
  ∑ k : Fin K, x (ix2 r k) * w (ix2 k j)

/-- A block of the product is the product of the blocks. -/
theorem prodE_block {M K N M' N' : ℕ} {x : (⟨2, ![M, K]⟩ : Shape).Idx → EReal} {w : (⟨2, ![K, N]⟩ : Shape).Idx → EReal}
    {x' : (⟨2, ![M', K]⟩ : Shape).Idx → EReal} {w' : (⟨2, ![K, N']⟩ : Shape).Idx → EReal} {r : Fin M} {j : Fin N} {r' : Fin M'} {j' : Fin N'}
    (hx : ∀ k, x (ix2 r k) = x' (ix2 r' k)) (hw : ∀ k, w (ix2 k j) = w' (ix2 k j')) : prodE x w r j = prodE x' w' r' j' :=
  Finset.sum_congr rfl fun k _ => by rw [hx, hw]

/-- x / (1 + exp (-x)). -/
def siluE (x : EReal) : EReal := x * Ideal.div 1 (1 + Ideal.exp (-x))

end Cert.Gdn

end
-- ==== Proof.GdnZ.lean ====
module

public import proofs.«01_k».proof.Proof.Gen.GdnZIdeal.Value
public import proofs.«01_k».proof.Proof.Gen.GdnZRefIdeal.Run
public import proofs.«01_k».proof.Proof.Product
public import proofs.«01_k».proof.Defs
public import Idealize.ShloMosaic.Adequacy
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.GdnZValue

open Idealize.ShloMosaic Idealize.ShloMosaic.TcCoe Idealize.ShloMosaic.Tactic Cert.GdnZIdeal Cert.GdnZIdeal.Gen Cert.GdnZIdeal.Value Idealize.SL.Sem

variable (m : (ℓ : Loc nD τ sig) → Buf (Elt Ideal) ℓ) (c : Dev nD)

/-- The two arguments, and the array that the kernel leaves: the product with the gate's columns, under silu. -/
def x : FVec Ideal S16384x4096 .bf16 := m ((c.tc : Thread nD τ).loc main_arg0)
def w : FVec Ideal S4096x24704 .f32 := m ((c.tc : Thread nD τ).loc main_arg1)
def G : FVec Ideal S16384x8192 .f32 := fun i => Cert.Gdn.siluE (Cert.Gdn.prodE (x m c) (w m c) (i 0) ⟨16384 + (i 1).val, by have : (i 1).val < 8192 := (i 1).isLt; omega⟩)

theorem idx : ∀ t : Fin cfg0.N, win0_0.index t = ![t.val % 16, 0] ∧ win0_1.index t = ![0, t.val / 16] ∧ win0_2.index t = ![t.val % 16, t.val / 16] :=
  (by decide +kernel : ∀ t : Fin grid0.N, _)

theorem hN (t : Fin cfg0.N) : t.val < 128 := lt_of_lt_of_eq t.isLt N_0

theorem x_in (t : Fin cfg0.N) (i : Fin 1024) (k : Fin 4096) : iblk m c 0 t (ix2 i k) = x m c (ix2 ⟨t.val % 16 * 1024 + i.val, by omega⟩ k) := by
  have := hN t
  unfold x
  blk_ext [iblk, V, idx t]
theorem w_in (t : Fin cfg0.N) (k : Fin 4096) (j : Fin 1024) :
    iblk m c 1 t (ix2 k j) = w m c (ix2 k ⟨16384 + (t.val / 16 * 1024 + j.val), by have := hN t; omega⟩) := by
  have := hN t
  unfold w
  refine Eq.trans (?_ : _ = (V m c main_v1 : FVec Ideal S4096x8192 .bf16) (ix2 k ⟨t.val / 16 * 1024 + j.val, by omega⟩)) ?_
  · blk_ext [iblk, idx t]
  · unfold V
    entry_read
    pointwise

/-- What a point stores of 256 columns. -/
def actV (a : FVec Ideal S1024x4096 .bf16) (b : FVec Ideal S4096x256 .bf16) : FVec Ideal S1024x256 .f32 := k0_pay2 a b

theorem actV_apply (a : FVec Ideal S1024x4096 .bf16) (b : FVec Ideal S4096x256 .bf16) (i : Fin 1024) (j : Fin 256) :
    actV a b (ix2 i j) = Cert.Gdn.siluE (Cert.Gdn.prodE a b i j) := by
  pointwise [actV, k0_pay2, Cert.Gdn.prodE, Cert.Gdn.siluE]
  rw [zero_sub]

/-- The block that a point leaves. -/
def outV (a : FVec Ideal S1024x4096 .bf16) (b : FVec Ideal S4096x1024 .bf16) : FVec Ideal S1024x1024 .f32 := fun y =>
  Cert.Gdn.siluE (Cert.Gdn.prodE a b (y 0) (y 1))

theorem piece (a : FVec Ideal S1024x4096 .bf16) (b : FVec Ideal S4096x1024 .bf16) (o : ℕ) (ho : o + 256 ≤ 1024)
    (hr : ∀ d, (![0, o] : Fin 2 → ℕ) d + S4096x256.size d ≤ S4096x1024.size d) (hr' : ∀ d, (![0, o] : Fin 2 → ℕ) d + S1024x256.size d ≤ S1024x1024.size d) (z : S1024x256.Idx) :
    actV (View.ld (Val := Elt Ideal) (e' := .bf16) a r0_0) (View.ld (Val := Elt Ideal) (e' := .bf16) b (Rect.unit (s := S4096x1024) ![0, o] S4096x256.size hr)) z = outV a b ((Rect.unit (s := S1024x1024) ![0, o] S1024x256.size hr').emb z) := by
  obtain ⟨i, j, rfl⟩ : ∃ (i : Fin 1024) (j : Fin 256), z = ix2 i j := ⟨z 0, z 1, eq_ix2 z⟩
  refine (actV_apply _ _ i j).trans (congrArg Cert.Gdn.siluE (Cert.Gdn.prodE_block (fun k => ?_) fun k => ?_))
  · pointwise
    refine congrArg (fun r => a (ix2 r k)) (Fin.ext ?_)
    show i.val = 0 + 1 * i.val
    omega
  · pointwise
    refine congrArg (fun r => b (ix2 k r)) (Fin.ext ?_)
    show o + j.val = o + 1 * j.val
    omega

theorem out_eq (a : FVec Ideal S1024x4096 .bf16) (b : FVec Ideal S4096x1024 .bf16) : out0_2 (F := Ideal) a b = outV a b := by
  funext y
  unfold out0_2
  refine View.canon_apply_of_pieces _ _ (fun p hp z => ?_) y (cover0_2 _ _ _ _ y)
  rcases List.mem_cons.mp hp with rfl | hp
  · exact piece a b 768 (by omega) (by decide) (by decide) z
  rcases List.mem_cons.mp hp with rfl | hp
  · exact piece a b 512 (by omega) (by decide) (by decide) z
  rcases List.mem_cons.mp hp with rfl | hp
  · exact piece a b 256 (by omega) (by decide) (by decide) z
  rcases List.mem_cons.mp hp with rfl | hp
  · exact piece a b 0 (by omega) (by decide) (by decide) z
  · cases hp

theorem out_at (t : Fin cfg0.N) (i j : Fin 1024) : ((View.whole main_v2).slice (win0_2.rect t)).emb (ix2 i j)
    = (ix2 (n0 := 16384) (n1 := 8192) ⟨t.val % 16 * 1024 + i.val, by omega⟩ ⟨t.val / 16 * 1024 + j.val, by have := hN t; omega⟩) := by
  have := hN t
  blk_ext [idx t]

/-- The kernel's array. -/
theorem array : (dats m 0 c).arrAt 2 cfg0.N = G m c := by
  refine (dats m 0 c).arrAt_eq_of_covers 2 _ (by decide +kernel) fun t hf y => ?_
  blk_simp
  rw [after0_2]
  refine (congrFun (out_eq _ _) y).trans ?_
  obtain ⟨i, j, rfl⟩ : ∃ (i j : Fin 1024), y = ix2 i j := ⟨y 0, y 1, eq_ix2 y⟩
  rw [out_at]
  exact congrArg Cert.Gdn.siluE (Cert.Gdn.prodE_block (x_in m c t i) (fun k => w_in m c t k j))

/-- The reference's array. -/
theorem ref_array (x' : FVec Ideal S16384x4096 .bf16) (w' : FVec Ideal S4096x24704 .f32) (h0 : x' = x m c) (h1 : w' = w m c) (p : FVec Ideal S16384x8192 .f32)
    (hp : p = extractStridedSlice S16384x8192 ![0, 16384] (Host.dotGeneral (F := Ideal) Cert.GdnZRefIdeal.dot_S16384x4096_S4096x24704_S16384x24704_1_0_0_1_n_n none
      (extf (F := Ideal) .f32 x' Cert.GdnZRefIdeal.Gen.bitsLt_bf16_f32) w') Cert.GdnZRefIdeal.Gen.slices_S16384x24704_S16384x8192_0_16384) :
    (mulf p (Host.divf (broadcastInDim S16384x8192 ![] Cert.GdnZRefIdeal.Gen.bcast_S_S16384x8192 (constant (F := Ideal) Cert.GdnZRefIdeal.S_ .f32 0x3F800000#32))
      (addf (broadcastInDim S16384x8192 ![] Cert.GdnZRefIdeal.Gen.bcast_S_S16384x8192 (constant (F := Ideal) Cert.GdnZRefIdeal.S_ .f32 0x3F800000#32)) (Host.exp (Host.negf p)))) : FVec Ideal S16384x8192 .f32) = G m c := by
  rw [hp, h0, h1]
  funext y
  idx_vars y
  pointwise [G, Cert.Gdn.siluE, Cert.Gdn.prodE]

theorem algebraic : Cert.algebraic_GdnZIdeal_GdnZRefIdeal := fun m ρ m' ρ' _ he =>
  ⟨fun c => G m c, (θ_run _ _ _).mono (fun _ h c => ⟨(h c).1.trans (array m c), (h c).2⟩) (run_blocks m ρ),
    (θ_run _ _ _).mono (fun _ h c => ⟨(h c).1.trans (ref_array m c _ _ (he c).1 (he c).2 _ rfl), (h c).2⟩) (Cert.GdnZRefIdeal.Value.run m' ρ')⟩

/-- The reference ends quiescent with its arguments as they were. -/
theorem ref_frame : Cert.quiescent_GdnZRefIdeal := fun m ρ _ =>
  (θ_run _ _ _).mono (fun r h => ⟨fun c => (h c).2, sem_eq_zero_of_no_sems (by decide) r.2⟩) (Cert.GdnZRefIdeal.Value.run m ρ)

end Cert.GdnZValue

end
-- ==== Proof.Conv.lean ====
module

public import proofs.«01_k».proof.Proof.Product
public import Idealize.ShloMosaic.Lib.Claim
public import Idealize.ShloMosaic.Lib.Pointwise
public import Idealize.ShloMosaic.Lib.WritesUnit
public import Idealize.ShloMosaic.Lib.Pipeline.ValueKit

@[expose] public section

noncomputable section

namespace Cert.Conv

open Cert.Gdn Idealize.ShloMosaic Idealize.ShloMosaic.TcCoe

/-- The convolution's four terms, added in their order. -/
def convE (w p : Fin 4 → EReal) : EReal := ((w 0 * p 0 + w 1 * p 1) + w 2 * p 2) + w 3 * p 3

/-- A sequence `d` steps back, zero before its start. -/
def backE (p : Fin 16384 → EReal) (t : Fin 16384) (d : ℕ) : EReal := if d ≤ t.val then p ⟨t.val - d, by omega⟩ else 0

/-- The causal convolution of a sequence, under silu. -/
def actE (w : Fin 4 → EReal) (p : Fin 16384 → EReal) (t : Fin 16384) : EReal := siluE (convE w fun k => backE p t (3 - k.val))

/-- Eight rows carried from before, and 1024 rows below them. -/
def extE (h : Fin 8 → EReal) (p : Fin 1024 → EReal) (n : Fin 1032) : EReal :=
  if l : n.val < 8 then h ⟨n.val, l⟩ else p ⟨n.val - 8, by omega⟩

/-- What a tile's rows and the eight before it hold, where those are the sequence's or zero. -/
theorem extE_back {p : Fin 16384 → EReal} {h : Fin 8 → EReal} {q : Fin 1024 → EReal} {b : ℕ} (hb : b < 16)
    (hq : ∀ i : Fin 1024, q i = p ⟨1024 * b + i.val, by omega⟩)
    (hh : ∀ i : Fin 8, h i = if l : b = 0 then 0 else p ⟨1024 * b + i.val - 8, by omega⟩) (i : Fin 1024) (k : Fin 4) :
    extE h q ⟨5 + k.val + i.val, by omega⟩ = backE p ⟨1024 * b + i.val, by omega⟩ (3 - k.val) := by
  unfold extE backE
  by_cases l : 5 + k.val + i.val < 8
  · rw [dif_pos l, hh]
    by_cases z : b = 0
    · rw [dif_pos z, if_neg (by subst z; simp only; omega)]
    · rw [dif_neg z, if_pos (by simp only; omega)]
      exact congrArg p (Fin.ext (by simp only; omega))
  · rw [dif_neg l, hq, if_pos (by simp only; omega)]
    exact congrArg p (Fin.ext (by simp only; omega))

section Buffer

/-- A buffer of eight carried rows and 1024 rows. -/
abbrev Sbuf : Shape := ⟨2, ![1032, 256]⟩
abbrev Srows : Shape := ⟨2, ![1024, 256]⟩
abbrev Stop : Shape := ⟨2, ![8, 256]⟩

variable {sig : RefSig} {κ : Kind} {sp : Space} (v : View sig κ sp Sbuf .f32) (f : v.ty.Contents (Elt Ideal))
  (a : Srows.Idx → Elt Ideal .f32) (z : Stop.Idx → Elt Ideal .f32) (L : List (View.Piece (Elt Ideal) Sbuf .f32))
  (h8 : ∀ d, (![8, 0] : Fin 2 → ℕ) d + Srows.size d ≤ Sbuf.size d) (h0 : ∀ d, (![0, 0] : Fin 2 → ℕ) d + Stop.size d ≤ Sbuf.size d)

/-- The buffer's contents: the carried rows, then the tile's. -/
def ext : Sbuf.Idx → Elt Ideal .f32 := fun y => extE (fun i => z (ix2 i (y 1))) (fun i => a (ix2 i (y 1))) (y 0)

/-- The first eight rows of a buffer. -/
def top (x : Sbuf.Idx → Elt Ideal .f32) : Stop.Idx → Elt Ideal .f32 := fun y =>
  x (ix2 (n0 := 1032) (n1 := 256) ⟨(y 0).val, by have : (y 0).val < 8 := (y 0).isLt; omega⟩ (y 1))

/-- The buffer once the tile's rows have been stored below the carried ones. -/
theorem read_ext (hz : top (v.read (Elt Ideal) (v.writes (Elt Ideal) f L)) = z) :
    v.read (Elt Ideal) (v.writes (Elt Ideal) f (⟨Rect.unit (s := Sbuf) ![8, 0] Srows.size h8, a⟩ :: L)) = ext a z := by
  funext y
  unfold ext extE
  have l0 : (y 0).val < 1032 := (y 0).isLt
  by_cases l : (y 0).val < 8
  · rw [dif_pos l, ← hz]
    refine (View.read_writes_cons_rows_of_not_mem v f h8 a L y rfl rfl (Or.inl l)).trans ?_
    exact congrArg _ (eq_ix2 y)
  · rw [dif_neg l]
    exact View.read_writes_cons_rows_of_mem v f h8 a L y (ix2 (n0 := 1024) (n1 := 256) ⟨(y 0).val - 8, by omega⟩ (y 1)) rfl (by simp only [ix2]; omega) rfl

/-- The carried rows, once they have been stored. -/
theorem read_top : top (v.read (Elt Ideal) (v.writes (Elt Ideal) f (⟨Rect.unit (s := Sbuf) ![0, 0] Stop.size h0, z⟩ :: L))) = z := by
  funext y
  exact View.read_writes_cons_rows_of_mem v f h0 z L _ y rfl (by simp [ix2]) rfl

/-- The tile's rows, read back. -/
theorem read_acc (i : Fin 1024) (j : Fin 256) :
    v.readCov (⟨Rect.unit (s := Sbuf) ![8, 0] Srows.size h8, a⟩ :: L) (Rect.unit (s := Sbuf) ![8, 0] Srows.size h8).toLoadRect (ix2 i j) = a (ix2 i j) :=
  View.read_writes_cons_rows_of_mem v _ h8 a L _ (ix2 (n0 := 1024) (n1 := 256) i j) rfl
    (by show 8 + 1 * i.val = 8 + i.val; omega) (by show 0 + 1 * j.val = j.val; omega)

/-- The tile's last eight rows, read back. -/
theorem read_last (h : ∀ d, (![1024, 0] : Fin 2 → ℕ) d + Stop.size d ≤ Sbuf.size d) (i : Fin 8) (j : Fin 256) :
    v.readCov (⟨Rect.unit (s := Sbuf) ![8, 0] Srows.size h8, a⟩ :: L) (Rect.unit (s := Sbuf) ![1024, 0] Stop.size h).toLoadRect (ix2 i j)
      = a (ix2 ⟨1016 + i.val, by omega⟩ j) :=
  View.read_writes_cons_rows_of_mem v _ h8 a L _ (ix2 (n0 := 1024) (n1 := 256) ⟨1016 + i.val, by omega⟩ j) rfl
    (by show 1024 + 1 * i.val = 8 + (1016 + i.val); omega) (by show 0 + 1 * j.val = j.val; omega)

end Buffer

section Loads

theorem inb_acc : ∀ d, (![8, 0] : Fin 2 → ℕ) d + Srows.size d ≤ Sbuf.size d := by decide
theorem inb_top : ∀ d, (![0, 0] : Fin 2 → ℕ) d + Stop.size d ≤ Sbuf.size d := by decide
theorem inb_last : ∀ d, (![1024, 0] : Fin 2 → ℕ) d + Stop.size d ≤ Sbuf.size d := by decide
theorem inb_rows (k : Fin 4) : ∀ d, (![5 + k.val, 0] : Fin 2 → ℕ) d + Srows.size d ≤ Sbuf.size d := by revert k; decide

/-- What is stored in a buffer of the product's columns, and in its first rows. -/
abbrev accP (a : Srows.Idx → Elt Ideal .f32) : View.Piece (Elt Ideal) Sbuf .f32 := ⟨Rect.unit (s := Sbuf) ![8, 0] Srows.size inb_acc, a⟩
abbrev topP (z : Stop.Idx → Elt Ideal .f32) : View.Piece (Elt Ideal) Sbuf .f32 := ⟨Rect.unit (s := Sbuf) ![0, 0] Stop.size inb_top, z⟩

/-- The rows of a buffer that the convolution's weight `k` meets. -/
abbrev rows (k : Fin 4) : Rect Sbuf := Rect.unit (s := Sbuf) ![5 + k.val, 0] Srows.size (inb_rows k)

/-- Those rows of a buffer that holds the tile's rows `a` below the carried rows `z`. -/
def rowsV (a : Srows.Idx → Elt Ideal .f32) (z : Stop.Idx → Elt Ideal .f32) (k : Fin 4) : Srows.Idx → Elt Ideal .f32 :=
  View.ld (Val := Elt Ideal) (e' := .f32) (ext a z) (rows k)

/-- A tile's last eight rows. -/
def lastV (a : Srows.Idx → Elt Ideal .f32) : Stop.Idx → Elt Ideal .f32 := fun y =>
  a (ix2 (n0 := 1024) (n1 := 256) ⟨1016 + (y 0).val, by have : (y 0).val < 8 := (y 0).isLt; omega⟩ (y 1))

variable {sig : RefSig} (v : View sig .tc .vmem Sbuf .f32) (arg : Memref sig .tc .vmem Sbuf .f32) (harg : arg.IsWhole)
  (xs : Vec Ideal Sbuf .f32) (a : Srows.Idx → Elt Ideal .f32) (z : Stop.Idx → Elt Ideal .f32) (L : List (View.Piece (Elt Ideal) Sbuf .f32))

/-- What weight `k` meets as the body reads it: on a first tile over what the body has stored there, on a later one over what
    the buffer held, the last weight meeting the tile's own rows. -/
def ldA (k : Fin 4) : Srows.Idx → Elt Ideal .f32 := v.readCov [accP a, topP z] (rows k).toLoadRect
def ldB (k : Fin 4) : Srows.Idx → Elt Ideal .f32 :=
  if k = 3 then arg.view.readCov [accP a] (rows 3).toLoadRect
  else arg.view.readAt (Elt Ideal) (rows k).toLoadRect (arg.view.writes (Elt Ideal) (harg.unread xs) [accP a])
/-- The tile's last eight rows as the body reads them. -/
def ldLast : Stop.Idx → Elt Ideal .f32 := v.readCov (accP a :: L) (Rect.unit (s := Sbuf) ![1024, 0] Stop.size inb_last).toLoadRect

theorem ldA_eq : ldA v a z = rowsV a z := by
  funext k
  exact congrArg (fun b => View.ld (Val := Elt Ideal) (e' := .f32) b (rows k)) (read_ext v _ a z _ _ (read_top v _ _ _ _))

theorem ldB_eq : ldB arg harg xs a = rowsV a (top xs) := by
  funext k
  unfold ldB
  by_cases h : k = 3
  · rw [if_pos h, h]
    funext y
    obtain ⟨i, j, rfl⟩ : ∃ (i : Fin 1024) (j : Fin 256), y = ix2 i j := ⟨y 0, y 1, eq_ix2 y⟩
    refine (read_acc arg.view a [] _ i j).trans ?_
    unfold rowsV
    show _ = ext a (top xs) ((rows 3).emb (ix2 i j))
    unfold ext extE
    have e : ((rows 3).emb (ix2 i j) 0).val = 8 + 1 * i.val := rfl
    have l : ¬ ((rows 3).emb (ix2 i j) 0).val < 8 := by rw [e]; omega
    rw [dif_neg l]
    refine congrArg a (funext fun d => Fin.ext ?_)
    match d with
    | ⟨0, _⟩ => show i.val = ((rows 3).emb (ix2 i j) 0).val - 8; rw [e]; omega
    | ⟨1, _⟩ => show j.val = 0 + 1 * j.val; omega
  · rw [if_neg h]
    exact congrArg (fun b => View.ld (Val := Elt Ideal) (e' := .f32) b (rows k))
      (read_ext arg.view _ a _ _ _ (by rw [View.writes_nil, Memref.IsWhole.read_unread]))

theorem ldLast_eq : ldLast v a L = lastV a := by
  funext y
  obtain ⟨i, j, rfl⟩ : ∃ (i : Fin 8) (j : Fin 256), y = ix2 i j := ⟨y 0, y 1, eq_ix2 y⟩
  exact read_last v a L _ _ i j

/-- The first rows of a buffer whose last rows have been stored there. -/
theorem top_last {f : v.ty.Contents (Elt Ideal)} {T : Stop.Idx → Elt Ideal .f32} {M N : List (View.Piece (Elt Ideal) Sbuf .f32)} {v' : View sig .tc .vmem Sbuf .f32}
    (h : M = topP T :: N) (hT : T = ldLast v' a L) : top (v.read (Elt Ideal) (v.writes (Elt Ideal) f M)) = lastV a := by
  rw [h, ← ldLast_eq v' a L, ← hT]
  exact read_top v f _ N _

/-- The rows that weight `k` meets. -/
theorem rowsV_apply (k : Fin 4) (i : Fin 1024) (j : Fin 256) :
    rowsV a z k (ix2 i j) = extE (fun r => z (ix2 r j)) (fun r => a (ix2 r j)) ⟨5 + k.val + i.val, by omega⟩ := by
  have e0 : (rows k).emb (ix2 i j) 0 = (⟨5 + k.val + i.val, by omega⟩ : Fin 1032) := Fin.ext (by show 5 + k.val + 1 * i.val = 5 + k.val + i.val; omega)
  have e1 : (rows k).emb (ix2 i j) 1 = j := Fin.ext (by show 0 + 1 * j.val = j.val; omega)
  show ext a z ((rows k).emb (ix2 i j)) = _
  unfold ext
  rw [e0, e1]

end Loads

end Cert.Conv

end
-- ==== Proof.GdnVPoint.lean ====
module

public import proofs.«01_k».proof.Proof.Gen.GdnVIdeal.Value
public import proofs.«01_k».proof.Proof.Gen.GdnVRefIdeal.Run
public import proofs.«01_k».proof.Proof.Conv
public import proofs.«01_k».proof.Defs
public import Idealize.ShloMosaic.Adequacy
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.GdnVValue

open Idealize.ShloMosaic Idealize.ShloMosaic.TcCoe Idealize.ShloMosaic.Tactic Cert.GdnVIdeal Cert.GdnVIdeal.Gen Cert.GdnVIdeal.Value Idealize.SL.Sem

section Point

theorem inb_w (s : Fin 4) : ∀ d, (![0, 256 * s.val] : Fin 2 → ℕ) d + S4096x256.size d ≤ S4096x1024.size d := by revert s; decide
theorem inb_cw (s : Fin 4) (k : Fin 4) : ∀ d, (![k.val, 256 * s.val] : Fin 2 → ℕ) d + S1x256.size d ≤ S4x1024.size d := by revert s k; decide
theorem inb_o (s : Fin 4) : ∀ d, (![0, 256 * s.val] : Fin 2 → ℕ) d + S1024x256.size d ≤ S1024x1024.size d := by revert s; decide

/-- The product's columns of part `s`. -/
def accV (x0 : Vec Ideal S1024x4096 .bf16) (x1 : Vec Ideal S4096x1024 .bf16) (s : Fin 4) : FVec Ideal S1024x256 .f32 :=
  k0_pay6 (View.ld x0 (Rect.unit (s := S1024x4096) ![0, 0] S1024x4096.size inb_S1024x4096_S1024x4096_0_0))
    (View.ld x1 (Rect.unit (s := S4096x1024) ![0, 256 * s.val] S4096x256.size (inb_w s)))

/-- The convolution's weight `k` on the columns of part `s`. -/
def cwV (x2 : Vec Ideal S4x1024 .f32) (s k : Fin 4) : FVec Ideal S1x256 .f32 :=
  View.ld x2 (Rect.unit (s := S4x1024) ![k.val, 256 * s.val] S1x256.size (inb_cw s k))

/-- The columns of part `s`, convolved, under silu. -/
def actV (x2 : Vec Ideal S4x1024 .f32) (s : Fin 4) (b : Fin 4 → FVec Ideal S1024x256 .f32) : FVec Ideal S1024x256 .f32 :=
  k0_pay10 (F := Ideal) (k0_pay7 (cwV x2 s 0) (b 0) (cwV x2 s 1) (b 1) (cwV x2 s 2) (b 2)) (b 3) (k0_pay8 (cwV x2 s 3))

/-- What is stored for part `s`. -/
def outP (x2 : Vec Ideal S4x1024 .f32) (s : Fin 4) (b : Fin 4 → FVec Ideal S1024x256 .f32) : View.Piece (Elt Ideal) S1024x1024 .f32 :=
  ⟨Rect.unit (s := S1024x1024) ![0, 256 * s.val] S1024x256.size (inb_o s), actV x2 s b⟩

/-- What a buffer's carried rows are before the first tile. -/
def zeroT : FVec Ideal S8x256 .f32 := k0_pay2

theorem zeroT_apply (i : Fin 8) (j : Fin 256) : zeroT (ix2 i j) = 0 := by
  pointwise [zeroT, k0_pay2]

theorem tail_eq (v : FVec Ideal S8x256 .f32) : k0_pay9 v = v := by
  funext y
  idx_vars y
  pointwise [k0_pay9]

/-- What a buffer is given: the product's columns, and their last rows over the carried ones. -/
def tailL {sig : RefSig} (v : View sig .tc .vmem S1032x256 .f32) (a : FVec Ideal S1024x256 .f32) (N : List (View.Piece (Elt Ideal) S1032x256 .f32)) : List (View.Piece (Elt Ideal) S1032x256 .f32) :=
  Cert.Conv.topP (k0_pay9 (F := Ideal) (Cert.Conv.ldLast v a (N))) :: Cert.Conv.accP a :: N

theorem top_tail {sig : RefSig} (v v' : View sig .tc .vmem S1032x256 .f32) {a : FVec Ideal S1024x256 .f32} {M N : List (View.Piece (Elt Ideal) S1032x256 .f32)}
    (f : v.ty.Contents (Elt Ideal)) (h : M = tailL v' a N) : Cert.Conv.top (v.read (Elt Ideal) (v.writes (Elt Ideal) f M)) = Cert.Conv.lastV a := by
  unfold tailL at h
  rw [tail_eq] at h
  exact Cert.Conv.top_last v a N h rfl

/-- The four buffers among what a point leaves. -/
def scr (p : Vec Ideal S1024x1024 .f32 × Vec Ideal S1032x256 .f32 × Vec Ideal S1032x256 .f32 × Vec Ideal S1032x256 .f32 × Vec Ideal S1032x256 .f32) (s : Fin 4) : Vec Ideal S1032x256 .f32 :=
  match s with
  | 0 => p.2.1
  | 1 => p.2.2.1
  | 2 => p.2.2.2.1
  | 3 => p.2.2.2.2

variable (c : Dev nD) (i : grid0.Coords) (arg2 : Memref sig .tc .vmem S1024x4096 .bf16) (harg2 : arg2.IsWhole) (arg3 : Memref sig .tc .vmem S4096x1024 .bf16) (harg3 : arg3.IsWhole)
  (arg4 : Memref sig .tc .vmem S4x1024 .f32) (harg4 : arg4.IsWhole) (arg5 : Memref sig .tc .vmem S1024x1024 .f32) (harg5 : arg5.IsWhole)
  (arg6 : Memref sig .tc .vmem S1032x256 .f32) (harg6 : arg6.IsWhole) (arg7 : Memref sig .tc .vmem S1032x256 .f32) (harg7 : arg7.IsWhole)
  (arg8 : Memref sig .tc .vmem S1032x256 .f32) (harg8 : arg8.IsWhole) (arg9 : Memref sig .tc .vmem S1032x256 .f32) (harg9 : arg9.IsWhole)
  (x0 : Vec Ideal S1024x4096 .bf16) (x1 : Vec Ideal S4096x1024 .bf16) (x2 : Vec Ideal S4x1024 .f32) (xs0 xs1 xs2 xs3 : Vec Ideal S1032x256 .f32)

/-- What is stored on a first tile. -/
theorem outPieces_A (hc0) : (kernelRun0_A (F := Ideal) c i arg2 harg2 arg3 harg3 arg4 harg4 arg5 harg5 arg6 harg6 arg7 harg7 arg8 harg8 arg9 harg9 hc0 x0 x1 x2).1
    = [outP x2 3 (Cert.Conv.rowsV (accV x0 x1 3) zeroT), outP x2 2 (Cert.Conv.rowsV (accV x0 x1 2) zeroT), outP x2 1 (Cert.Conv.rowsV (accV x0 x1 1) zeroT), outP x2 0 (Cert.Conv.rowsV (accV x0 x1 0) zeroT)] := by
  have h : (kernelRun0_A (F := Ideal) c i arg2 harg2 arg3 harg3 arg4 harg4 arg5 harg5 arg6 harg6 arg7 harg7 arg8 harg8 arg9 harg9 hc0 x0 x1 x2).1
      = [outP (arg4.view.read (Elt Ideal) (harg4.unread x2)) 3 (Cert.Conv.ldA arg9.view (accV (arg2.view.read (Elt Ideal) (harg2.unread x0)) (arg3.view.read (Elt Ideal) (harg3.unread x1)) 3) zeroT),
        outP (arg4.view.read (Elt Ideal) (harg4.unread x2)) 2 (Cert.Conv.ldA arg8.view (accV (arg2.view.read (Elt Ideal) (harg2.unread x0)) (arg3.view.read (Elt Ideal) (harg3.unread x1)) 2) zeroT),
        outP (arg4.view.read (Elt Ideal) (harg4.unread x2)) 1 (Cert.Conv.ldA arg7.view (accV (arg2.view.read (Elt Ideal) (harg2.unread x0)) (arg3.view.read (Elt Ideal) (harg3.unread x1)) 1) zeroT),
        outP (arg4.view.read (Elt Ideal) (harg4.unread x2)) 0 (Cert.Conv.ldA arg6.view (accV (arg2.view.read (Elt Ideal) (harg2.unread x0)) (arg3.view.read (Elt Ideal) (harg3.unread x1)) 0) zeroT)] := by
    sl_kernel_rfl
  rw [h]
  simp only [Memref.IsWhole.read_unread, Cert.Conv.ldA_eq]

/-- What is stored past a first tile. -/
theorem outPieces_B (hc0) : (kernelRun0_B (F := Ideal) c i arg2 harg2 arg3 harg3 arg4 harg4 arg5 harg5 arg6 harg6 arg7 harg7 arg8 harg8 arg9 harg9 hc0 x0 x1 x2 xs0 xs1 xs2 xs3).1
    = [outP x2 3 (Cert.Conv.rowsV (accV x0 x1 3) (Cert.Conv.top xs3)), outP x2 2 (Cert.Conv.rowsV (accV x0 x1 2) (Cert.Conv.top xs2)), outP x2 1 (Cert.Conv.rowsV (accV x0 x1 1) (Cert.Conv.top xs1)), outP x2 0 (Cert.Conv.rowsV (accV x0 x1 0) (Cert.Conv.top xs0))] := by
  have h : (kernelRun0_B (F := Ideal) c i arg2 harg2 arg3 harg3 arg4 harg4 arg5 harg5 arg6 harg6 arg7 harg7 arg8 harg8 arg9 harg9 hc0 x0 x1 x2 xs0 xs1 xs2 xs3).1
      = [outP (arg4.view.read (Elt Ideal) (harg4.unread x2)) 3 (Cert.Conv.ldB arg9 harg9 xs3 (accV (arg2.view.read (Elt Ideal) (harg2.unread x0)) (arg3.view.read (Elt Ideal) (harg3.unread x1)) 3)),
        outP (arg4.view.read (Elt Ideal) (harg4.unread x2)) 2 (Cert.Conv.ldB arg8 harg8 xs2 (accV (arg2.view.read (Elt Ideal) (harg2.unread x0)) (arg3.view.read (Elt Ideal) (harg3.unread x1)) 2)),
        outP (arg4.view.read (Elt Ideal) (harg4.unread x2)) 1 (Cert.Conv.ldB arg7 harg7 xs1 (accV (arg2.view.read (Elt Ideal) (harg2.unread x0)) (arg3.view.read (Elt Ideal) (harg3.unread x1)) 1)),
        outP (arg4.view.read (Elt Ideal) (harg4.unread x2)) 0 (Cert.Conv.ldB arg6 harg6 xs0 (accV (arg2.view.read (Elt Ideal) (harg2.unread x0)) (arg3.view.read (Elt Ideal) (harg3.unread x1)) 0))] := by
    sl_kernel_rfl
  rw [h]
  simp only [Memref.IsWhole.read_unread, Cert.Conv.ldB_eq]

/-- What the buffers are given on a first tile. -/
theorem tails_A (hc0) : ((kernelRun0_A (F := Ideal) c i arg2 harg2 arg3 harg3 arg4 harg4 arg5 harg5 arg6 harg6 arg7 harg7 arg8 harg8 arg9 harg9 hc0 x0 x1 x2).2.1, (kernelRun0_A (F := Ideal) c i arg2 harg2 arg3 harg3 arg4 harg4 arg5 harg5 arg6 harg6 arg7 harg7 arg8 harg8 arg9 harg9 hc0 x0 x1 x2).2.2.1, (kernelRun0_A (F := Ideal) c i arg2 harg2 arg3 harg3 arg4 harg4 arg5 harg5 arg6 harg6 arg7 harg7 arg8 harg8 arg9 harg9 hc0 x0 x1 x2).2.2.2.1, (kernelRun0_A (F := Ideal) c i arg2 harg2 arg3 harg3 arg4 harg4 arg5 harg5 arg6 harg6 arg7 harg7 arg8 harg8 arg9 harg9 hc0 x0 x1 x2).2.2.2.2.1)
    = (tailL arg6.view (accV (arg2.view.read (Elt Ideal) (harg2.unread x0)) (arg3.view.read (Elt Ideal) (harg3.unread x1)) 0) [Cert.Conv.topP zeroT], tailL arg7.view (accV (arg2.view.read (Elt Ideal) (harg2.unread x0)) (arg3.view.read (Elt Ideal) (harg3.unread x1)) 1) [Cert.Conv.topP zeroT], tailL arg8.view (accV (arg2.view.read (Elt Ideal) (harg2.unread x0)) (arg3.view.read (Elt Ideal) (harg3.unread x1)) 2) [Cert.Conv.topP zeroT], tailL arg9.view (accV (arg2.view.read (Elt Ideal) (harg2.unread x0)) (arg3.view.read (Elt Ideal) (harg3.unread x1)) 3) [Cert.Conv.topP zeroT]) := by
  sl_kernel_rfl

set_option maxHeartbeats 2000000 in
/-- The carried rows after a first tile. -/
theorem top_A (hc0) (s : Fin 4) : Cert.Conv.top (scr (out0_A_3 c i arg2 harg2 arg3 harg3 arg4 harg4 arg5 harg5 arg6 harg6 arg7 harg7 arg8 harg8 arg9 harg9 hc0 x0 x1 x2, sout0_A_0 c i arg2 harg2 arg3 harg3 arg4 harg4 arg5 harg5 arg6 harg6 arg7 harg7 arg8 harg8 arg9 harg9 hc0 x0 x1 x2, sout0_A_1 c i arg2 harg2 arg3 harg3 arg4 harg4 arg5 harg5 arg6 harg6 arg7 harg7 arg8 harg8 arg9 harg9 hc0 x0 x1 x2, sout0_A_2 c i arg2 harg2 arg3 harg3 arg4 harg4 arg5 harg5 arg6 harg6 arg7 harg7 arg8 harg8 arg9 harg9 hc0 x0 x1 x2, sout0_A_3 c i arg2 harg2 arg3 harg3 arg4 harg4 arg5 harg5 arg6 harg6 arg7 harg7 arg8 harg8 arg9 harg9 hc0 x0 x1 x2) s)
    = Cert.Conv.lastV (accV x0 x1 s) := by
  have h := tails_A c i arg2 harg2 arg3 harg3 arg4 harg4 arg5 harg5 arg6 harg6 arg7 harg7 arg8 harg8 arg9 harg9 x0 x1 x2 hc0
  simp only [Memref.IsWhole.read_unread] at h
  match s with
  | 0 => exact top_tail VS0_0 arg6.view VS0_0.junk (congrArg (fun p => p.1) h)
  | 1 => exact top_tail VS0_1 arg7.view VS0_1.junk (congrArg (fun p => p.2.1) h)
  | 2 => exact top_tail VS0_2 arg8.view VS0_2.junk (congrArg (fun p => p.2.2.1) h)
  | 3 => exact top_tail VS0_3 arg9.view VS0_3.junk (congrArg (fun p => p.2.2.2) h)

/-- What the buffers are given on a later tile. -/
theorem tails_B (hc0) : ((kernelRun0_B (F := Ideal) c i arg2 harg2 arg3 harg3 arg4 harg4 arg5 harg5 arg6 harg6 arg7 harg7 arg8 harg8 arg9 harg9 hc0 x0 x1 x2 xs0 xs1 xs2 xs3).2.1, (kernelRun0_B (F := Ideal) c i arg2 harg2 arg3 harg3 arg4 harg4 arg5 harg5 arg6 harg6 arg7 harg7 arg8 harg8 arg9 harg9 hc0 x0 x1 x2 xs0 xs1 xs2 xs3).2.2.1, (kernelRun0_B (F := Ideal) c i arg2 harg2 arg3 harg3 arg4 harg4 arg5 harg5 arg6 harg6 arg7 harg7 arg8 harg8 arg9 harg9 hc0 x0 x1 x2 xs0 xs1 xs2 xs3).2.2.2.1, (kernelRun0_B (F := Ideal) c i arg2 harg2 arg3 harg3 arg4 harg4 arg5 harg5 arg6 harg6 arg7 harg7 arg8 harg8 arg9 harg9 hc0 x0 x1 x2 xs0 xs1 xs2 xs3).2.2.2.2.1)
    = (tailL arg6.view (accV (arg2.view.read (Elt Ideal) (harg2.unread x0)) (arg3.view.read (Elt Ideal) (harg3.unread x1)) 0) [], tailL arg7.view (accV (arg2.view.read (Elt Ideal) (harg2.unread x0)) (arg3.view.read (Elt Ideal) (harg3.unread x1)) 1) [], tailL arg8.view (accV (arg2.view.read (Elt Ideal) (harg2.unread x0)) (arg3.view.read (Elt Ideal) (harg3.unread x1)) 2) [], tailL arg9.view (accV (arg2.view.read (Elt Ideal) (harg2.unread x0)) (arg3.view.read (Elt Ideal) (harg3.unread x1)) 3) []) := by
  sl_kernel_rfl

set_option maxHeartbeats 2000000 in
/-- The carried rows after a later tile. -/
theorem top_B (hc0) (s : Fin 4) : Cert.Conv.top (scr (out0_B_3 c i arg2 harg2 arg3 harg3 arg4 harg4 arg5 harg5 arg6 harg6 arg7 harg7 arg8 harg8 arg9 harg9 hc0 x0 x1 x2 xs0 xs1 xs2 xs3, sout0_B_0 c i arg2 harg2 arg3 harg3 arg4 harg4 arg5 harg5 arg6 harg6 arg7 harg7 arg8 harg8 arg9 harg9 hc0 x0 x1 x2 xs0 xs1 xs2 xs3, sout0_B_1 c i arg2 harg2 arg3 harg3 arg4 harg4 arg5 harg5 arg6 harg6 arg7 harg7 arg8 harg8 arg9 harg9 hc0 x0 x1 x2 xs0 xs1 xs2 xs3, sout0_B_2 c i arg2 harg2 arg3 harg3 arg4 harg4 arg5 harg5 arg6 harg6 arg7 harg7 arg8 harg8 arg9 harg9 hc0 x0 x1 x2 xs0 xs1 xs2 xs3, sout0_B_3 c i arg2 harg2 arg3 harg3 arg4 harg4 arg5 harg5 arg6 harg6 arg7 harg7 arg8 harg8 arg9 harg9 hc0 x0 x1 x2 xs0 xs1 xs2 xs3) s)
    = Cert.Conv.lastV (accV x0 x1 s) := by
  have h := tails_B c i arg2 harg2 arg3 harg3 arg4 harg4 arg5 harg5 arg6 harg6 arg7 harg7 arg8 harg8 arg9 harg9 x0 x1 x2 xs0 xs1 xs2 xs3 hc0
  simp only [Memref.IsWhole.read_unread] at h
  match s with
  | 0 => exact top_tail VS0_0 arg6.view VS0_0.junk (congrArg (fun p => p.1) h)
  | 1 => exact top_tail VS0_1 arg7.view VS0_1.junk (congrArg (fun p => p.2.1) h)
  | 2 => exact top_tail VS0_2 arg8.view VS0_2.junk (congrArg (fun p => p.2.2.1) h)
  | 3 => exact top_tail VS0_3 arg9.view VS0_3.junk (congrArg (fun p => p.2.2.2) h)

/-- What a point leaves of the output. -/
def outV (z : Fin 4 → FVec Ideal S8x256 .f32) : FVec Ideal S1024x1024 .f32 := fun y =>
  Cert.Gdn.siluE (Cert.Conv.convE (fun k => x2 (ix2 k (y 1))) fun k =>
    Cert.Conv.extE (fun r => z ⟨(y 1).val / 256, by have : (y 1).val < 1024 := (y 1).isLt; omega⟩ (ix2 r ⟨(y 1).val % 256, by omega⟩))
      (fun r => Cert.Gdn.prodE x0 x1 r (y 1)) ⟨5 + k.val + (y 0).val, by have : (y 0).val < 1024 := (y 0).isLt; omega⟩)

theorem actV_apply (s : Fin 4) (b : Fin 4 → FVec Ideal S1024x256 .f32) (i : Fin 1024) (j : Fin 256) :
    actV x2 s b (ix2 i j) = Cert.Gdn.siluE (Cert.Conv.convE (fun k => x2 (ix2 k ⟨256 * s.val + j.val, by omega⟩)) fun k => b k (ix2 i j)) := by
  have hc : ∀ k, cwV x2 s k (ix2 0 j) = x2 (ix2 k ⟨256 * s.val + j.val, by omega⟩) := fun k => by
    refine congrArg x2 (funext fun d => Fin.ext ?_)
    match d with
    | ⟨0, _⟩ => show k.val + 1 * 0 = k.val; omega
    | ⟨1, _⟩ => show 256 * s.val + 1 * j.val = 256 * s.val + j.val; omega
  simp only [← hc]
  pointwise [actV, k0_pay10, k0_pay7, k0_pay8, Cert.Gdn.siluE, Cert.Conv.convE]
  rw [zero_sub]

theorem accV_apply (s : Fin 4) (i : Fin 1024) (j : Fin 256) : accV x0 x1 s (ix2 i j) = Cert.Gdn.prodE x0 x1 i ⟨256 * s.val + j.val, by omega⟩ := by
  refine Eq.trans (b := Cert.Gdn.prodE (View.ld x0 (Rect.unit (s := S1024x4096) ![0, 0] S1024x4096.size inb_S1024x4096_S1024x4096_0_0))
    (View.ld x1 (Rect.unit (s := S4096x1024) ![0, 256 * s.val] S4096x256.size (inb_w s))) i j) ?_ (Cert.Gdn.prodE_block (fun k => ?_) fun k => ?_)
  · pointwise [accV, k0_pay6, Cert.Gdn.prodE]
  · refine congrArg x0 (funext fun d => Fin.ext ?_)
    match d with
    | ⟨0, _⟩ => show 0 + 1 * i.val = i.val; omega
    | ⟨1, _⟩ => show 0 + 1 * k.val = k.val; omega
  · refine congrArg x1 (funext fun d => Fin.ext ?_)
    match d with
    | ⟨0, _⟩ => show 0 + 1 * k.val = k.val; omega
    | ⟨1, _⟩ => show 256 * s.val + 1 * j.val = 256 * s.val + j.val; omega

theorem outP_apply (z : Fin 4 → FVec Ideal S8x256 .f32) (s : Fin 4) (y : S1024x256.Idx) :
    actV x2 s (Cert.Conv.rowsV (accV x0 x1 s) (z s)) y = outV x0 x1 x2 z ((Rect.unit (s := S1024x1024) ![0, 256 * s.val] S1024x256.size (inb_o s)).emb y) := by
  obtain ⟨i, j, rfl⟩ : ∃ (i : Fin 1024) (j : Fin 256), y = ix2 i j := ⟨y 0, y 1, eq_ix2 y⟩
  have e : (Rect.unit (s := S1024x1024) ![0, 256 * s.val] S1024x256.size (inb_o s)).emb (ix2 i j) = ix2 (n0 := 1024) (n1 := 1024) i ⟨256 * s.val + j.val, by omega⟩ := by
    funext d
    refine Fin.ext ?_
    match d with
    | ⟨0, _⟩ => show 0 + 1 * i.val = i.val; omega
    | ⟨1, _⟩ => show 256 * s.val + 1 * j.val = 256 * s.val + j.val; omega
  have es : (⟨(256 * s.val + j.val) / 256, by omega⟩ : Fin 4) = s := Fin.ext (by simp only; omega)
  have ej : (⟨(256 * s.val + j.val) % 256, by omega⟩ : Fin 256) = j := Fin.ext (by simp only; omega)
  rw [e, actV_apply]
  show _ = Cert.Gdn.siluE (Cert.Conv.convE (fun k => x2 (ix2 k ⟨256 * s.val + j.val, _⟩)) fun k =>
    Cert.Conv.extE (fun r => z ⟨(256 * s.val + j.val) / 256, _⟩ (ix2 r ⟨(256 * s.val + j.val) % 256, _⟩))
      (fun r => Cert.Gdn.prodE x0 x1 r ⟨256 * s.val + j.val, _⟩) ⟨5 + k.val + i.val, _⟩)
  rw [es, ej]
  simp only [Cert.Conv.rowsV_apply, accV_apply]

/-- A list of the four parts' pieces is a list of blocks of what the point leaves. -/
theorem canon_out (z : Fin 4 → FVec Ideal S8x256 .f32) {M : List (View.Piece (Elt Ideal) S1024x1024 .f32)}
    (h : M = [3, 2, 1, 0].map fun s => outP x2 s (Cert.Conv.rowsV (accV x0 x1 s) (z s))) (y : S1024x1024.Idx) (hc : ∃ p ∈ M, y ∈ p.1.set) :
    View.canon M y = outV x0 x1 x2 z y := by
  refine View.canon_apply_of_pieces _ _ (fun p hp w => ?_) y hc
  rw [h] at hp
  obtain ⟨s, -, rfl⟩ := List.mem_map.mp hp
  exact outP_apply x0 x1 x2 z s w

theorem out_A (hc0) : out0_A_3 (F := Ideal) c i arg2 harg2 arg3 harg3 arg4 harg4 arg5 harg5 arg6 harg6 arg7 harg7 arg8 harg8 arg9 harg9 hc0 x0 x1 x2
    = outV x0 x1 x2 fun _ => zeroT := by
  funext y
  have hc := cover0_A_3 (F := Ideal) c i arg2 harg2 arg3 harg3 arg4 harg4 arg5 harg5 arg6 harg6 arg7 harg7 arg8 harg8 arg9 harg9 hc0 x0 x1 x2 y
  unfold out0_A_3
  rw [View.read_writes_apply_eq_canon _ _ y _ hc]
  exact canon_out x0 x1 x2 (fun _ => zeroT) (outPieces_A c i arg2 harg2 arg3 harg3 arg4 harg4 arg5 harg5 arg6 harg6 arg7 harg7 arg8 harg8 arg9 harg9 x0 x1 x2 hc0) y hc

theorem out_B (x3 : Vec Ideal S1024x1024 .f32) (hc0) : out0_B_3 (F := Ideal) c i arg2 harg2 arg3 harg3 arg4 harg4 arg5 harg5 arg6 harg6 arg7 harg7 arg8 harg8 arg9 harg9 hc0 x0 x1 x2 xs0 xs1 xs2 xs3
    = outV x0 x1 x2 fun s => Cert.Conv.top (scr (x3, xs0, xs1, xs2, xs3) s) := by
  funext y
  have hc := cover0_B_3 (F := Ideal) c i arg2 harg2 arg3 harg3 arg4 harg4 arg5 harg5 arg6 harg6 arg7 harg7 arg8 harg8 arg9 harg9 hc0 x0 x1 x2 xs0 xs1 xs2 xs3 y
  unfold out0_B_3
  rw [View.read_writes_apply_eq_canon _ _ y _ hc]
  exact canon_out x0 x1 x2 (fun s => Cert.Conv.top (scr (x3, xs0, xs1, xs2, xs3) s)) (outPieces_B c i arg2 harg2 arg3 harg3 arg4 harg4 arg5 harg5 arg6 harg6 arg7 harg7 arg8 harg8 arg9 harg9 x0 x1 x2 xs0 xs1 xs2 xs3 hc0) y hc

end Point

end Cert.GdnVValue

end
-- ==== Proof.ConvRef.lean ====
module

public import proofs.«01_k».proof.Proof.Gen.GdnVRefIdeal.Run
public import proofs.«01_k».proof.Proof.Conv
public import Idealize.ShloMosaic.Lib.Pointwise
public import Idealize.ShloMosaic.Lib.Pipeline.ValueKit

@[expose] public section

set_option maxRecDepth 16384

noncomputable section

namespace Cert.Conv

open Cert.Gdn Idealize.ShloMosaic Idealize.ShloMosaic.TcCoe Idealize.ShloMosaic.Tactic Cert.GdnVRefIdeal Cert.GdnVRefIdeal.Gen

/-- The reference's columns under three rows of zeros. -/
def padT (p : FVec Ideal S16384x16384 .f32) : FVec Ideal S16387x16384 .f32 :=
  concatenate S16387x16384 0 [⟨S3x16384, (broadcastInDim S3x16384 ![] bcast_S_S3x16384 (constant (F := Ideal) S_ .f32 0x00000000#32))⟩, ⟨S16384x16384, p⟩] concatenates_S3x16384_S16384x16384_S16387x16384_d0

theorem padT_apply (p : FVec Ideal S16384x16384 .f32) (t : Fin 16384) (j : Fin 16384) (k : Fin 4) (n : Fin 16387) (hn : n.val = k.val + t.val) :
    padT p (ix2 n j) = backE (fun r => p (ix2 r j)) t (3 - k.val) := by
  unfold backE
  pointwise [padT]
  by_cases l : n.val < 3
  · rw [dif_pos l, if_neg (by omega)]
  · rw [dif_neg l]
    refine Eq.trans ?_ (if_pos (by omega)).symm
    exact congrArg (fun r => p (ix2 r j)) (Fin.ext (by simp only; omega))

/-- One weight, on every row. -/
def rowT (a : FVec Ideal S1x16384 .f32) : FVec Ideal S16384x16384 .f32 :=
  broadcastInDim S16384x16384 ![0, 1] bcast_S1x16384_S16384x16384_0_1 (broadcastInDim S1x16384 ![1] bcast_S16384_S1x16384_1 (shapeCast _ a shapeCasts_S1x16384_S16384))

/-- The reference's convolution. -/
def convT (p : FVec Ideal S16384x16384 .f32) (cw : FVec Ideal S4x16384 .f32) : FVec Ideal S16384x16384 .f32 :=
  addf (addf (addf (mulf (rowT (extractStridedSlice S1x16384 ![0, 0] cw slices_S4x16384_S1x16384_0_0)) (extractStridedSlice S16384x16384 ![0, 0] (padT p) slices_S16387x16384_S16384x16384_0_0))
    (mulf (rowT (extractStridedSlice S1x16384 ![1, 0] cw slices_S4x16384_S1x16384_1_0)) (extractStridedSlice S16384x16384 ![1, 0] (padT p) slices_S16387x16384_S16384x16384_1_0)))
    (mulf (rowT (extractStridedSlice S1x16384 ![2, 0] cw slices_S4x16384_S1x16384_2_0)) (extractStridedSlice S16384x16384 ![2, 0] (padT p) slices_S16387x16384_S16384x16384_2_0)))
    (mulf (rowT (extractStridedSlice S1x16384 ![3, 0] cw slices_S4x16384_S1x16384_3_0)) (extractStridedSlice S16384x16384 ![3, 0] (padT p) slices_S16387x16384_S16384x16384_3_0))

theorem convT_apply (p : FVec Ideal S16384x16384 .f32) (cw : FVec Ideal S4x16384 .f32) (t : Fin 16384) (j : Fin 16384) :
    convT p cw (ix2 t j) = convE (fun k => cw (ix2 k j)) fun k => backE (fun r => p (ix2 r j)) t (3 - k.val) := by
  have h : ∀ k : Fin 4, backE (fun r => p (ix2 r j)) t (3 - k.val) = padT p (ix2 ⟨k.val + t.val, by omega⟩ j) := fun k => (padT_apply p t j k _ rfl).symm
  simp only [h]
  pointwise [convT, rowT, convE]

/-- The reference's convolved columns under silu. -/
def qkvT (x : FVec Ideal S16384x4096 .bf16) (w : FVec Ideal S4096x24704 .f32) (cw : FVec Ideal S4x16384 .f32) : FVec Ideal S16384x16384 .f32 :=
  mulf (convT (extractStridedSlice S16384x16384 ![0, 0] (Host.dotGeneral (F := Ideal) dot_S16384x4096_S4096x24704_S16384x24704_1_0_0_1_n_n none (extf (F := Ideal) .f32 x bitsLt_bf16_f32) w) slices_S16384x24704_S16384x16384_0_0) cw)
    (Host.divf (broadcastInDim S16384x16384 ![] bcast_S_S16384x16384 (constant (F := Ideal) S_ .f32 0x3F800000#32))
      (addf (broadcastInDim S16384x16384 ![] bcast_S_S16384x16384 (constant (F := Ideal) S_ .f32 0x3F800000#32))
        (Host.exp (Host.negf (convT (extractStridedSlice S16384x16384 ![0, 0] (Host.dotGeneral (F := Ideal) dot_S16384x4096_S4096x24704_S16384x24704_1_0_0_1_n_n none (extf (F := Ideal) .f32 x bitsLt_bf16_f32) w) slices_S16384x24704_S16384x16384_0_0) cw)))))

theorem qkvT_apply (x : FVec Ideal S16384x4096 .bf16) (w : FVec Ideal S4096x24704 .f32) (cw : FVec Ideal S4x16384 .f32) (t : Fin 16384) (j : Fin 16384) :
    qkvT x w cw (ix2 t j) = actE (fun k => cw (ix2 k j)) (fun r => prodE x w r ⟨j.val, by omega⟩) t := by
  unfold actE qkvT
  generalize hp : extractStridedSlice S16384x16384 ![0, 0] (Host.dotGeneral (F := Ideal) dot_S16384x4096_S4096x24704_S16384x24704_1_0_0_1_n_n none (extf (F := Ideal) .f32 x bitsLt_bf16_f32) w) slices_S16384x24704_S16384x16384_0_0 = p
  have hq : (fun r => prodE x w r ⟨j.val, by omega⟩) = fun r : Fin 16384 => p (ix2 r j) := by
    subst hp
    funext r
    pointwise [prodE]
  rw [hq, ← convT_apply]
  pointwise [siluE]

end Cert.Conv

end
-- ==== Proof.GdnV.lean ====
module

public import proofs.«01_k».proof.Proof.GdnVPoint
public import proofs.«01_k».proof.Proof.ConvRef
public import proofs.«01_k».proof.Defs
public import Idealize.ShloMosaic.Adequacy
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.GdnVValue

open Idealize.ShloMosaic Idealize.ShloMosaic.TcCoe Idealize.ShloMosaic.Tactic Cert.GdnVIdeal Cert.GdnVIdeal.Gen Cert.GdnVIdeal.Value Idealize.SL.Sem

variable (m : (ℓ : Loc nD τ sig) → Buf (Elt Ideal) ℓ) (c : Dev nD)

/-- The three arguments, and the array that the kernel leaves: the product with the values' columns, convolved, under silu. -/
def x : FVec Ideal S16384x4096 .bf16 := m ((c.tc : Thread nD τ).loc main_arg0)
def w : FVec Ideal S4096x24704 .f32 := m ((c.tc : Thread nD τ).loc main_arg1)
def cw : FVec Ideal S4x16384 .f32 := m ((c.tc : Thread nD τ).loc main_arg2)
def G : FVec Ideal S16384x8192 .f32 := fun i =>
  Cert.Conv.actE (fun k => cw m c (ix2 k ⟨8192 + (i 1).val, by have : (i 1).val < 8192 := (i 1).isLt; omega⟩))
    (fun r => Cert.Gdn.prodE (x m c) (w m c) r ⟨8192 + (i 1).val, by have : (i 1).val < 8192 := (i 1).isLt; omega⟩) (i 0)

theorem idx : ∀ t : Fin cfg0.N, win0_0.index t = ![t.val % 16, 0] ∧ win0_1.index t = ![0, t.val / 16] ∧ win0_2.index t = ![0, t.val / 16] ∧ win0_3.index t = ![t.val % 16, t.val / 16] :=
  (by decide +kernel : ∀ t : Fin grid0.N, _)

theorem hN (t : Fin cfg0.N) : t.val < 128 := lt_of_lt_of_eq t.isLt N_0

theorem x_in (t : Fin cfg0.N) (i : Fin 1024) (k : Fin 4096) : iblk m c 0 t (ix2 i k) = x m c (ix2 ⟨t.val % 16 * 1024 + i.val, by omega⟩ k) := by
  have := hN t
  unfold x
  blk_ext [iblk, V, idx t]
theorem w_in (t : Fin cfg0.N) (k : Fin 4096) (j : Fin 1024) :
    iblk m c 1 t (ix2 k j) = w m c (ix2 k ⟨8192 + (t.val / 16 * 1024 + j.val), by have := hN t; omega⟩) := by
  have := hN t
  unfold w
  refine Eq.trans (?_ : _ = (V m c main_v1 : FVec Ideal S4096x8192 .bf16) (ix2 k ⟨t.val / 16 * 1024 + j.val, by omega⟩)) ?_
  · blk_ext [iblk, idx t]
  · unfold V
    entry_read
    pointwise
theorem cw_in (t : Fin cfg0.N) (k : Fin 4) (j : Fin 1024) :
    iblk m c 2 t (ix2 k j) = cw m c (ix2 k ⟨8192 + (t.val / 16 * 1024 + j.val), by have := hN t; omega⟩) := by
  have := hN t
  unfold cw
  refine Eq.trans (?_ : _ = (V m c main_v2 : FVec Ideal S4x8192 .f32) (ix2 k ⟨t.val / 16 * 1024 + j.val, by omega⟩)) ?_
  · blk_ext [iblk, idx t]
  · unfold V
    entry_read
    pointwise

theorem out_at (t : Fin cfg0.N) (i j : Fin 1024) : ((View.whole main_v3).slice (win0_3.rect t)).emb (ix2 i j)
    = (ix2 (n0 := 16384) (n1 := 8192) ⟨t.val % 16 * 1024 + i.val, by omega⟩ ⟨t.val / 16 * 1024 + j.val, by have := hN t; omega⟩) := by
  have := hN t
  blk_ext [idx t]

/-- The rows carried away from a point. -/
theorem tops (t : Fin cfg0.N) (s : Fin 4) : Cert.Conv.top (scr (outsAt0 m c t.val t.isLt) s) = Cert.Conv.lastV (accV (iblk m c 0 t) (iblk m c 1 t) s) := by
  by_cases h0 : t.val % 16 = 0
  · rw [outsAt0_A m c t h0]
    exact top_A ..
  · rw [outsAt0_B m c t h0]
    exact top_B ..

/-- The rows carried into a point: none on a column's first tile, else the tile's before it. -/
def halo (t : Fin cfg0.N) (s : Fin 4) : FVec Ideal S8x256 .f32 :=
  if t.val % 16 = 0 then zeroT
  else Cert.Conv.lastV (accV (iblk m c 0 ⟨t.val - 1, by omega⟩) (iblk m c 1 ⟨t.val - 1, by omega⟩) s)

theorem out_eq (t : Fin cfg0.N) : (outsAt0 m c t.val t.isLt).1 = outV (iblk m c 0 t) (iblk m c 1 t) (iblk m c 2 t) (halo m c t) := by
  by_cases h0 : t.val % 16 = 0
  · have e : halo m c t = fun _ => zeroT := funext fun s => if_pos h0
    rw [e, outsAt0_A m c t h0]
    dsimp only
    exact out_A ..
  · have e : halo m c t = fun s => Cert.Conv.top (scr (outsAt0 m c (t.val - 1) (Nat.lt_of_le_of_lt (Nat.sub_le _ _) t.isLt)) s) :=
      funext fun s => (if_neg h0).trans (tops m c ⟨t.val - 1, by omega⟩ s).symm
    rw [e, outsAt0_B m c t h0]
    dsimp only
    generalize outsAt0 m c (t.val - 1) (Nat.lt_of_le_of_lt (Nat.sub_le _ _) t.isLt) = p
    exact out_B (x3 := p.1) ..

theorem acc_in (t : Fin cfg0.N) (s : Fin 4) (i : Fin 1024) (j : Fin 256) : accV (iblk m c 0 t) (iblk m c 1 t) s (ix2 i j)
    = Cert.Gdn.prodE (x m c) (w m c) ⟨t.val % 16 * 1024 + i.val, by omega⟩ ⟨8192 + (t.val / 16 * 1024 + (256 * s.val + j.val)), by have := hN t; omega⟩ :=
  (accV_apply _ _ s i j).trans (Cert.Gdn.prodE_block (x_in m c t i) (fun k => w_in m c t k ⟨256 * s.val + j.val, by omega⟩))

/-- The carried rows are the product's, or zero. -/
theorem halo_apply (t : Fin cfg0.N) (j : Fin 1024) (i : Fin 8) : halo m c t ⟨j.val / 256, by omega⟩ (ix2 i ⟨j.val % 256, by omega⟩)
    = if l : t.val % 16 = 0 then 0 else Cert.Gdn.prodE (x m c) (w m c) ⟨1024 * (t.val % 16) + i.val - 8, by omega⟩ ⟨8192 + (t.val / 16 * 1024 + j.val), by have := hN t; omega⟩ := by
  unfold halo
  by_cases h0 : t.val % 16 = 0
  · rw [if_pos h0, dif_pos h0]
    exact zeroT_apply _ _
  · rw [if_neg h0, dif_neg h0]
    refine (acc_in m c ⟨t.val - 1, by omega⟩ _ ⟨1016 + i.val, by omega⟩ ⟨j.val % 256, by omega⟩).trans ?_
    have hn := hN t
    congr 1 <;> refine Fin.ext ?_ <;> simp only <;> omega

/-- The kernel's array. -/
theorem array : (dats m 0 c).arrAt 3 cfg0.N = G m c := by
  refine (dats m 0 c).arrAt_eq_of_covers 3 _ (by decide +kernel) fun t hf y => ?_
  blk_simp
  rw [after0_3]
  refine (congrFun (out_eq m c t) y).trans ?_
  obtain ⟨i, j, rfl⟩ : ∃ (i j : Fin 1024), y = ix2 i j := ⟨y 0, y 1, eq_ix2 y⟩
  rw [out_at]
  have hn := hN t
  have e : (⟨t.val % 16 * 1024 + i.val, by omega⟩ : Fin 16384) = ⟨1024 * (t.val % 16) + i.val, by omega⟩ := Fin.ext (by simp only; omega)
  unfold outV G Cert.Conv.actE
  refine congrArg Cert.Gdn.siluE (congrArg₂ Cert.Conv.convE (funext fun k => cw_in m c t k j) (funext fun k => ?_))
  refine (Cert.Conv.extE_back (p := fun r => Cert.Gdn.prodE (x m c) (w m c) r ⟨8192 + (t.val / 16 * 1024 + j.val), by omega⟩) (b := t.val % 16) (by omega)
    (fun r => ?_) (fun r => halo_apply m c t j r) i k).trans ?_
  · refine (Cert.Gdn.prodE_block (x_in m c t r) (fun k => w_in m c t k j)).trans ?_
    exact congrArg (fun q => Cert.Gdn.prodE (x m c) (w m c) q _) (Fin.ext (by simp only; omega))
  · exact congrArg (fun q => Cert.Conv.backE _ q _) e.symm

/-- The reference's array. -/
theorem ref_array (x' : FVec Ideal S16384x4096 .bf16) (w' : FVec Ideal S4096x24704 .f32) (cw' : FVec Ideal S4x16384 .f32) (h0 : x' = x m c) (h1 : w' = w m c) (h2 : cw' = cw m c) :
    extractStridedSlice S16384x8192 ![0, 8192] (Cert.Conv.qkvT x' w' cw') Cert.GdnVRefIdeal.Gen.slices_S16384x16384_S16384x8192_0_8192 = G m c := by
  rw [h0, h1, h2]
  funext y
  idx_vars y
  pointwise
  exact Cert.Conv.qkvT_apply ..

theorem algebraic : Cert.algebraic_GdnVIdeal_GdnVRefIdeal := fun m ρ m' ρ' _ he =>
  ⟨fun c => G m c, (θ_run _ _ _).mono (fun _ h c => ⟨(h c).1.trans (array m c), (h c).2⟩) (run_blocks m ρ),
    (θ_run _ _ _).mono (fun _ h c => ⟨(h c).1.trans (ref_array m c _ _ _ (he c).1 (he c).2.1 (he c).2.2), (h c).2⟩) (Cert.GdnVRefIdeal.Value.run m' ρ')⟩

end Cert.GdnVValue

end
-- ==== Proof.Heads.lean ====
module

public import proofs.«01_k».proof.Proof.Gen.GdnQkRefIdeal.Run
public import proofs.«01_k».proof.Proof.ConvRef

@[expose] public section

set_option maxRecDepth 16384

noncomputable section

namespace Cert.Conv

open Cert.Gdn Idealize.ShloMosaic Idealize.ShloMosaic.TcCoe Idealize.ShloMosaic.Tactic Cert.GdnQkRefIdeal Cert.GdnQkRefIdeal.Gen

/-- A head's entry over the head's norm. -/
def unitE (f : Fin 128 → EReal) (j : Fin 128) : EReal := f j * Ideal.rsqrt ((∑ k, f k * f k) + Ideal.ofBits FTy.f32 0x358637BD#32)

/-- The reference's heads, each over its norm. -/
def unitT (q : FVec Ideal S16384x4096 .f32) : FVec Ideal S16384x32x128 .f32 :=
  mulf (shapeCast _ q shapeCasts_S16384x4096_S16384x32x128) (broadcastInDim S16384x32x128 ![0, 1, 2] bcast_S16384x32x1_S16384x32x128_0_1_2 (Host.rsqrt (addf (broadcastInDim S16384x32x1 ![0, 1] bcast_S16384x32_S16384x32x1_0_1
    (Host.reduceAdd (mulf (shapeCast _ q shapeCasts_S16384x4096_S16384x32x128) (shapeCast _ q shapeCasts_S16384x4096_S16384x32x128)) (constant (F := Ideal) S_ .f32 0x00000000#32) reducesTo_S16384x32x128_S16384x32_d2 h_S_))
    (broadcastInDim S16384x32x1 ![] bcast_S_S16384x32x1 (constant (F := Ideal) S_ .f32 0x358637BD#32)))))

theorem unitT_apply (q : FVec Ideal S16384x4096 .f32) (t : Fin 16384) (h : Fin 32) (j : Fin 128) :
    unitT q (ix3 t h j) = unitE (fun k => q (ix2 t ⟨h.val * 128 + k.val, by omega⟩)) j := by
  pointwise [unitT, unitE]

/-- A row of queries and keys, each head over its norm, the queries scaled. -/
def headE (f : Fin 8192 → EReal) (j : Fin 8192) : EReal :=
  unitE (fun k => f ⟨j.val / 128 * 128 + k.val, by omega⟩) ⟨j.val % 128, by omega⟩ * if j.val < 4096 then Ideal.ofBits FTy.f32 0x3DB504F3#32 else 1

/-- The reference's queries and keys, from its convolved columns. -/
def headT (q : FVec Ideal S16384x16384 .f32) : FVec Ideal S16384x8192 .f32 :=
  concatenate S16384x8192 1 [⟨S16384x4096, (shapeCast _ (mulf (unitT (extractStridedSlice S16384x4096 ![0, 0] q slices_S16384x16384_S16384x4096_0_0))
      (broadcastInDim S16384x32x128 ![] bcast_S_S16384x32x128 (constant (F := Ideal) S_ .f32 0x3DB504F3#32))) shapeCasts_S16384x32x128_S16384x4096)⟩,
    ⟨S16384x4096, (shapeCast _ (unitT (extractStridedSlice S16384x4096 ![0, 4096] q slices_S16384x16384_S16384x4096_0_4096)) shapeCasts_S16384x32x128_S16384x4096)⟩] concatenates_S16384x4096_S16384x4096_S16384x8192_d1

theorem headT_apply (q : FVec Ideal S16384x16384 .f32) (t : Fin 16384) (j : Fin 8192) :
    headT q (ix2 t j) = headE (fun k => q (ix2 t ⟨k.val, by omega⟩)) j := by
  unfold headE
  pointwise [headT]
  by_cases l : j.val < 4096
  · rw [dif_pos l, if_pos l, unitT_apply]
    pointwise
  · rw [dif_neg l, if_neg l, mul_one, unitT_apply]
    pointwise
    refine congrArg₂ unitE (funext fun k => ?_) (Fin.ext (by simp only; omega))
    exact congrArg (fun r => q (ix2 t r)) (Fin.ext (by simp only; omega))

end Cert.Conv

end
-- ==== Proof.GdnQkPoint.lean ====
module

public import proofs.«01_k».proof.Proof.Gen.GdnQkIdeal.Value
public import proofs.«01_k».proof.Proof.GdnVPoint
public import proofs.«01_k».proof.Proof.Heads
public import Idealize.ShloMosaic.Lib.Pointwise
public import Idealize.ShloMosaic.Lib.Pipeline.ValueKit

@[expose] public section

set_option maxRecDepth 16384

noncomputable section

namespace Cert.GdnQkValue

open Idealize.ShloMosaic Idealize.ShloMosaic.TcCoe Idealize.ShloMosaic.Tactic Cert.GdnQkIdeal Cert.GdnQkIdeal.Gen Cert.GdnQkIdeal.Value Idealize.SL.Sem
open Cert.GdnVValue (accV cwV actV scr zeroT tailL top_tail)

section Point

theorem inb_s (s : Fin 4) (h : Fin 2) : ∀ d, (![0, 256 * s.val + 128 * h.val] : Fin 2 → ℕ) d + S1x128.size d ≤ S1x1024.size d := by revert s h; decide
theorem inb_o (s : Fin 4) (h : Fin 2) : ∀ d, (![0, 256 * s.val + 128 * h.val] : Fin 2 → ℕ) d + S1024x128.size d ≤ S1024x1024.size d := by revert s h; decide

/-- Head `h` of part `s`: its columns over their norm, scaled. -/
def headV (x2 : Vec Ideal S4x1024 .f32) (x3 : Vec Ideal S1x1024 .f32) (b : Fin 4 → FVec Ideal S1024x256 .f32) (s : Fin 4) (h : Fin 2) : FVec Ideal S1024x128 .f32 :=
  match h with
  | 0 => k0_pay13 (F := Ideal) (k0_pay9 (cwV x2 s 0) (b 0) (cwV x2 s 1) (b 1) (cwV x2 s 2) (b 2)) (b 3) (k0_pay10 (cwV x2 s 3))
      (View.ld x3 (Rect.unit (s := S1x1024) ![0, 256 * s.val + 128 * 0] S1x128.size (inb_s s 0)))
  | 1 => k0_pay14 (F := Ideal) (k0_pay9 (cwV x2 s 0) (b 0) (cwV x2 s 1) (b 1) (cwV x2 s 2) (b 2)) (b 3) (k0_pay10 (cwV x2 s 3))
      (View.ld x3 (Rect.unit (s := S1x1024) ![0, 256 * s.val + 128 * 1] S1x128.size (inb_s s 1)))

/-- What is stored for a head. -/
def outP (x2 : Vec Ideal S4x1024 .f32) (x3 : Vec Ideal S1x1024 .f32) (b : Fin 4 → Fin 4 → FVec Ideal S1024x256 .f32) (s : Fin 4) (h : Fin 2) : View.Piece (Elt Ideal) S1024x1024 .f32 :=
  ⟨Rect.unit (s := S1024x1024) ![0, 256 * s.val + 128 * h.val] S1024x128.size (inb_o s h), headV x2 x3 (b s) s h⟩

/-- What is stored for all heads, the last one first. -/
def outL (x2 : Vec Ideal S4x1024 .f32) (x3 : Vec Ideal S1x1024 .f32) (b : Fin 4 → Fin 4 → FVec Ideal S1024x256 .f32) : List (View.Piece (Elt Ideal) S1024x1024 .f32) :=
  [outP x2 x3 b 3 1, outP x2 x3 b 3 0, outP x2 x3 b 2 1, outP x2 x3 b 2 0, outP x2 x3 b 1 1, outP x2 x3 b 1 0, outP x2 x3 b 0 1, outP x2 x3 b 0 0]

variable (c : Dev nD) (i : grid0.Coords) (arg2 : Memref sig .tc .vmem S1024x4096 .bf16) (harg2 : arg2.IsWhole)
  (arg3 : Memref sig .tc .vmem S4096x1024 .bf16) (harg3 : arg3.IsWhole)
  (arg4 : Memref sig .tc .vmem S4x1024 .f32) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1032x256 .f32) (harg7 : arg7.IsWhole)
  (arg8 : Memref sig .tc .vmem S1032x256 .f32) (harg8 : arg8.IsWhole)
  (arg9 : Memref sig .tc .vmem S1032x256 .f32) (harg9 : arg9.IsWhole)
  (arg10 : Memref sig .tc .vmem S1032x256 .f32) (harg10 : arg10.IsWhole)
  (x0 : Vec Ideal S1024x4096 .bf16) (x1 : Vec Ideal S4096x1024 .bf16) (x2 : Vec Ideal S4x1024 .f32) (x3 : Vec Ideal S1x1024 .f32) (xs0 xs1 xs2 xs3 : Vec Ideal S1032x256 .f32)

/-- The rows that the weights meet in the four parts, as the body reads them. -/
def rowsA : Fin 4 → Fin 4 → FVec Ideal S1024x256 .f32 := fun s =>
  match s with
  | 0 => Cert.Conv.ldA arg7.view (accV (arg2.view.read (Elt Ideal) (harg2.unread x0)) (arg3.view.read (Elt Ideal) (harg3.unread x1)) 0) zeroT
  | 1 => Cert.Conv.ldA arg8.view (accV (arg2.view.read (Elt Ideal) (harg2.unread x0)) (arg3.view.read (Elt Ideal) (harg3.unread x1)) 1) zeroT
  | 2 => Cert.Conv.ldA arg9.view (accV (arg2.view.read (Elt Ideal) (harg2.unread x0)) (arg3.view.read (Elt Ideal) (harg3.unread x1)) 2) zeroT
  | 3 => Cert.Conv.ldA arg10.view (accV (arg2.view.read (Elt Ideal) (harg2.unread x0)) (arg3.view.read (Elt Ideal) (harg3.unread x1)) 3) zeroT
def rowsB : Fin 4 → Fin 4 → FVec Ideal S1024x256 .f32 := fun s =>
  match s with
  | 0 => Cert.Conv.ldB arg7 harg7 xs0 (accV (arg2.view.read (Elt Ideal) (harg2.unread x0)) (arg3.view.read (Elt Ideal) (harg3.unread x1)) 0)
  | 1 => Cert.Conv.ldB arg8 harg8 xs1 (accV (arg2.view.read (Elt Ideal) (harg2.unread x0)) (arg3.view.read (Elt Ideal) (harg3.unread x1)) 1)
  | 2 => Cert.Conv.ldB arg9 harg9 xs2 (accV (arg2.view.read (Elt Ideal) (harg2.unread x0)) (arg3.view.read (Elt Ideal) (harg3.unread x1)) 2)
  | 3 => Cert.Conv.ldB arg10 harg10 xs3 (accV (arg2.view.read (Elt Ideal) (harg2.unread x0)) (arg3.view.read (Elt Ideal) (harg3.unread x1)) 3)

theorem outPieces_A (hc0) : (kernelRun0_A (F := Ideal) c i arg2 harg2 arg3 harg3 arg4 harg4 arg5 harg5 arg6 harg6 arg7 harg7 arg8 harg8 arg9 harg9 arg10 harg10 hc0 x0 x1 x2 x3).1
    = outL (arg4.view.read (Elt Ideal) (harg4.unread x2)) (arg5.view.read (Elt Ideal) (harg5.unread x3)) (rowsA arg2 harg2 arg3 harg3 arg7 arg8 arg9 arg10 x0 x1) := by
  sl_kernel_rfl

theorem outPieces_B (hc0) : (kernelRun0_B (F := Ideal) c i arg2 harg2 arg3 harg3 arg4 harg4 arg5 harg5 arg6 harg6 arg7 harg7 arg8 harg8 arg9 harg9 arg10 harg10 hc0 x0 x1 x2 x3 xs0 xs1 xs2 xs3).1
    = outL (arg4.view.read (Elt Ideal) (harg4.unread x2)) (arg5.view.read (Elt Ideal) (harg5.unread x3)) (rowsB arg2 harg2 arg3 harg3 arg7 harg7 arg8 harg8 arg9 harg9 arg10 harg10 x0 x1 xs0 xs1 xs2 xs3) := by
  sl_kernel_rfl

theorem rowsA_eq : rowsA arg2 harg2 arg3 harg3 arg7 arg8 arg9 arg10 x0 x1 = fun s => Cert.Conv.rowsV (accV x0 x1 s) zeroT := by
  funext s
  match s with
  | 0 | 1 | 2 | 3 => simp only [rowsA, Memref.IsWhole.read_unread, Cert.Conv.ldA_eq]

theorem rowsB_eq (x4 : Vec Ideal S1024x1024 .f32) : rowsB arg2 harg2 arg3 harg3 arg7 harg7 arg8 harg8 arg9 harg9 arg10 harg10 x0 x1 xs0 xs1 xs2 xs3 = fun s => Cert.Conv.rowsV (accV x0 x1 s) (Cert.Conv.top (scr (x4, xs0, xs1, xs2, xs3) s)) := by
  funext s
  match s with
  | 0 | 1 | 2 | 3 => simp only [rowsB, Memref.IsWhole.read_unread, Cert.Conv.ldB_eq, scr]

/-- What the buffers are given on a first tile. -/
theorem tails_A (hc0) : ((kernelRun0_A (F := Ideal) c i arg2 harg2 arg3 harg3 arg4 harg4 arg5 harg5 arg6 harg6 arg7 harg7 arg8 harg8 arg9 harg9 arg10 harg10 hc0 x0 x1 x2 x3).2.1, (kernelRun0_A (F := Ideal) c i arg2 harg2 arg3 harg3 arg4 harg4 arg5 harg5 arg6 harg6 arg7 harg7 arg8 harg8 arg9 harg9 arg10 harg10 hc0 x0 x1 x2 x3).2.2.1, (kernelRun0_A (F := Ideal) c i arg2 harg2 arg3 harg3 arg4 harg4 arg5 harg5 arg6 harg6 arg7 harg7 arg8 harg8 arg9 harg9 arg10 harg10 hc0 x0 x1 x2 x3).2.2.2.1, (kernelRun0_A (F := Ideal) c i arg2 harg2 arg3 harg3 arg4 harg4 arg5 harg5 arg6 harg6 arg7 harg7 arg8 harg8 arg9 harg9 arg10 harg10 hc0 x0 x1 x2 x3).2.2.2.2.1)
    = (tailL arg7.view (accV (arg2.view.read (Elt Ideal) (harg2.unread x0)) (arg3.view.read (Elt Ideal) (harg3.unread x1)) 0) [Cert.Conv.topP zeroT], tailL arg8.view (accV (arg2.view.read (Elt Ideal) (harg2.unread x0)) (arg3.view.read (Elt Ideal) (harg3.unread x1)) 1) [Cert.Conv.topP zeroT], tailL arg9.view (accV (arg2.view.read (Elt Ideal) (harg2.unread x0)) (arg3.view.read (Elt Ideal) (harg3.unread x1)) 2) [Cert.Conv.topP zeroT], tailL arg10.view (accV (arg2.view.read (Elt Ideal) (harg2.unread x0)) (arg3.view.read (Elt Ideal) (harg3.unread x1)) 3) [Cert.Conv.topP zeroT]) := by
  sl_kernel_rfl

set_option maxHeartbeats 2000000 in
/-- The carried rows after a first tile. -/
theorem top_A (hc0) (s : Fin 4) : Cert.Conv.top (scr (out0_A_4 c i arg2 harg2 arg3 harg3 arg4 harg4 arg5 harg5 arg6 harg6 arg7 harg7 arg8 harg8 arg9 harg9 arg10 harg10 hc0 x0 x1 x2 x3, sout0_A_0 c i arg2 harg2 arg3 harg3 arg4 harg4 arg5 harg5 arg6 harg6 arg7 harg7 arg8 harg8 arg9 harg9 arg10 harg10 hc0 x0 x1 x2 x3, sout0_A_1 c i arg2 harg2 arg3 harg3 arg4 harg4 arg5 harg5 arg6 harg6 arg7 harg7 arg8 harg8 arg9 harg9 arg10 harg10 hc0 x0 x1 x2 x3, sout0_A_2 c i arg2 harg2 arg3 harg3 arg4 harg4 arg5 harg5 arg6 harg6 arg7 harg7 arg8 harg8 arg9 harg9 arg10 harg10 hc0 x0 x1 x2 x3, sout0_A_3 c i arg2 harg2 arg3 harg3 arg4 harg4 arg5 harg5 arg6 harg6 arg7 harg7 arg8 harg8 arg9 harg9 arg10 harg10 hc0 x0 x1 x2 x3) s)
    = Cert.Conv.lastV (accV x0 x1 s) := by
  have h := tails_A c i arg2 harg2 arg3 harg3 arg4 harg4 arg5 harg5 arg6 harg6 arg7 harg7 arg8 harg8 arg9 harg9 arg10 harg10 x0 x1 x2 x3 hc0
  simp only [Memref.IsWhole.read_unread] at h
  match s with
  | 0 => exact top_tail VS0_0 arg7.view VS0_0.junk (congrArg (fun p => p.1) h)
  | 1 => exact top_tail VS0_1 arg8.view VS0_1.junk (congrArg (fun p => p.2.1) h)
  | 2 => exact top_tail VS0_2 arg9.view VS0_2.junk (congrArg (fun p => p.2.2.1) h)
  | 3 => exact top_tail VS0_3 arg10.view VS0_3.junk (congrArg (fun p => p.2.2.2) h)

/-- What the buffers are given on a later tile. -/
theorem tails_B (hc0) : ((kernelRun0_B (F := Ideal) c i arg2 harg2 arg3 harg3 arg4 harg4 arg5 harg5 arg6 harg6 arg7 harg7 arg8 harg8 arg9 harg9 arg10 harg10 hc0 x0 x1 x2 x3 xs0 xs1 xs2 xs3).2.1, (kernelRun0_B (F := Ideal) c i arg2 harg2 arg3 harg3 arg4 harg4 arg5 harg5 arg6 harg6 arg7 harg7 arg8 harg8 arg9 harg9 arg10 harg10 hc0 x0 x1 x2 x3 xs0 xs1 xs2 xs3).2.2.1, (kernelRun0_B (F := Ideal) c i arg2 harg2 arg3 harg3 arg4 harg4 arg5 harg5 arg6 harg6 arg7 harg7 arg8 harg8 arg9 harg9 arg10 harg10 hc0 x0 x1 x2 x3 xs0 xs1 xs2 xs3).2.2.2.1, (kernelRun0_B (F := Ideal) c i arg2 harg2 arg3 harg3 arg4 harg4 arg5 harg5 arg6 harg6 arg7 harg7 arg8 harg8 arg9 harg9 arg10 harg10 hc0 x0 x1 x2 x3 xs0 xs1 xs2 xs3).2.2.2.2.1)
    = (tailL arg7.view (accV (arg2.view.read (Elt Ideal) (harg2.unread x0)) (arg3.view.read (Elt Ideal) (harg3.unread x1)) 0) [], tailL arg8.view (accV (arg2.view.read (Elt Ideal) (harg2.unread x0)) (arg3.view.read (Elt Ideal) (harg3.unread x1)) 1) [], tailL arg9.view (accV (arg2.view.read (Elt Ideal) (harg2.unread x0)) (arg3.view.read (Elt Ideal) (harg3.unread x1)) 2) [], tailL arg10.view (accV (arg2.view.read (Elt Ideal) (harg2.unread x0)) (arg3.view.read (Elt Ideal) (harg3.unread x1)) 3) []) := by
  sl_kernel_rfl

set_option maxHeartbeats 2000000 in
/-- The carried rows after a later tile. -/
theorem top_B (hc0) (s : Fin 4) : Cert.Conv.top (scr (out0_B_4 c i arg2 harg2 arg3 harg3 arg4 harg4 arg5 harg5 arg6 harg6 arg7 harg7 arg8 harg8 arg9 harg9 arg10 harg10 hc0 x0 x1 x2 x3 xs0 xs1 xs2 xs3, sout0_B_0 c i arg2 harg2 arg3 harg3 arg4 harg4 arg5 harg5 arg6 harg6 arg7 harg7 arg8 harg8 arg9 harg9 arg10 harg10 hc0 x0 x1 x2 x3 xs0 xs1 xs2 xs3, sout0_B_1 c i arg2 harg2 arg3 harg3 arg4 harg4 arg5 harg5 arg6 harg6 arg7 harg7 arg8 harg8 arg9 harg9 arg10 harg10 hc0 x0 x1 x2 x3 xs0 xs1 xs2 xs3, sout0_B_2 c i arg2 harg2 arg3 harg3 arg4 harg4 arg5 harg5 arg6 harg6 arg7 harg7 arg8 harg8 arg9 harg9 arg10 harg10 hc0 x0 x1 x2 x3 xs0 xs1 xs2 xs3, sout0_B_3 c i arg2 harg2 arg3 harg3 arg4 harg4 arg5 harg5 arg6 harg6 arg7 harg7 arg8 harg8 arg9 harg9 arg10 harg10 hc0 x0 x1 x2 x3 xs0 xs1 xs2 xs3) s)
    = Cert.Conv.lastV (accV x0 x1 s) := by
  have h := tails_B c i arg2 harg2 arg3 harg3 arg4 harg4 arg5 harg5 arg6 harg6 arg7 harg7 arg8 harg8 arg9 harg9 arg10 harg10 x0 x1 x2 x3 xs0 xs1 xs2 xs3 hc0
  simp only [Memref.IsWhole.read_unread] at h
  match s with
  | 0 => exact top_tail VS0_0 arg7.view VS0_0.junk (congrArg (fun p => p.1) h)
  | 1 => exact top_tail VS0_1 arg8.view VS0_1.junk (congrArg (fun p => p.2.1) h)
  | 2 => exact top_tail VS0_2 arg9.view VS0_2.junk (congrArg (fun p => p.2.2.1) h)
  | 3 => exact top_tail VS0_3 arg10.view VS0_3.junk (congrArg (fun p => p.2.2.2) h)

/-- What a point leaves of the output. -/
def outV (z : Fin 4 → FVec Ideal S8x256 .f32) : FVec Ideal S1024x1024 .f32 := fun y =>
  Cert.Conv.unitE (fun k => Cert.GdnVValue.outV x0 x1 x2 z (ix2 (n0 := 1024) (n1 := 1024) (y 0) ⟨(y 1).val / 128 * 128 + k.val, by have : (y 1).val < 1024 := (y 1).isLt; omega⟩))
    ⟨(y 1).val % 128, by omega⟩ * x3 (ix2 0 (y 1))

theorem headV_apply (b : Fin 4 → FVec Ideal S1024x256 .f32) (s : Fin 4) (h : Fin 2) (i : Fin 1024) (j : Fin 128) : headV x2 x3 b s h (ix2 i j)
    = Cert.Conv.unitE (fun k => actV x2 s b (ix2 i ⟨128 * h.val + k.val, by omega⟩)) j * x3 (ix2 0 ⟨256 * s.val + 128 * h.val + j.val, by omega⟩) := by
  have e : k0_pay12 (F := Ideal) (k0_pay9 (cwV x2 s 0) (b 0) (cwV x2 s 1) (b 1) (cwV x2 s 2) (b 2)) (b 3) (k0_pay10 (cwV x2 s 3)) = actV x2 s b := rfl
  have hs : ∀ h, (View.ld x3 (Rect.unit (s := S1x1024) ![0, 256 * s.val + 128 * h.val] S1x128.size (inb_s s h)) : FVec Ideal S1x128 .f32) (ix2 0 j) = x3 (ix2 0 ⟨256 * s.val + 128 * h.val + j.val, by omega⟩) := fun h => by
    refine congrArg x3 (funext fun d => Fin.ext ?_)
    match d with
    | ⟨0, _⟩ => show 0 + 1 * 0 = 0; omega
    | ⟨1, _⟩ => show 256 * s.val + 128 * h.val + 1 * j.val = 256 * s.val + 128 * h.val + j.val; omega
  rw [← hs]
  match h with
  | 0 =>
    simp only [headV, k0_pay13, e]
    generalize actV x2 s b = A
    pointwise [Cert.Conv.unitE]
  | 1 =>
    simp only [headV, k0_pay14, e]
    generalize actV x2 s b = A
    pointwise [Cert.Conv.unitE]

theorem outP_apply (z : Fin 4 → FVec Ideal S8x256 .f32) (s : Fin 4) (h : Fin 2) (y : S1024x128.Idx) :
    headV x2 x3 (Cert.Conv.rowsV (accV x0 x1 s) (z s)) s h y = outV x0 x1 x2 x3 z ((Rect.unit (s := S1024x1024) ![0, 256 * s.val + 128 * h.val] S1024x128.size (inb_o s h)).emb y) := by
  obtain ⟨i, j, rfl⟩ : ∃ (i : Fin 1024) (j : Fin 128), y = ix2 i j := ⟨y 0, y 1, eq_ix2 y⟩
  have e : (Rect.unit (s := S1024x1024) ![0, 256 * s.val + 128 * h.val] S1024x128.size (inb_o s h)).emb (ix2 i j) = ix2 (n0 := 1024) (n1 := 1024) i ⟨256 * s.val + 128 * h.val + j.val, by omega⟩ := by
    funext d
    refine Fin.ext ?_
    match d with
    | ⟨0, _⟩ => show 0 + 1 * i.val = i.val; omega
    | ⟨1, _⟩ => show 256 * s.val + 128 * h.val + 1 * j.val = 256 * s.val + 128 * h.val + j.val; omega
  rw [e, headV_apply]
  refine congrArg (· * _) (congrArg₂ Cert.Conv.unitE (funext fun k => ?_) (Fin.ext ?_))
  · refine (Cert.GdnVValue.outP_apply x0 x1 x2 z s (ix2 i ⟨128 * h.val + k.val, by omega⟩)).trans (congrArg _ (funext fun d => Fin.ext ?_))
    match d with
    | ⟨0, _⟩ => show 0 + 1 * i.val = i.val; omega
    | ⟨1, _⟩ => show 256 * s.val + 1 * (128 * h.val + k.val) = (256 * s.val + 128 * h.val + j.val) / 128 * 128 + k.val; omega
  · show j.val = (256 * s.val + 128 * h.val + j.val) % 128
    omega

/-- The list of the heads' pieces is a list of blocks of what the point leaves. -/
theorem canon_out (z : Fin 4 → FVec Ideal S8x256 .f32) {M : List (View.Piece (Elt Ideal) S1024x1024 .f32)}
    (h : M = outL x2 x3 fun s => Cert.Conv.rowsV (accV x0 x1 s) (z s)) (y : S1024x1024.Idx) (hc : ∃ p ∈ M, y ∈ p.1.set) :
    View.canon M y = outV x0 x1 x2 x3 z y := by
  refine View.canon_apply_of_pieces _ _ (fun p hp w => ?_) y hc
  have h' : M = [((3 : Fin 4), (1 : Fin 2)), (3, 0), (2, 1), (2, 0), (1, 1), (1, 0), (0, 1), (0, 0)].map fun q => outP x2 x3 (fun s => Cert.Conv.rowsV (accV x0 x1 s) (z s)) q.1 q.2 := h
  rw [h'] at hp
  obtain ⟨q, -, rfl⟩ := List.mem_map.mp hp
  exact outP_apply x0 x1 x2 x3 z q.1 q.2 w

theorem out_A (hc0) : out0_A_4 (F := Ideal) c i arg2 harg2 arg3 harg3 arg4 harg4 arg5 harg5 arg6 harg6 arg7 harg7 arg8 harg8 arg9 harg9 arg10 harg10 hc0 x0 x1 x2 x3 = outV x0 x1 x2 x3 fun _ => zeroT := by
  funext y
  have hc := cover0_A_4 (F := Ideal) c i arg2 harg2 arg3 harg3 arg4 harg4 arg5 harg5 arg6 harg6 arg7 harg7 arg8 harg8 arg9 harg9 arg10 harg10 hc0 x0 x1 x2 x3 y
  unfold out0_A_4
  rw [View.read_writes_apply_eq_canon _ _ y _ hc]
  refine canon_out x0 x1 x2 x3 (fun _ => zeroT) ((outPieces_A c i arg2 harg2 arg3 harg3 arg4 harg4 arg5 harg5 arg6 harg6 arg7 harg7 arg8 harg8 arg9 harg9 arg10 harg10 x0 x1 x2 x3 hc0).trans ?_) y hc
  rw [rowsA_eq, Memref.IsWhole.read_unread, Memref.IsWhole.read_unread]

theorem out_B (x4 : Vec Ideal S1024x1024 .f32) (hc0) : out0_B_4 (F := Ideal) c i arg2 harg2 arg3 harg3 arg4 harg4 arg5 harg5 arg6 harg6 arg7 harg7 arg8 harg8 arg9 harg9 arg10 harg10 hc0 x0 x1 x2 x3 xs0 xs1 xs2 xs3 = outV x0 x1 x2 x3 fun s => Cert.Conv.top (scr (x4, xs0, xs1, xs2, xs3) s) := by
  funext y
  have hc := cover0_B_4 (F := Ideal) c i arg2 harg2 arg3 harg3 arg4 harg4 arg5 harg5 arg6 harg6 arg7 harg7 arg8 harg8 arg9 harg9 arg10 harg10 hc0 x0 x1 x2 x3 xs0 xs1 xs2 xs3 y
  unfold out0_B_4
  rw [View.read_writes_apply_eq_canon _ _ y _ hc]
  refine canon_out x0 x1 x2 x3 (fun s => Cert.Conv.top (scr (x4, xs0, xs1, xs2, xs3) s)) ((outPieces_B c i arg2 harg2 arg3 harg3 arg4 harg4 arg5 harg5 arg6 harg6 arg7 harg7 arg8 harg8 arg9 harg9 arg10 harg10 x0 x1 x2 x3 xs0 xs1 xs2 xs3 hc0).trans ?_) y hc
  rw [rowsB_eq (x4 := x4), Memref.IsWhole.read_unread, Memref.IsWhole.read_unread]

end Point

end Cert.GdnQkValue

end
-- ==== Proof.GdnQk.lean ====
module

public import proofs.«01_k».proof.Proof.GdnQkPoint
public import proofs.«01_k».proof.Defs
public import Idealize.ShloMosaic.Adequacy
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.GdnQkValue

open Idealize.ShloMosaic Idealize.ShloMosaic.TcCoe Idealize.ShloMosaic.Tactic Cert.GdnQkIdeal Cert.GdnQkIdeal.Gen Cert.GdnQkIdeal.Value Idealize.SL.Sem
open Cert.GdnVValue (accV accV_apply scr zeroT)

variable (m : (ℓ : Loc nD τ sig) → Buf (Elt Ideal) ℓ) (c : Dev nD)

/-- The three arguments, and the array that the kernel leaves: the product with the queries' and keys' columns, convolved, under silu,
    each head over its norm, the queries scaled. -/
def x : FVec Ideal S16384x4096 .bf16 := m ((c.tc : Thread nD τ).loc main_arg0)
def w : FVec Ideal S4096x24704 .f32 := m ((c.tc : Thread nD τ).loc main_arg1)
def cw : FVec Ideal S4x16384 .f32 := m ((c.tc : Thread nD τ).loc main_arg2)
def act (t : Fin 16384) (j : Fin 8192) : EReal :=
  Cert.Conv.actE (fun k => cw m c (ix2 k ⟨j.val, by omega⟩)) (fun r => Cert.Gdn.prodE (x m c) (w m c) r ⟨j.val, by omega⟩) t
def G : FVec Ideal S16384x8192 .f32 := fun i => Cert.Conv.headE (act m c (i 0)) (i 1)

theorem idx : ∀ t : Fin cfg0.N, win0_0.index t = ![t.val % 16, 0] ∧ win0_1.index t = ![0, t.val / 16] ∧ win0_2.index t = ![0, t.val / 16]
    ∧ win0_3.index t = ![0, t.val / 16] ∧ win0_4.index t = ![t.val % 16, t.val / 16] :=
  (by decide +kernel : ∀ t : Fin grid0.N, _)

theorem hN (t : Fin cfg0.N) : t.val < 128 := lt_of_lt_of_eq t.isLt N_0

theorem x_in (t : Fin cfg0.N) (i : Fin 1024) (k : Fin 4096) : iblk m c 0 t (ix2 i k) = x m c (ix2 ⟨t.val % 16 * 1024 + i.val, by omega⟩ k) := by
  have := hN t
  unfold x
  blk_ext [iblk, V, idx t]
theorem w_in (t : Fin cfg0.N) (k : Fin 4096) (j : Fin 1024) :
    iblk m c 1 t (ix2 k j) = w m c (ix2 k ⟨t.val / 16 * 1024 + j.val, by have := hN t; omega⟩) := by
  have := hN t
  unfold w
  refine Eq.trans (?_ : _ = (V m c main_v4 : FVec Ideal S4096x8192 .bf16) (ix2 k ⟨t.val / 16 * 1024 + j.val, by omega⟩)) ?_
  · blk_ext [iblk, idx t]
  · unfold V
    entry_read
    pointwise
theorem cw_in (t : Fin cfg0.N) (k : Fin 4) (j : Fin 1024) :
    iblk m c 2 t (ix2 k j) = cw m c (ix2 k ⟨t.val / 16 * 1024 + j.val, by have := hN t; omega⟩) := by
  have := hN t
  unfold cw
  refine Eq.trans (?_ : _ = (V m c main_v5 : FVec Ideal S4x8192 .f32) (ix2 k ⟨t.val / 16 * 1024 + j.val, by omega⟩)) ?_
  · blk_ext [iblk, idx t]
  · unfold V
    entry_read
    pointwise
theorem scale_in (t : Fin cfg0.N) (j : Fin 1024) :
    iblk m c 3 t (ix2 0 j) = if t.val / 16 * 1024 + j.val < 4096 then Ideal.ofBits FTy.f32 0x3DB504F3#32 else 1 := by
  have := hN t
  refine Eq.trans (?_ : _ = (V m c main_v6 : FVec Ideal S1x8192 .f32) (ix2 0 ⟨t.val / 16 * 1024 + j.val, by omega⟩)) ?_
  · blk_ext [iblk, idx t]
  · unfold V
    entry_read
    pointwise
    rfl

theorem out_at (t : Fin cfg0.N) (i j : Fin 1024) : ((View.whole main_v7).slice (win0_4.rect t)).emb (ix2 i j)
    = (ix2 (n0 := 16384) (n1 := 8192) ⟨t.val % 16 * 1024 + i.val, by omega⟩ ⟨t.val / 16 * 1024 + j.val, by have := hN t; omega⟩) := by
  have := hN t
  blk_ext [idx t]

/-- The rows carried away from a point. -/
theorem tops (t : Fin cfg0.N) (s : Fin 4) : Cert.Conv.top (scr (outsAt0 m c t.val t.isLt) s) = Cert.Conv.lastV (accV (iblk m c 0 t) (iblk m c 1 t) s) := by
  by_cases h0 : t.val % 16 = 0
  · rw [outsAt0_A m c t h0]
    exact top_A ..
  · rw [outsAt0_B m c t h0]
    exact top_B ..

/-- The rows carried into a point: none on a column's first tile, else the tile's before it. -/
def halo (t : Fin cfg0.N) (s : Fin 4) : FVec Ideal S8x256 .f32 :=
  if t.val % 16 = 0 then zeroT
  else Cert.Conv.lastV (accV (iblk m c 0 ⟨t.val - 1, by omega⟩) (iblk m c 1 ⟨t.val - 1, by omega⟩) s)

theorem out_eq (t : Fin cfg0.N) : (outsAt0 m c t.val t.isLt).1 = outV (iblk m c 0 t) (iblk m c 1 t) (iblk m c 2 t) (iblk m c 3 t) (halo m c t) := by
  by_cases h0 : t.val % 16 = 0
  · have e : halo m c t = fun _ => zeroT := funext fun s => if_pos h0
    rw [e, outsAt0_A m c t h0]
    dsimp only
    exact out_A ..
  · have e : halo m c t = fun s => Cert.Conv.top (scr (outsAt0 m c (t.val - 1) (Nat.lt_of_le_of_lt (Nat.sub_le _ _) t.isLt)) s) :=
      funext fun s => (if_neg h0).trans (tops m c ⟨t.val - 1, by omega⟩ s).symm
    rw [e, outsAt0_B m c t h0]
    dsimp only
    generalize outsAt0 m c (t.val - 1) (Nat.lt_of_le_of_lt (Nat.sub_le _ _) t.isLt) = p
    exact out_B (x4 := p.1) ..

theorem acc_in (t : Fin cfg0.N) (s : Fin 4) (i : Fin 1024) (j : Fin 256) : accV (iblk m c 0 t) (iblk m c 1 t) s (ix2 i j)
    = Cert.Gdn.prodE (x m c) (w m c) ⟨t.val % 16 * 1024 + i.val, by omega⟩ ⟨t.val / 16 * 1024 + (256 * s.val + j.val), by have := hN t; omega⟩ :=
  (accV_apply _ _ s i j).trans (Cert.Gdn.prodE_block (x_in m c t i) (fun k => w_in m c t k ⟨256 * s.val + j.val, by omega⟩))

/-- The carried rows are the product's, or zero. -/
theorem halo_apply (t : Fin cfg0.N) (j : Fin 1024) (i : Fin 8) : halo m c t ⟨j.val / 256, by omega⟩ (ix2 i ⟨j.val % 256, by omega⟩)
    = if l : t.val % 16 = 0 then 0 else Cert.Gdn.prodE (x m c) (w m c) ⟨1024 * (t.val % 16) + i.val - 8, by omega⟩ ⟨t.val / 16 * 1024 + j.val, by have := hN t; omega⟩ := by
  unfold halo
  by_cases h0 : t.val % 16 = 0
  · rw [if_pos h0, dif_pos h0]
    exact Cert.GdnVValue.zeroT_apply _ _
  · rw [if_neg h0, dif_neg h0]
    refine (acc_in m c ⟨t.val - 1, by omega⟩ _ ⟨1016 + i.val, by omega⟩ ⟨j.val % 256, by omega⟩).trans ?_
    have hn := hN t
    congr 1 <;> refine Fin.ext ?_ <;> simp only <;> omega

/-- A point's columns, convolved, under silu. -/
theorem act_in (t : Fin cfg0.N) (i j : Fin 1024) : Cert.GdnVValue.outV (iblk m c 0 t) (iblk m c 1 t) (iblk m c 2 t) (halo m c t) (ix2 i j)
    = act m c ⟨t.val % 16 * 1024 + i.val, by omega⟩ ⟨t.val / 16 * 1024 + j.val, by have := hN t; omega⟩ := by
  have hn := hN t
  have e : (⟨t.val % 16 * 1024 + i.val, by omega⟩ : Fin 16384) = ⟨1024 * (t.val % 16) + i.val, by omega⟩ := Fin.ext (by simp only; omega)
  unfold Cert.GdnVValue.outV act Cert.Conv.actE
  refine congrArg Cert.Gdn.siluE (congrArg₂ Cert.Conv.convE (funext fun k => cw_in m c t k j) (funext fun k => ?_))
  refine (Cert.Conv.extE_back (p := fun r => Cert.Gdn.prodE (x m c) (w m c) r ⟨t.val / 16 * 1024 + j.val, by omega⟩) (b := t.val % 16) (by omega)
    (fun r => ?_) (fun r => halo_apply m c t j r) i k).trans ?_
  · refine (Cert.Gdn.prodE_block (x_in m c t r) (fun k => w_in m c t k j)).trans ?_
    exact congrArg (fun q => Cert.Gdn.prodE (x m c) (w m c) q _) (Fin.ext (by simp only; omega))
  · exact congrArg (fun q => Cert.Conv.backE _ q _) e.symm

/-- The kernel's array. -/
theorem array : (dats m 0 c).arrAt 4 cfg0.N = G m c := by
  refine (dats m 0 c).arrAt_eq_of_covers 4 _ (by decide +kernel) fun t hf y => ?_
  blk_simp
  rw [after0_4]
  refine (congrFun (out_eq m c t) y).trans ?_
  obtain ⟨i, j, rfl⟩ : ∃ (i j : Fin 1024), y = ix2 i j := ⟨y 0, y 1, eq_ix2 y⟩
  rw [out_at]
  have hn := hN t
  unfold outV G Cert.Conv.headE
  refine congrArg₂ (· * ·) (congrArg₂ Cert.Conv.unitE (funext fun k => ?_) (Fin.ext ?_)) (scale_in m c t j)
  · refine (act_in m c t i ⟨j.val / 128 * 128 + k.val, by omega⟩).trans (congrArg (act m c _) (Fin.ext ?_))
    show t.val / 16 * 1024 + (j.val / 128 * 128 + k.val) = (t.val / 16 * 1024 + j.val) / 128 * 128 + k.val
    omega
  · show j.val % 128 = (t.val / 16 * 1024 + j.val) % 128
    omega

/-- The reference's array. -/
theorem ref_array (x' : FVec Ideal S16384x4096 .bf16) (w' : FVec Ideal S4096x24704 .f32) (cw' : FVec Ideal S4x16384 .f32) (h0 : x' = x m c) (h1 : w' = w m c) (h2 : cw' = cw m c) :
    Cert.Conv.headT (Cert.Conv.qkvT x' w' cw') = G m c := by
  rw [h0, h1, h2]
  funext y
  obtain ⟨t, j, rfl⟩ : ∃ (t : Fin 16384) (j : Fin 8192), y = ix2 t j := ⟨y 0, y 1, eq_ix2 y⟩
  exact (Cert.Conv.headT_apply _ t j).trans (congrArg (Cert.Conv.headE · j) (funext fun k => Cert.Conv.qkvT_apply ..))

theorem algebraic : Cert.algebraic_GdnQkIdeal_GdnQkRefIdeal := fun m ρ m' ρ' _ he =>
  ⟨fun c => G m c, (θ_run _ _ _).mono (fun _ h c => ⟨(h c).1.trans (array m c), (h c).2⟩) (run_blocks m ρ),
    (θ_run _ _ _).mono (fun _ h c => ⟨(h c).1.trans (ref_array m c _ _ _ (he c).1 (he c).2.1 (he c).2.2), (h c).2⟩) (Cert.GdnQkRefIdeal.Value.run m' ρ')⟩

end Cert.GdnQkValue

end
-- ==== Proof.GdnGate.lean ====
module

public import proofs.«01_k».proof.Proof.Gen.GdnGateIdeal.Value
public import proofs.«01_k».proof.Proof.Gen.GdnGateRefIdeal.Run
public import proofs.«01_k».proof.Proof.Product
public import proofs.«01_k».proof.Defs
public import Idealize.ShloMosaic.Adequacy
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.GdnGateValue

open Idealize.ShloMosaic Idealize.ShloMosaic.TcCoe Idealize.ShloMosaic.Tactic Cert.GdnGateIdeal Cert.GdnGateIdeal.Gen Cert.GdnGateIdeal.Value Idealize.SL.Sem

variable (m : (ℓ : Loc nD τ sig) → Buf (Elt Ideal) ℓ) (c : Dev nD)

/-- The two arguments, and the array that the kernel leaves: the product with the last 128 columns. -/
def x : FVec Ideal S16384x4096 .bf16 := m ((c.tc : Thread nD τ).loc main_arg0)
def w : FVec Ideal S4096x24704 .f32 := m ((c.tc : Thread nD τ).loc main_arg1)
def G : FVec Ideal S16384x128 .f32 := fun i => Cert.Gdn.prodE (x m c) (w m c) (i 0) ⟨24576 + (i 1).val, by have : (i 1).val < 128 := (i 1).isLt; omega⟩

theorem idx : ∀ t : Fin cfg0.N, win0_0.index t = ![t.val, 0] ∧ win0_1.index t = ![0, 0] ∧ win0_2.index t = ![t.val, 0] :=
  (by decide +kernel : ∀ t : Fin grid0.N, _)

theorem hN (t : Fin cfg0.N) : t.val < 16 := lt_of_lt_of_eq t.isLt N_0

theorem x_in (t : Fin cfg0.N) (i : Fin 1024) (k : Fin 4096) : iblk m c 0 t (ix2 i k) = x m c (ix2 ⟨t.val * 1024 + i.val, by have := hN t; omega⟩ k) := by
  have := hN t
  unfold x
  blk_ext [iblk, V, idx t]
theorem w_in (t : Fin cfg0.N) (k : Fin 4096) (j : Fin 128) : iblk m c 1 t (ix2 k j) = w m c (ix2 k ⟨24576 + j.val, by omega⟩) := by
  unfold w
  refine Eq.trans (?_ : _ = (V m c main_v1 : FVec Ideal S4096x128 .bf16) (ix2 k j)) ?_
  · blk_ext [iblk, idx t]
  · unfold V
    entry_read
    pointwise

theorem pay_apply (a : FVec Ideal S1024x4096 .bf16) (b : FVec Ideal S4096x128 .bf16) (i : Fin 1024) (j : Fin 128) :
    k0_pay1 (F := Ideal) a b (ix2 i j) = Cert.Gdn.prodE a b i j := by
  pointwise [k0_pay1, Cert.Gdn.prodE]

theorem out_at (t : Fin cfg0.N) (i : Fin 1024) (j : Fin 128) : ((View.whole main_v2).slice (win0_2.rect t)).emb (ix2 i j)
    = (ix2 (n0 := 16384) (n1 := 128) ⟨t.val * 1024 + i.val, by have := hN t; omega⟩ j) := by
  have := hN t
  blk_ext [idx t]

/-- The kernel's array. -/
theorem array : (dats m 0 c).arrAt 2 cfg0.N = G m c := by
  refine (dats m 0 c).arrAt_eq_of_covers 2 _ (by decide +kernel) fun t hf y => ?_
  blk_simp
  rw [after0_2]
  frame_out
  obtain ⟨i, j, rfl⟩ : ∃ (i : Fin 1024) (j : Fin 128), y = ix2 i j := ⟨y 0, y 1, eq_ix2 y⟩
  rw [out_at]
  exact (pay_apply _ _ i j).trans (Cert.Gdn.prodE_block (x_in m c t i) (fun k => w_in m c t k j))

/-- The reference's array. -/
theorem ref_array (x' : FVec Ideal S16384x4096 .bf16) (w' : FVec Ideal S4096x24704 .f32) (h0 : x' = x m c) (h1 : w' = w m c) :
    extractStridedSlice S16384x128 ![0, 24576] (Host.dotGeneral (F := Ideal) Cert.GdnGateRefIdeal.dot_S16384x4096_S4096x24704_S16384x24704_1_0_0_1_n_n none
      (extf (F := Ideal) .f32 x' Cert.GdnGateRefIdeal.Gen.bitsLt_bf16_f32) w') Cert.GdnGateRefIdeal.Gen.slices_S16384x24704_S16384x128_0_24576 = G m c := by
  rw [h0, h1]
  funext y
  idx_vars y
  pointwise [G, Cert.Gdn.prodE]

theorem algebraic : Cert.algebraic_GdnGateIdeal_GdnGateRefIdeal := fun m ρ m' ρ' _ he =>
  ⟨fun c => G m c, (θ_run _ _ _).mono (fun _ h c => ⟨(h c).1.trans (array m c), (h c).2⟩) (run_blocks m ρ),
    (θ_run _ _ _).mono (fun _ h c => ⟨(h c).1.trans (ref_array m c _ _ (he c).1 (he c).2), (h c).2⟩) (Cert.GdnGateRefIdeal.Value.run m' ρ')⟩

/-- The reference ends quiescent with its arguments as they were. -/
theorem ref_frame : Cert.quiescent_GdnGateRefIdeal := fun m ρ _ =>
  (θ_run _ _ _).mono (fun r h => ⟨fun c => (h c).2, sem_eq_zero_of_no_sems (by decide) r.2⟩) (Cert.GdnGateRefIdeal.Value.run m ρ)

end Cert.GdnGateValue

end
-- ==== Proof.GdnOut.lean ====
module

public import proofs.«01_k».proof.Proof.Gen.GdnOutIdeal.Value
public import proofs.«01_k».proof.Proof.Gen.GdnOutRefIdeal.Run
public import proofs.«01_k».proof.Proof.Product
public import proofs.«01_k».proof.Defs
public import Idealize.ShloMosaic.Adequacy
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.GdnOutValue

open Idealize.ShloMosaic Idealize.ShloMosaic.TcCoe Idealize.ShloMosaic.Tactic Cert.GdnOutIdeal Cert.GdnOutIdeal.Gen Cert.GdnOutIdeal.Value Idealize.SL.Sem

variable (m : (ℓ : Loc nD τ sig) → Buf (Elt Ideal) ℓ) (c : Dev nD)

/-- The two arguments, and the array of their product. -/
def x : FVec Ideal S16384x8192 .bf16 := m ((c.tc : Thread nD τ).loc main_arg0)
def w : FVec Ideal S8192x4096 .f32 := m ((c.tc : Thread nD τ).loc main_arg1)
def G : FVec Ideal S16384x4096 .f32 := fun i => Cert.Gdn.prodE (x m c) (w m c) (i 0) (i 1)

theorem idx : ∀ t : Fin cfg0.N, win0_0.index t = ![t.val % 32, 0] ∧ win0_1.index t = ![0, t.val / 32] ∧ win0_2.index t = ![t.val % 32, t.val / 32] :=
  (by decide +kernel : ∀ t : Fin grid0.N, _)

theorem hN (t : Fin cfg0.N) : t.val < 256 := lt_of_lt_of_eq t.isLt N_0

theorem x_in (t : Fin cfg0.N) (i : Fin 512) (k : Fin 8192) : iblk m c 0 t (ix2 i k) = x m c (ix2 ⟨t.val % 32 * 512 + i.val, by omega⟩ k) := by
  have := hN t
  unfold x
  blk_ext [iblk, V, idx t]
theorem w_in (t : Fin cfg0.N) (k : Fin 8192) (j : Fin 512) : iblk m c 1 t (ix2 k j) = w m c (ix2 k ⟨t.val / 32 * 512 + j.val, by have := hN t; omega⟩) := by
  have := hN t
  unfold w
  refine Eq.trans (?_ : _ = (V m c main_v0 : FVec Ideal S8192x4096 .bf16) (ix2 k ⟨t.val / 32 * 512 + j.val, by omega⟩)) ?_
  · blk_ext [iblk, idx t]
  · unfold V
    entry_read
    pointwise

theorem pay_apply (a : FVec Ideal S512x8192 .bf16) (b : FVec Ideal S8192x512 .bf16) (i j : Fin 512) :
    k0_pay1 (F := Ideal) a b (ix2 i j) = Cert.Gdn.prodE a b i j := by
  pointwise [k0_pay1, Cert.Gdn.prodE]

theorem out_at (t : Fin cfg0.N) (i j : Fin 512) : ((View.whole main_v1).slice (win0_2.rect t)).emb (ix2 i j)
    = (ix2 (n0 := 16384) (n1 := 4096) ⟨t.val % 32 * 512 + i.val, by omega⟩ ⟨t.val / 32 * 512 + j.val, by have := hN t; omega⟩) := by
  have := hN t
  blk_ext [idx t]

/-- The kernel's array is the product. -/
theorem array : (dats m 0 c).arrAt 2 cfg0.N = G m c := by
  refine (dats m 0 c).arrAt_eq_of_covers 2 _ (by decide +kernel) fun t hf y => ?_
  blk_simp
  rw [after0_2]
  frame_out
  obtain ⟨i, j, rfl⟩ : ∃ (i j : Fin 512), y = ix2 i j := ⟨y 0, y 1, eq_ix2 y⟩
  rw [out_at]
  exact (pay_apply _ _ i j).trans (Cert.Gdn.prodE_block (x_in m c t i) (fun k => w_in m c t k j))

/-- The reference's array is the product. -/
theorem ref_array (x' : FVec Ideal S16384x8192 .bf16) (w' : FVec Ideal S8192x4096 .f32) (h0 : x' = x m c) (h1 : w' = w m c) :
    (Host.dotGeneral (F := Ideal) Cert.GdnOutRefIdeal.dot_S16384x8192_S8192x4096_S16384x4096_1_0_0_1_n_n none
      (extf (F := Ideal) .f32 x' Cert.GdnOutRefIdeal.Gen.bitsLt_bf16_f32) w' : FVec Ideal S16384x4096 .f32) = G m c := by
  rw [h0, h1]
  funext y
  idx_vars y
  pointwise [G, Cert.Gdn.prodE]

theorem algebraic : Cert.algebraic_GdnOutIdeal_GdnOutRefIdeal := fun m ρ m' ρ' _ he =>
  ⟨fun c => G m c, (θ_run _ _ _).mono (fun _ h c => ⟨(h c).1.trans (array m c), (h c).2⟩) (run_blocks m ρ),
    (θ_run _ _ _).mono (fun _ h c => ⟨(h c).1.trans (ref_array m c _ _ (he c).1 (he c).2), (h c).2⟩) (Cert.GdnOutRefIdeal.Value.run m' ρ')⟩

/-- The reference ends quiescent with its arguments as they were. -/
theorem ref_frame : Cert.quiescent_GdnOutRefIdeal := fun m ρ _ =>
  (θ_run _ _ _).mono (fun r h => ⟨fun c => (h c).2, sem_eq_zero_of_no_sems (by decide) r.2⟩) (Cert.GdnOutRefIdeal.Value.run m ρ)

end Cert.GdnOutValue

end
-- ==== Proof.HgrnOut.lean ====
module

public import proofs.«01_k».proof.Proof.Gen.HgrnOutIdeal.Value
public import proofs.«01_k».proof.Proof.Gen.HgrnOutRefIdeal.Run
public import proofs.«01_k».proof.Proof.Product
public import proofs.«01_k».proof.Defs
public import Idealize.ShloMosaic.Adequacy
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.HgrnOutValue

open Idealize.ShloMosaic Idealize.ShloMosaic.TcCoe Idealize.ShloMosaic.Tactic Cert.HgrnOutIdeal Cert.HgrnOutIdeal.Gen Cert.HgrnOutIdeal.Value Idealize.SL.Sem

variable (m : (ℓ : Loc nD τ sig) → Buf (Elt Ideal) ℓ) (c : Dev nD)

/-- The two arguments, and the array of their product. -/
def x : FVec Ideal S16384x4096 .bf16 := m ((c.tc : Thread nD τ).loc main_arg0)
def w : FVec Ideal S4096x4096 .f32 := m ((c.tc : Thread nD τ).loc main_arg1)
def G : FVec Ideal S16384x4096 .f32 := fun i => Cert.Gdn.prodE (x m c) (w m c) (i 0) (i 1)

theorem idx : ∀ t : Fin cfg0.N, win0_0.index t = ![t.val % 16, 0] ∧ win0_1.index t = ![0, t.val / 16] ∧ win0_2.index t = ![t.val % 16, t.val / 16] :=
  (by decide +kernel : ∀ t : Fin grid0.N, _)

theorem hN (t : Fin cfg0.N) : t.val < 64 := lt_of_lt_of_eq t.isLt N_0

theorem x_in (t : Fin cfg0.N) (i : Fin 1024) (k : Fin 4096) : iblk m c 0 t (ix2 i k) = x m c (ix2 ⟨t.val % 16 * 1024 + i.val, by omega⟩ k) := by
  have := hN t
  unfold x
  blk_ext [iblk, V, idx t]
theorem w_in (t : Fin cfg0.N) (k : Fin 4096) (j : Fin 1024) : iblk m c 1 t (ix2 k j) = w m c (ix2 k ⟨t.val / 16 * 1024 + j.val, by have := hN t; omega⟩) := by
  have := hN t
  unfold w
  refine Eq.trans (?_ : _ = (V m c main_v0 : FVec Ideal S4096x4096 .bf16) (ix2 k ⟨t.val / 16 * 1024 + j.val, by omega⟩)) ?_
  · blk_ext [iblk, idx t]
  · unfold V
    entry_read
    pointwise

theorem pay_apply (a : FVec Ideal S1024x4096 .bf16) (b : FVec Ideal S4096x1024 .bf16) (i j : Fin 1024) :
    k0_pay1 (F := Ideal) a b (ix2 i j) = Cert.Gdn.prodE a b i j := by
  pointwise [k0_pay1, Cert.Gdn.prodE]

theorem out_at (t : Fin cfg0.N) (i j : Fin 1024) : ((View.whole main_v1).slice (win0_2.rect t)).emb (ix2 i j)
    = (ix2 (n0 := 16384) (n1 := 4096) ⟨t.val % 16 * 1024 + i.val, by omega⟩ ⟨t.val / 16 * 1024 + j.val, by have := hN t; omega⟩) := by
  have := hN t
  blk_ext [idx t]

/-- The kernel's array is the product. -/
theorem array : (dats m 0 c).arrAt 2 cfg0.N = G m c := by
  refine (dats m 0 c).arrAt_eq_of_covers 2 _ (by decide +kernel) fun t hf y => ?_
  blk_simp
  rw [after0_2]
  frame_out
  obtain ⟨i, j, rfl⟩ : ∃ (i j : Fin 1024), y = ix2 i j := ⟨y 0, y 1, eq_ix2 y⟩
  rw [out_at]
  exact (pay_apply _ _ i j).trans (Cert.Gdn.prodE_block (x_in m c t i) (fun k => w_in m c t k j))

/-- The reference's array is the product. -/
theorem ref_array (x' : FVec Ideal S16384x4096 .bf16) (w' : FVec Ideal S4096x4096 .f32) (h0 : x' = x m c) (h1 : w' = w m c) :
    (Host.dotGeneral (F := Ideal) Cert.HgrnOutRefIdeal.dot_S16384x4096_S4096x4096_S16384x4096_1_0_0_1_n_n none
      (extf (F := Ideal) .f32 x' Cert.HgrnOutRefIdeal.Gen.bitsLt_bf16_f32) w' : FVec Ideal S16384x4096 .f32) = G m c := by
  rw [h0, h1]
  funext y
  idx_vars y
  pointwise [G, Cert.Gdn.prodE]

theorem algebraic : Cert.algebraic_HgrnOutIdeal_HgrnOutRefIdeal := fun m ρ m' ρ' _ he =>
  ⟨fun c => G m c, (θ_run _ _ _).mono (fun _ h c => ⟨(h c).1.trans (array m c), (h c).2⟩) (run_blocks m ρ),
    (θ_run _ _ _).mono (fun _ h c => ⟨(h c).1.trans (ref_array m c _ _ (he c).1 (he c).2), (h c).2⟩) (Cert.HgrnOutRefIdeal.Value.run m' ρ')⟩

/-- The reference ends quiescent with its arguments as they were. -/
theorem ref_frame : Cert.quiescent_HgrnOutRefIdeal := fun m ρ _ =>
  (θ_run _ _ _).mono (fun r h => ⟨fun c => (h c).2, sem_eq_zero_of_no_sems (by decide) r.2⟩) (Cert.HgrnOutRefIdeal.Value.run m ρ)

end Cert.HgrnOutValue

end
-- ==== Proof.HgrnIn.lean ====
module

public import proofs.«01_k».proof.Proof.Gen.HgrnInIdeal.Value
public import proofs.«01_k».proof.Proof.Gen.HgrnInRefIdeal.Run
public import proofs.«01_k».proof.Proof.Product
public import proofs.«01_k».proof.Defs
public import Idealize.ShloMosaic.Adequacy
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.HgrnInValue

open Idealize.ShloMosaic Idealize.ShloMosaic.TcCoe Idealize.ShloMosaic.Tactic Cert.HgrnInIdeal Cert.HgrnInIdeal.Gen Cert.HgrnInIdeal.Value Idealize.SL.Sem

variable (m : (ℓ : Loc nD τ sig) → Buf (Elt Ideal) ℓ) (c : Dev nD)

/-- The two arguments, and the array of their product. -/
def x : FVec Ideal S16384x4096 .bf16 := m ((c.tc : Thread nD τ).loc main_arg0)
def w : FVec Ideal S4096x16384 .f32 := m ((c.tc : Thread nD τ).loc main_arg1)
def G : FVec Ideal S16384x16384 .f32 := fun i => Cert.Gdn.prodE (x m c) (w m c) (i 0) (i 1)

theorem idx : ∀ t : Fin cfg0.N, win0_0.index t = ![t.val % 16, 0] ∧ win0_1.index t = ![0, t.val / 16] ∧ win0_2.index t = ![t.val % 16, t.val / 16] :=
  (by decide +kernel : ∀ t : Fin grid0.N, _)

theorem hN (t : Fin cfg0.N) : t.val < 256 := lt_of_lt_of_eq t.isLt N_0

theorem x_in (t : Fin cfg0.N) (i : Fin 1024) (k : Fin 4096) : iblk m c 0 t (ix2 i k) = x m c (ix2 ⟨t.val % 16 * 1024 + i.val, by omega⟩ k) := by
  have := hN t
  unfold x
  blk_ext [iblk, V, idx t]
theorem w_in (t : Fin cfg0.N) (k : Fin 4096) (j : Fin 1024) : iblk m c 1 t (ix2 k j) = w m c (ix2 k ⟨t.val / 16 * 1024 + j.val, by have := hN t; omega⟩) := by
  have := hN t
  unfold w
  refine Eq.trans (?_ : _ = (V m c main_v0 : FVec Ideal S4096x16384 .bf16) (ix2 k ⟨t.val / 16 * 1024 + j.val, by omega⟩)) ?_
  · blk_ext [iblk, idx t]
  · unfold V
    entry_read
    pointwise

theorem pay_apply (a : FVec Ideal S1024x4096 .bf16) (b : FVec Ideal S4096x1024 .bf16) (i j : Fin 1024) :
    k0_pay1 (F := Ideal) a b (ix2 i j) = Cert.Gdn.prodE a b i j := by
  pointwise [k0_pay1, Cert.Gdn.prodE]

theorem out_at (t : Fin cfg0.N) (i j : Fin 1024) : ((View.whole main_v1).slice (win0_2.rect t)).emb (ix2 i j)
    = (ix2 (n0 := 16384) (n1 := 16384) ⟨t.val % 16 * 1024 + i.val, by omega⟩ ⟨t.val / 16 * 1024 + j.val, by have := hN t; omega⟩) := by
  have := hN t
  blk_ext [idx t]

/-- The kernel's array is the product. -/
theorem array : (dats m 0 c).arrAt 2 cfg0.N = G m c := by
  refine (dats m 0 c).arrAt_eq_of_covers 2 _ (by decide +kernel) fun t hf y => ?_
  blk_simp
  rw [after0_2]
  frame_out
  obtain ⟨i, j, rfl⟩ : ∃ (i j : Fin 1024), y = ix2 i j := ⟨y 0, y 1, eq_ix2 y⟩
  rw [out_at]
  exact (pay_apply _ _ i j).trans (Cert.Gdn.prodE_block (x_in m c t i) (fun k => w_in m c t k j))

/-- The reference's array is the product. -/
theorem ref_array (x' : FVec Ideal S16384x4096 .bf16) (w' : FVec Ideal S4096x16384 .f32) (h0 : x' = x m c) (h1 : w' = w m c) :
    (Host.dotGeneral (F := Ideal) Cert.HgrnInRefIdeal.dot_S16384x4096_S4096x16384_S16384x16384_1_0_0_1_n_n none
      (extf (F := Ideal) .f32 x' Cert.HgrnInRefIdeal.Gen.bitsLt_bf16_f32) w' : FVec Ideal S16384x16384 .f32) = G m c := by
  rw [h0, h1]
  funext y
  idx_vars y
  pointwise [G, Cert.Gdn.prodE]

theorem algebraic : Cert.algebraic_HgrnInIdeal_HgrnInRefIdeal := fun m ρ m' ρ' _ he =>
  ⟨fun c => G m c, (θ_run _ _ _).mono (fun _ h c => ⟨(h c).1.trans (array m c), (h c).2⟩) (run_blocks m ρ),
    (θ_run _ _ _).mono (fun _ h c => ⟨(h c).1.trans (ref_array m c _ _ (he c).1 (he c).2), (h c).2⟩) (Cert.HgrnInRefIdeal.Value.run m' ρ')⟩

/-- The reference ends quiescent with its arguments as they were. -/
theorem ref_frame : Cert.quiescent_HgrnInRefIdeal := fun m ρ _ =>
  (θ_run _ _ _).mono (fun r h => ⟨fun c => (h c).2, sem_eq_zero_of_no_sems (by decide) r.2⟩) (Cert.HgrnInRefIdeal.Value.run m ρ)

end Cert.HgrnInValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.HgrnIn
public import proofs.«01_k».proof.Proof.Gen.HgrnIn.Skeleton
public import proofs.«01_k».proof.Proof.Gen.HgrnIn.Launch
public import proofs.«01_k».proof.Proof.Gen.HgrnIn.Points
public import proofs.«01_k».proof.Proof.Gen.HgrnIn.Frame
public import proofs.«01_k».proof.Proof.Gen.HgrnInIdeal
public import proofs.«01_k».proof.Proof.Gen.HgrnInIdeal.Skeleton
public import proofs.«01_k».proof.Proof.Gen.HgrnInIdeal.Launch
public import proofs.«01_k».proof.Proof.Gen.HgrnInIdeal.Points
public import proofs.«01_k».proof.Proof.Gen.HgrnInIdeal.Frame
public import proofs.«01_k».proof.Proof.Gen.HgrnInIdeal.Value
public import proofs.«01_k».proof.Proof.Gen.HgrnInRefIdeal
public import proofs.«01_k».proof.Proof.Gen.HgrnInRefIdeal.Run
public import proofs.«01_k».proof.Proof.Gen.HgrnOut
public import proofs.«01_k».proof.Proof.Gen.HgrnOut.Skeleton
public import proofs.«01_k».proof.Proof.Gen.HgrnOut.Launch
public import proofs.«01_k».proof.Proof.Gen.HgrnOut.Points
public import proofs.«01_k».proof.Proof.Gen.HgrnOut.Frame
public import proofs.«01_k».proof.Proof.Gen.HgrnOutIdeal
public import proofs.«01_k».proof.Proof.Gen.HgrnOutIdeal.Skeleton
public import proofs.«01_k».proof.Proof.Gen.HgrnOutIdeal.Launch
public import proofs.«01_k».proof.Proof.Gen.HgrnOutIdeal.Points
public import proofs.«01_k».proof.Proof.Gen.HgrnOutIdeal.Frame
public import proofs.«01_k».proof.Proof.Gen.HgrnOutIdeal.Value
public import proofs.«01_k».proof.Proof.Gen.HgrnOutRefIdeal
public import proofs.«01_k».proof.Proof.Gen.HgrnOutRefIdeal.Run
public import proofs.«01_k».proof.Proof.Gen.GdnOut
public import proofs.«01_k».proof.Proof.Gen.GdnOut.Skeleton
public import proofs.«01_k».proof.Proof.Gen.GdnOut.Launch
public import proofs.«01_k».proof.Proof.Gen.GdnOut.Points
public import proofs.«01_k».proof.Proof.Gen.GdnOut.Frame
public import proofs.«01_k».proof.Proof.Gen.GdnOutIdeal
public import proofs.«01_k».proof.Proof.Gen.GdnOutIdeal.Skeleton
public import proofs.«01_k».proof.Proof.Gen.GdnOutIdeal.Launch
public import proofs.«01_k».proof.Proof.Gen.GdnOutIdeal.Points
public import proofs.«01_k».proof.Proof.Gen.GdnOutIdeal.Frame
public import proofs.«01_k».proof.Proof.Gen.GdnOutIdeal.Value
public import proofs.«01_k».proof.Proof.Gen.GdnOutRefIdeal
public import proofs.«01_k».proof.Proof.Gen.GdnOutRefIdeal.Run
public import proofs.«01_k».proof.Proof.Gen.GdnZ
public import proofs.«01_k».proof.Proof.Gen.GdnZ.Skeleton
public import proofs.«01_k».proof.Proof.Gen.GdnZ.Launch
public import proofs.«01_k».proof.Proof.Gen.GdnZ.Points
public import proofs.«01_k».proof.Proof.Gen.GdnZ.Frame
public import proofs.«01_k».proof.Proof.Gen.GdnZIdeal
public import proofs.«01_k».proof.Proof.Gen.GdnZIdeal.Skeleton
public import proofs.«01_k».proof.Proof.Gen.GdnZIdeal.Launch
public import proofs.«01_k».proof.Proof.Gen.GdnZIdeal.Points
public import proofs.«01_k».proof.Proof.Gen.GdnZIdeal.Frame
public import proofs.«01_k».proof.Proof.Gen.GdnZIdeal.Value
public import proofs.«01_k».proof.Proof.Gen.GdnZRefIdeal
public import proofs.«01_k».proof.Proof.Gen.GdnZRefIdeal.Run
public import proofs.«01_k».proof.Proof.Gen.GdnV
public import proofs.«01_k».proof.Proof.Gen.GdnV.Skeleton
public import proofs.«01_k».proof.Proof.Gen.GdnV.Launch
public import proofs.«01_k».proof.Proof.Gen.GdnV.Points
public import proofs.«01_k».proof.Proof.Gen.GdnV.Frame
public import proofs.«01_k».proof.Proof.Gen.GdnVIdeal
public import proofs.«01_k».proof.Proof.Gen.GdnVIdeal.Skeleton
public import proofs.«01_k».proof.Proof.Gen.GdnVIdeal.Launch
public import proofs.«01_k».proof.Proof.Gen.GdnVIdeal.Points
public import proofs.«01_k».proof.Proof.Gen.GdnVIdeal.Frame
public import proofs.«01_k».proof.Proof.Gen.GdnVIdeal.Value
public import proofs.«01_k».proof.Proof.Gen.GdnVRefIdeal
public import proofs.«01_k».proof.Proof.Gen.GdnVRefIdeal.Run
public import proofs.«01_k».proof.Proof.Gen.GdnQk
public import proofs.«01_k».proof.Proof.Gen.GdnQk.Skeleton
public import proofs.«01_k».proof.Proof.Gen.GdnQk.Launch
public import proofs.«01_k».proof.Proof.Gen.GdnQk.Points
public import proofs.«01_k».proof.Proof.Gen.GdnQk.Frame
public import proofs.«01_k».proof.Proof.Gen.GdnQkIdeal
public import proofs.«01_k».proof.Proof.Gen.GdnQkIdeal.Skeleton
public import proofs.«01_k».proof.Proof.Gen.GdnQkIdeal.Launch
public import proofs.«01_k».proof.Proof.Gen.GdnQkIdeal.Points
public import proofs.«01_k».proof.Proof.Gen.GdnQkIdeal.Frame
public import proofs.«01_k».proof.Proof.Gen.GdnQkIdeal.Value
public import proofs.«01_k».proof.Proof.Gen.GdnQkRefIdeal
public import proofs.«01_k».proof.Proof.Gen.GdnQkRefIdeal.Run
public import proofs.«01_k».proof.Proof.Gen.GdnGate
public import proofs.«01_k».proof.Proof.Gen.GdnGate.Skeleton
public import proofs.«01_k».proof.Proof.Gen.GdnGate.Launch
public import proofs.«01_k».proof.Proof.Gen.GdnGate.Points
public import proofs.«01_k».proof.Proof.Gen.GdnGate.Frame
public import proofs.«01_k».proof.Proof.Gen.GdnGateIdeal
public import proofs.«01_k».proof.Proof.Gen.GdnGateIdeal.Skeleton
public import proofs.«01_k».proof.Proof.Gen.GdnGateIdeal.Launch
public import proofs.«01_k».proof.Proof.Gen.GdnGateIdeal.Points
public import proofs.«01_k».proof.Proof.Gen.GdnGateIdeal.Frame
public import proofs.«01_k».proof.Proof.Gen.GdnGateIdeal.Value
public import proofs.«01_k».proof.Proof.Gen.GdnGateRefIdeal
public import proofs.«01_k».proof.Proof.Gen.GdnGateRefIdeal.Run
public import proofs.«01_k».proof.Proof.Gen.Hgrn
public import proofs.«01_k».proof.Proof.Gen.Hgrn.Skeleton
public import proofs.«01_k».proof.Proof.Gen.Hgrn.Launch
public import proofs.«01_k».proof.Proof.Gen.Hgrn.Points
public import proofs.«01_k».proof.Proof.Gen.Hgrn.Frame
public import proofs.«01_k».proof.Proof.Gen.HgrnIdeal
public import proofs.«01_k».proof.Proof.Gen.HgrnIdeal.Skeleton
public import proofs.«01_k».proof.Proof.Gen.HgrnIdeal.Launch
public import proofs.«01_k».proof.Proof.Gen.HgrnIdeal.Points
public import proofs.«01_k».proof.Proof.Gen.HgrnIdeal.Frame
public import proofs.«01_k».proof.Proof.Gen.HgrnIdeal.Value
public import proofs.«01_k».proof.Proof.Gen.HgrnRefIdeal
public import proofs.«01_k».proof.Proof.Gen.HgrnRefIdeal.Run
public import proofs.«01_k».proof.Proof.Gen.Pre_finite
public import proofs.«01_k».proof.Proof.Gen.Pre_hgrn_finite
public import proofs.«01_k».proof.Proof.Results
public import proofs.«01_k».proof.Proof.HgrnResults
public import proofs.«01_k».proof.Proof.GdnZ
public import proofs.«01_k».proof.Proof.GdnV
public import proofs.«01_k».proof.Proof.GdnQk
public import proofs.«01_k».proof.Proof.GdnGate
public import proofs.«01_k».proof.Proof.GdnOut
public import proofs.«01_k».proof.Proof.HgrnOut
public import proofs.«01_k».proof.Proof.HgrnIn
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.HgrnIn.Gen.facts, Cert.HgrnInIdeal.Gen.facts, Cert.HgrnInRefIdeal.Gen.facts,
  Cert.HgrnOut.Gen.facts, Cert.HgrnOutIdeal.Gen.facts, Cert.HgrnOutRefIdeal.Gen.facts,
  Cert.GdnOut.Gen.facts, Cert.GdnOutIdeal.Gen.facts, Cert.GdnOutRefIdeal.Gen.facts,
  Cert.GdnZ.Gen.facts, Cert.GdnZIdeal.Gen.facts, Cert.GdnZRefIdeal.Gen.facts,
  Cert.GdnV.Gen.facts, Cert.GdnVIdeal.Gen.facts, Cert.GdnVRefIdeal.Gen.facts,
  Cert.GdnQk.Gen.facts, Cert.GdnQkIdeal.Gen.facts, Cert.GdnQkRefIdeal.Gen.facts,
  Cert.GdnGate.Gen.facts, Cert.GdnGateIdeal.Gen.facts, Cert.GdnGateRefIdeal.Gen.facts,
  Cert.Hgrn.Gen.facts, Cert.HgrnIdeal.Gen.facts, Cert.HgrnRefIdeal.Gen.facts,
  Cert.Pre_finite.Gen.facts, Cert.Pre_hgrn_finite.Gen.facts,
  fun m ρ _ => Cert.Kernel.Gen.frame m ρ, fun m ρ _ => Cert.KernelIdeal.Gen.frame m ρ, fun m ρ _ => Cert.KernelIdeal.Gen.frame m ρ,
  fun m ρ _ => (θ_run _ _ _).mono (fun r h => ⟨fun c => (h c).2, sem_eq_zero_of_no_sems (by decide) r.2⟩) (Cert.ReferenceIdeal.Value.run m ρ),
  fun m ρ _ => (θ_run _ _ _).mono (fun r h => ⟨fun c => (h c).2, sem_eq_zero_of_no_sems (by decide) r.2⟩) (Cert.ReferenceIdeal.Value.run m ρ),
  fun m ρ _ => Cert.HgrnIn.Gen.frame m ρ, fun m ρ _ => Cert.HgrnInIdeal.Gen.frame m ρ, Cert.HgrnInValue.ref_frame,
  fun m ρ _ => Cert.HgrnOut.Gen.frame m ρ, fun m ρ _ => Cert.HgrnOutIdeal.Gen.frame m ρ, Cert.HgrnOutValue.ref_frame,
  fun m ρ _ => Cert.GdnOut.Gen.frame m ρ, fun m ρ _ => Cert.GdnOutIdeal.Gen.frame m ρ, Cert.GdnOutValue.ref_frame,
  fun m ρ _ => Cert.GdnZ.Gen.frame m ρ, fun m ρ _ => Cert.GdnZIdeal.Gen.frame m ρ, Cert.GdnZValue.ref_frame,
  fun m ρ _ => Cert.GdnV.Gen.frame m ρ, fun m ρ _ => Cert.GdnVIdeal.Gen.frame m ρ,
  fun m ρ _ => (θ_run _ _ _).mono (fun r h => ⟨fun c => (h c).2, sem_eq_zero_of_no_sems (by decide) r.2⟩) (Cert.GdnVRefIdeal.Value.run m ρ),
  fun m ρ _ => Cert.GdnQk.Gen.frame m ρ, fun m ρ _ => Cert.GdnQkIdeal.Gen.frame m ρ,
  fun m ρ _ => (θ_run _ _ _).mono (fun r h => ⟨fun c => (h c).2, sem_eq_zero_of_no_sems (by decide) r.2⟩) (Cert.GdnQkRefIdeal.Value.run m ρ),
  fun m ρ _ => Cert.GdnGate.Gen.frame m ρ, fun m ρ _ => Cert.GdnGateIdeal.Gen.frame m ρ, Cert.GdnGateValue.ref_frame,
  fun m ρ _ => Cert.Hgrn.Gen.frame m ρ, fun m ρ _ => Cert.HgrnIdeal.Gen.frame m ρ, fun m ρ _ => Cert.HgrnIdeal.Gen.frame m ρ,
  fun m ρ _ => (θ_run _ _ _).mono (fun r h => ⟨fun c => (h c).2, sem_eq_zero_of_no_sems (by decide) r.2⟩) (Cert.HgrnRefIdeal.Value.run m ρ),
  fun m ρ _ => (θ_run _ _ _).mono (fun r h => ⟨fun c => (h c).2, sem_eq_zero_of_no_sems (by decide) r.2⟩) (Cert.HgrnRefIdeal.Value.run m ρ),
  trivial,
  fun m ρ m' ρ' hf he => ⟨fun c => Cert.KernelIdeal.Value.G8 m c, Cert.KernelIdeal.Value.run m ρ,
    (θ_run _ _ _).mono (fun r h c => ⟨(h c).1.trans (Cert.Gdn.results m m' c hf (he c)), (h c).2⟩)
      (Cert.ReferenceIdeal.Value.run m' ρ')⟩,
  trivial, Cert.HgrnInValue.algebraic, trivial, Cert.HgrnOutValue.algebraic, trivial, Cert.GdnOutValue.algebraic, trivial, Cert.GdnZValue.algebraic,
  trivial, Cert.GdnVValue.algebraic, trivial, Cert.GdnQkValue.algebraic, trivial, Cert.GdnGateValue.algebraic,
  IdealRules.named_const.statement Cert.HgrnIdeal.κ "log2_e" .f32 0x3FB8AA3B#32 (((Real.log 2)⁻¹ : ℝ) : EReal) rfl,
  fun m ρ m' ρ' hf he => ⟨fun c => Cert.HgrnIdeal.Value.G6 m c, Cert.HgrnIdeal.Value.run m ρ,
    (θ_run _ _ _).mono (fun r h c => ⟨(h c).1.trans (Cert.HgrnValue.results m m' c hf (he c)), (h c).2⟩)
      (Cert.HgrnRefIdeal.Value.run m' ρ')⟩⟩

end Cert.Proof

end
